-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x10240x32x96 : Shape := ⟨4, ![4, 10240, 32, 96]⟩
abbrev S4x32 : Shape := ⟨2, ![4, 32]⟩
abbrev S4x10240x8x96 : Shape := ⟨4, ![4, 10240, 8, 96]⟩
abbrev S4x8 : Shape := ⟨2, ![4, 8]⟩
abbrev S4x8x4 : Shape := ⟨3, ![4, 8, 4]⟩
abbrev S4x8x1 : Shape := ⟨3, ![4, 8, 1]⟩
abbrev S_ : Shape := ⟨0, ![]⟩
abbrev S32x1x4 : Shape := ⟨3, ![32, 1, 4]⟩
abbrev S32x1x4x64 : Shape := ⟨4, ![32, 1, 4, 64]⟩
abbrev S32x1x256 : Shape := ⟨3, ![32, 1, 256]⟩
abbrev S4x160x64x8x4x96 : Shape := ⟨6, ![4, 160, 64, 8, 4, 96]⟩
abbrev S4x8x160x4x64x96 : Shape := ⟨6, ![4, 8, 160, 4, 64, 96]⟩
abbrev S32x40960x96 : Shape := ⟨3, ![32, 40960, 96]⟩
abbrev S4x8x10240x96 : Shape := ⟨4, ![4, 8, 10240, 96]⟩
abbrev S32x10240x96 : Shape := ⟨3, ![32, 10240, 96]⟩
abbrev S32x160x160 : Shape := ⟨3, ![32, 160, 160]⟩
abbrev S32x4x10240 : Shape := ⟨3, ![32, 4, 10240]⟩
abbrev S1x1x256 : Shape := ⟨3, ![1, 1, 256]⟩
abbrev S1x1024x96 : Shape := ⟨3, ![1, 1024, 96]⟩
abbrev S1x10240x96 : Shape := ⟨3, ![1, 10240, 96]⟩
abbrev S1x160x160 : Shape := ⟨3, ![1, 160, 160]⟩
abbrev S1x4x256 : Shape := ⟨3, ![1, 4, 256]⟩
abbrev S10240x128 : Shape := ⟨2, ![10240, 128]⟩
abbrev S8x128 : Shape := ⟨2, ![8, 128]⟩
abbrev S256x256 : Shape := ⟨2, ![256, 256]⟩
abbrev S1x1x128 : Shape := ⟨3, ![1, 1, 128]⟩
abbrev S1x128 : Shape := ⟨2, ![1, 128]⟩
abbrev S1x256x96 : Shape := ⟨3, ![1, 256, 96]⟩
abbrev S256x96 : Shape := ⟨2, ![256, 96]⟩
abbrev S256x32 : Shape := ⟨2, ![256, 32]⟩
abbrev S256x128 : Shape := ⟨2, ![256, 128]⟩
abbrev S1x64x96 : Shape := ⟨3, ![1, 64, 96]⟩
abbrev S64x96 : Shape := ⟨2, ![64, 96]⟩
abbrev S64x32 : Shape := ⟨2, ![64, 32]⟩
abbrev S64x128 : Shape := ⟨2, ![64, 128]⟩
abbrev S64x256 : Shape := ⟨2, ![64, 256]⟩
abbrev S1x128x96 : Shape := ⟨3, ![1, 128, 96]⟩
abbrev S128x96 : Shape := ⟨2, ![128, 96]⟩
abbrev S128x32 : Shape := ⟨2, ![128, 32]⟩
abbrev S128x128 : Shape := ⟨2, ![128, 128]⟩
abbrev S128x256 : Shape := ⟨2, ![128, 256]⟩
abbrev S1x192x96 : Shape := ⟨3, ![1, 192, 96]⟩
abbrev S192x96 : Shape := ⟨2, ![192, 96]⟩
abbrev S192x32 : Shape := ⟨2, ![192, 32]⟩
abbrev S192x128 : Shape := ⟨2, ![192, 128]⟩
abbrev S192x256 : Shape := ⟨2, ![192, 256]⟩
abbrev S128 : Shape := ⟨1, ![128]⟩
abbrev S1x8x128 : Shape := ⟨3, ![1, 8, 128]⟩
abbrev S1 : Shape := ⟨1, ![1]⟩
abbrev S1x1x1 : Shape := ⟨3, ![1, 1, 1]⟩
abbrev S1x256 : Shape := ⟨2, ![1, 256]⟩
abbrev S1x64 : Shape := ⟨2, ![1, 64]⟩
abbrev S8 : Shape := ⟨1, ![8]⟩
abbrev S8x1 : Shape := ⟨2, ![8, 1]⟩
abbrev S256 : Shape := ⟨1, ![256]⟩
abbrev S160x160 : Shape := ⟨2, ![160, 160]⟩
abbrev S4x8x160x160 : Shape := ⟨4, ![4, 8, 160, 160]⟩
abbrev S4x32x10240 : Shape := ⟨3, ![4, 32, 10240]⟩

abbrev nBuf : Space → Nat
  | .hbm => 23
  | .vmem => 13
  | .smem => 0
  | _ => 0

abbrev bufTy : (tb : Table) → Fin (tcTables nBuf tb) → BufTy
  | .hbm, ⟨0, _⟩ => ⟨S4x10240x32x96, .fp8e4m3⟩
  | .hbm, ⟨1, _⟩ => ⟨S4x32, .f32⟩
  | .hbm, ⟨2, _⟩ => ⟨S4x10240x8x96, .fp8e4m3⟩
  | .hbm, ⟨3, _⟩ => ⟨S4x8, .f32⟩
  | .hbm, ⟨4, _⟩ => ⟨S4x8x4, .f32⟩
  | .hbm, ⟨5, _⟩ => ⟨S4x8x1, .f32⟩
  | .hbm, ⟨6, _⟩ => ⟨S4x8x4, .f32⟩
  | .hbm, ⟨7, _⟩ => ⟨S4x8x4, .f32⟩
  | .hbm, ⟨8, _⟩ => ⟨S_, .f32⟩
  | .hbm, ⟨9, _⟩ => ⟨S4x8x4, .f32⟩
  | .hbm, ⟨10, _⟩ => ⟨S4x8x4, .f32⟩
  | .hbm, ⟨11, _⟩ => ⟨S32x1x4, .f32⟩
  | .hbm, ⟨12, _⟩ => ⟨S32x1x4x64, .f32⟩
  | .hbm, ⟨13, _⟩ => ⟨S32x1x256, .f32⟩
  | .hbm, ⟨14, _⟩ => ⟨S4x160x64x8x4x96, .fp8e4m3⟩
  | .hbm, ⟨15, _⟩ => ⟨S4x8x160x4x64x96, .fp8e4m3⟩
  | .hbm, ⟨16, _⟩ => ⟨S32x40960x96, .fp8e4m3⟩
  | .hbm, ⟨17, _⟩ => ⟨S4x8x10240x96, .fp8e4m3⟩
  | .hbm, ⟨18, _⟩ => ⟨S32x10240x96, .fp8e4m3⟩
  | .hbm, ⟨19, _⟩ => ⟨S32x160x160, .f32⟩
  | .hbm, ⟨20, _⟩ => ⟨S32x4x10240, .f32⟩
  | .hbm, ⟨21, _⟩ => ⟨S4x8x160x160, .f32⟩
  | .hbm, ⟨22, _⟩ => ⟨S4x32x10240, .f32⟩
  | .local _ .vmem, ⟨0, _⟩ => ⟨S1x1x256, .f32⟩
  | .local _ .vmem, ⟨1, _⟩ => ⟨S1x1x256, .f32⟩
  | .local _ .vmem, ⟨2, _⟩ => ⟨S1x1024x96, .fp8e4m3⟩
  | .local _ .vmem, ⟨3, _⟩ => ⟨S1x1024x96, .fp8e4m3⟩
  | .local _ .vmem, ⟨4, _⟩ => ⟨S1x10240x96, .fp8e4m3⟩
  | .local _ .vmem, ⟨5, _⟩ => ⟨S1x10240x96, .fp8e4m3⟩
  | .local _ .vmem, ⟨6, _⟩ => ⟨S1x160x160, .f32⟩
  | .local _ .vmem, ⟨7, _⟩ => ⟨S1x160x160, .f32⟩
  | .local _ .vmem, ⟨8, _⟩ => ⟨S1x4x256, .f32⟩
  | .local _ .vmem, ⟨9, _⟩ => ⟨S1x4x256, .f32⟩
  | .local _ .vmem, ⟨10, _⟩ => ⟨S10240x128, .f32⟩
  | .local _ .vmem, ⟨11, _⟩ => ⟨S8x128, .f32⟩
  | .local _ .vmem, ⟨12, _⟩ => ⟨S256x256, .f32⟩
  | _, _ => ⟨S4x10240x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 40], ![false, false]⟩

@[reducible] def k0_t1_loop (i : grid0.Coords) : Scf.Loop 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_15 : BitVec 32 := 1#32
  ⟨c0_i32_14, v31, c1_i32_15⟩
def k0_mult1 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c256_i32_361 : BitVec 32 := 256#32
  let v1525 : BitVec 32 := Scalar.muli arg10 c256_i32_361
  v1525
def k0_off1 (i : grid0.Coords) (k0_t1 : Fin (k0_t1_loop i).trips) : Fin 3 → Nat :=
  let c0_362 : Index := 0#32
  let c0_i32_14 : BitVec 32 := 0#32
  let c1_i32_15 : BitVec 32 := 1#32
  let arg10 : BitVec 32 := Scf.iv c0_i32_14 c1_i32_15 k0_t1
  let c256_i32_361 : BitVec 32 := 256#32
  let v1525 : BitVec 32 := Scalar.muli arg10 c256_i32_361
  let v1526 : BitVec 32 := v1525
  let v1527 : Index := Scalar.indexCast v1526
  let c0_363 : Index := 0#32
  ![0, v1527.toNat, 0]
def k0_mult2 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_370 : BitVec 32 := 4#32
  let v1537 : BitVec 32 := Scalar.muli arg10 c4_i32_370
  let c0_i32_371 : BitVec 32 := 0#32
  let v1538 : BitVec 32 := Scalar.addi v1537 c0_i32_371
  let c8_i32_372 : BitVec 32 := 8#32
  let v1555 : BitVec 32 := Scalar.muli v1538 c8_i32_372
  v1555
def k0_off2 (i : grid0.Coords) (k0_t1 : Fin (k0_t1_loop i).trips) (c0_i32_371 : BitVec 32) (c0_i32_373 : BitVec 32) : Fin 2 → Nat :=
  let c0_i32_14 : BitVec 32 := 0#32
  let c1_i32_15 : BitVec 32 := 1#32
  let arg10 : BitVec 32 := Scf.iv c0_i32_14 c1_i32_15 k0_t1
  let c4_i32_370 : BitVec 32 := 4#32
  let v1537 : BitVec 32 := Scalar.muli arg10 c4_i32_370
  let v1538 : BitVec 32 := Scalar.addi v1537 c0_i32_371
  let c8_i32_372 : BitVec 32 := 8#32
  let v1555 : BitVec 32 := Scalar.muli v1538 c8_i32_372
  let v1556 : BitVec 32 := v1555
  let v1557 : BitVec 32 := Scalar.addi v1556 c0_i32_373
  let v1565 : Index := Scalar.indexCast v1557
  let c0_374 : Index := 0#32
  ![v1565.toNat, 0]
def k0_mult3 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_375 : BitVec 32 := 4#32
  let v1585 : BitVec 32 := Scalar.muli arg10 c4_i32_375
  let c0_i32_376 : BitVec 32 := 0#32
  let v1586 : BitVec 32 := Scalar.addi v1585 c0_i32_376
  let c8_i32_377 : BitVec 32 := 8#32
  let v1603 : BitVec 32 := Scalar.muli v1586 c8_i32_377
  v1603
def k0_mult4 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_380 : BitVec 32 := 4#32
  let v1633 : BitVec 32 := Scalar.muli arg10 c4_i32_380
  let c1_i32_381 : BitVec 32 := 1#32
  let v1634 : BitVec 32 := Scalar.addi v1633 c1_i32_381
  let c8_i32_382 : BitVec 32 := 8#32
  let v1651 : BitVec 32 := Scalar.muli v1634 c8_i32_382
  v1651
def k0_mult5 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_385 : BitVec 32 := 4#32
  let v1681 : BitVec 32 := Scalar.muli arg10 c4_i32_385
  let c1_i32_386 : BitVec 32 := 1#32
  let v1682 : BitVec 32 := Scalar.addi v1681 c1_i32_386
  let c8_i32_387 : BitVec 32 := 8#32
  let v1699 : BitVec 32 := Scalar.muli v1682 c8_i32_387
  v1699
def k0_mult6 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_390 : BitVec 32 := 4#32
  let v1729 : BitVec 32 := Scalar.muli arg10 c4_i32_390
  let c2_i32_391 : BitVec 32 := 2#32
  let v1730 : BitVec 32 := Scalar.addi v1729 c2_i32_391
  let c8_i32_392 : BitVec 32 := 8#32
  let v1747 : BitVec 32 := Scalar.muli v1730 c8_i32_392
  v1747
def k0_mult7 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_395 : BitVec 32 := 4#32
  let v1777 : BitVec 32 := Scalar.muli arg10 c4_i32_395
  let c2_i32_396 : BitVec 32 := 2#32
  let v1778 : BitVec 32 := Scalar.addi v1777 c2_i32_396
  let c8_i32_397 : BitVec 32 := 8#32
  let v1795 : BitVec 32 := Scalar.muli v1778 c8_i32_397
  v1795
def k0_mult8 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_400 : BitVec 32 := 4#32
  let v1825 : BitVec 32 := Scalar.muli arg10 c4_i32_400
  let c3_i32_401 : BitVec 32 := 3#32
  let v1826 : BitVec 32 := Scalar.addi v1825 c3_i32_401
  let c8_i32_402 : BitVec 32 := 8#32
  let v1843 : BitVec 32 := Scalar.muli v1826 c8_i32_402
  v1843
def k0_mult9 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_405 : BitVec 32 := 4#32
  let v1873 : BitVec 32 := Scalar.muli arg10 c4_i32_405
  let c3_i32_406 : BitVec 32 := 3#32
  let v1874 : BitVec 32 := Scalar.addi v1873 c3_i32_406
  let c8_i32_407 : BitVec 32 := 8#32
  let v1891 : BitVec 32 := Scalar.muli v1874 c8_i32_407
  v1891
def k0_mult10 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_416 : BitVec 32 := 4#32
  let v1928 : BitVec 32 := Scalar.muli arg10 c4_i32_416
  let c0_i32_417 : BitVec 32 := 0#32
  let v1929 : BitVec 32 := Scalar.addi v1928 c0_i32_417
  let c8_i32_418 : BitVec 32 := 8#32
  let v1946 : BitVec 32 := Scalar.muli v1929 c8_i32_418
  v1946
def k0_mult11 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_421 : BitVec 32 := 4#32
  let v1976 : BitVec 32 := Scalar.muli arg10 c4_i32_421
  let c0_i32_422 : BitVec 32 := 0#32
  let v1977 : BitVec 32 := Scalar.addi v1976 c0_i32_422
  let c8_i32_423 : BitVec 32 := 8#32
  let v1994 : BitVec 32 := Scalar.muli v1977 c8_i32_423
  v1994
def k0_mult12 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_426 : BitVec 32 := 4#32
  let v2024 : BitVec 32 := Scalar.muli arg10 c4_i32_426
  let c1_i32_427 : BitVec 32 := 1#32
  let v2025 : BitVec 32 := Scalar.addi v2024 c1_i32_427
  let c8_i32_428 : BitVec 32 := 8#32
  let v2042 : BitVec 32 := Scalar.muli v2025 c8_i32_428
  v2042
def k0_mult13 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_431 : BitVec 32 := 4#32
  let v2072 : BitVec 32 := Scalar.muli arg10 c4_i32_431
  let c1_i32_432 : BitVec 32 := 1#32
  let v2073 : BitVec 32 := Scalar.addi v2072 c1_i32_432
  let c8_i32_433 : BitVec 32 := 8#32
  let v2090 : BitVec 32 := Scalar.muli v2073 c8_i32_433
  v2090
def k0_mult14 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_436 : BitVec 32 := 4#32
  let v2120 : BitVec 32 := Scalar.muli arg10 c4_i32_436
  let c2_i32_437 : BitVec 32 := 2#32
  let v2121 : BitVec 32 := Scalar.addi v2120 c2_i32_437
  let c8_i32_438 : BitVec 32 := 8#32
  let v2138 : BitVec 32 := Scalar.muli v2121 c8_i32_438
  v2138
def k0_mult15 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_441 : BitVec 32 := 4#32
  let v2168 : BitVec 32 := Scalar.muli arg10 c4_i32_441
  let c2_i32_442 : BitVec 32 := 2#32
  let v2169 : BitVec 32 := Scalar.addi v2168 c2_i32_442
  let c8_i32_443 : BitVec 32 := 8#32
  let v2186 : BitVec 32 := Scalar.muli v2169 c8_i32_443
  v2186
def k0_mult16 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_446 : BitVec 32 := 4#32
  let v2216 : BitVec 32 := Scalar.muli arg10 c4_i32_446
  let c3_i32_447 : BitVec 32 := 3#32
  let v2217 : BitVec 32 := Scalar.addi v2216 c3_i32_447
  let c8_i32_448 : BitVec 32 := 8#32
  let v2234 : BitVec 32 := Scalar.muli v2217 c8_i32_448
  v2234
def k0_mult17 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_451 : BitVec 32 := 4#32
  let v2264 : BitVec 32 := Scalar.muli arg10 c4_i32_451
  let c3_i32_452 : BitVec 32 := 3#32
  let v2265 : BitVec 32 := Scalar.addi v2264 c3_i32_452
  let c8_i32_453 : BitVec 32 := 8#32
  let v2282 : BitVec 32 := Scalar.muli v2265 c8_i32_453
  v2282
def k0_mult18 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_462 : BitVec 32 := 4#32
  let v2319 : BitVec 32 := Scalar.muli arg10 c4_i32_462
  let c0_i32_463 : BitVec 32 := 0#32
  let v2320 : BitVec 32 := Scalar.addi v2319 c0_i32_463
  let c8_i32_464 : BitVec 32 := 8#32
  let v2337 : BitVec 32 := Scalar.muli v2320 c8_i32_464
  v2337
def k0_mult19 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_467 : BitVec 32 := 4#32
  let v2367 : BitVec 32 := Scalar.muli arg10 c4_i32_467
  let c0_i32_468 : BitVec 32 := 0#32
  let v2368 : BitVec 32 := Scalar.addi v2367 c0_i32_468
  let c8_i32_469 : BitVec 32 := 8#32
  let v2385 : BitVec 32 := Scalar.muli v2368 c8_i32_469
  v2385
def k0_mult20 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_472 : BitVec 32 := 4#32
  let v2415 : BitVec 32 := Scalar.muli arg10 c4_i32_472
  let c1_i32_473 : BitVec 32 := 1#32
  let v2416 : BitVec 32 := Scalar.addi v2415 c1_i32_473
  let c8_i32_474 : BitVec 32 := 8#32
  let v2433 : BitVec 32 := Scalar.muli v2416 c8_i32_474
  v2433
def k0_mult21 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_477 : BitVec 32 := 4#32
  let v2463 : BitVec 32 := Scalar.muli arg10 c4_i32_477
  let c1_i32_478 : BitVec 32 := 1#32
  let v2464 : BitVec 32 := Scalar.addi v2463 c1_i32_478
  let c8_i32_479 : BitVec 32 := 8#32
  let v2481 : BitVec 32 := Scalar.muli v2464 c8_i32_479
  v2481
def k0_mult22 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_482 : BitVec 32 := 4#32
  let v2511 : BitVec 32 := Scalar.muli arg10 c4_i32_482
  let c2_i32_483 : BitVec 32 := 2#32
  let v2512 : BitVec 32 := Scalar.addi v2511 c2_i32_483
  let c8_i32_484 : BitVec 32 := 8#32
  let v2529 : BitVec 32 := Scalar.muli v2512 c8_i32_484
  v2529
def k0_mult23 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_487 : BitVec 32 := 4#32
  let v2559 : BitVec 32 := Scalar.muli arg10 c4_i32_487
  let c2_i32_488 : BitVec 32 := 2#32
  let v2560 : BitVec 32 := Scalar.addi v2559 c2_i32_488
  let c8_i32_489 : BitVec 32 := 8#32
  let v2577 : BitVec 32 := Scalar.muli v2560 c8_i32_489
  v2577
def k0_mult24 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_492 : BitVec 32 := 4#32
  let v2607 : BitVec 32 := Scalar.muli arg10 c4_i32_492
  let c3_i32_493 : BitVec 32 := 3#32
  let v2608 : BitVec 32 := Scalar.addi v2607 c3_i32_493
  let c8_i32_494 : BitVec 32 := 8#32
  let v2625 : BitVec 32 := Scalar.muli v2608 c8_i32_494
  v2625
def k0_mult25 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_497 : BitVec 32 := 4#32
  let v2655 : BitVec 32 := Scalar.muli arg10 c4_i32_497
  let c3_i32_498 : BitVec 32 := 3#32
  let v2656 : BitVec 32 := Scalar.addi v2655 c3_i32_498
  let c8_i32_499 : BitVec 32 := 8#32
  let v2673 : BitVec 32 := Scalar.muli v2656 c8_i32_499
  v2673
def k0_mult26 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_508 : BitVec 32 := 4#32
  let v2710 : BitVec 32 := Scalar.muli arg10 c4_i32_508
  let c0_i32_509 : BitVec 32 := 0#32
  let v2711 : BitVec 32 := Scalar.addi v2710 c0_i32_509
  let c8_i32_510 : BitVec 32 := 8#32
  let v2728 : BitVec 32 := Scalar.muli v2711 c8_i32_510
  v2728
def k0_mult27 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_513 : BitVec 32 := 4#32
  let v2758 : BitVec 32 := Scalar.muli arg10 c4_i32_513
  let c0_i32_514 : BitVec 32 := 0#32
  let v2759 : BitVec 32 := Scalar.addi v2758 c0_i32_514
  let c8_i32_515 : BitVec 32 := 8#32
  let v2776 : BitVec 32 := Scalar.muli v2759 c8_i32_515
  v2776
def k0_mult28 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_518 : BitVec 32 := 4#32
  let v2806 : BitVec 32 := Scalar.muli arg10 c4_i32_518
  let c1_i32_519 : BitVec 32 := 1#32
  let v2807 : BitVec 32 := Scalar.addi v2806 c1_i32_519
  let c8_i32_520 : BitVec 32 := 8#32
  let v2824 : BitVec 32 := Scalar.muli v2807 c8_i32_520
  v2824
def k0_mult29 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_523 : BitVec 32 := 4#32
  let v2854 : BitVec 32 := Scalar.muli arg10 c4_i32_523
  let c1_i32_524 : BitVec 32 := 1#32
  let v2855 : BitVec 32 := Scalar.addi v2854 c1_i32_524
  let c8_i32_525 : BitVec 32 := 8#32
  let v2872 : BitVec 32 := Scalar.muli v2855 c8_i32_525
  v2872
def k0_mult30 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_528 : BitVec 32 := 4#32
  let v2902 : BitVec 32 := Scalar.muli arg10 c4_i32_528
  let c2_i32_529 : BitVec 32 := 2#32
  let v2903 : BitVec 32 := Scalar.addi v2902 c2_i32_529
  let c8_i32_530 : BitVec 32 := 8#32
  let v2920 : BitVec 32 := Scalar.muli v2903 c8_i32_530
  v2920
def k0_mult31 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_533 : BitVec 32 := 4#32
  let v2950 : BitVec 32 := Scalar.muli arg10 c4_i32_533
  let c2_i32_534 : BitVec 32 := 2#32
  let v2951 : BitVec 32 := Scalar.addi v2950 c2_i32_534
  let c8_i32_535 : BitVec 32 := 8#32
  let v2968 : BitVec 32 := Scalar.muli v2951 c8_i32_535
  v2968
def k0_mult32 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_538 : BitVec 32 := 4#32
  let v2998 : BitVec 32 := Scalar.muli arg10 c4_i32_538
  let c3_i32_539 : BitVec 32 := 3#32
  let v2999 : BitVec 32 := Scalar.addi v2998 c3_i32_539
  let c8_i32_540 : BitVec 32 := 8#32
  let v3016 : BitVec 32 := Scalar.muli v2999 c8_i32_540
  v3016
def k0_mult33 (i : grid0.Coords) (k0_t1 : Fin (k0_t1_loop i).trips) : BitVec 32 :=
  let c0_i32_14 : BitVec 32 := 0#32
  let c1_i32_15 : BitVec 32 := 1#32
  let arg10 : BitVec 32 := Scf.iv c0_i32_14 c1_i32_15 k0_t1
  let c4_i32_543 : BitVec 32 := 4#32
  let v3046 : BitVec 32 := Scalar.muli arg10 c4_i32_543
  let c3_i32_544 : BitVec 32 := 3#32
  let v3047 : BitVec 32 := Scalar.addi v3046 c3_i32_544
  let c8_i32_545 : BitVec 32 := 8#32
  let v3064 : BitVec 32 := Scalar.muli v3047 c8_i32_545
  v3064
@[reducible] def k0_t2_loop (i : grid0.Coords) : Scf.Loop 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let v28 : BitVec 32 := Scalar.addi c0_i32_14 v27
  let c1_i32_16 : BitVec 32 := 1#32
  ⟨v31, v28, c1_i32_16⟩
def k0_mult34 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c256_i32_361 : BitVec 32 := 256#32
  let v1525 : BitVec 32 := Scalar.muli arg10 c256_i32_361
  v1525
def k0_off3 (i : grid0.Coords) (k0_t2 : Fin (k0_t2_loop i).trips) : Fin 3 → Nat :=
  let c0_362 : Index := 0#32
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c256_i32_361 : BitVec 32 := 256#32
  let v1525 : BitVec 32 := Scalar.muli arg10 c256_i32_361
  let v1526 : BitVec 32 := v1525
  let v1527 : Index := Scalar.indexCast v1526
  let c0_363 : Index := 0#32
  ![0, v1527.toNat, 0]
def k0_mult35 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_370 : BitVec 32 := 4#32
  let v1537 : BitVec 32 := Scalar.muli arg10 c4_i32_370
  let c0_i32_371 : BitVec 32 := 0#32
  let v1538 : BitVec 32 := Scalar.addi v1537 c0_i32_371
  let c8_i32_372 : BitVec 32 := 8#32
  let v1555 : BitVec 32 := Scalar.muli v1538 c8_i32_372
  v1555
def k0_off4 (i : grid0.Coords) (k0_t2 : Fin (k0_t2_loop i).trips) (c0_i32_371 : BitVec 32) (c0_i32_373 : BitVec 32) : Fin 2 → Nat :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_370 : BitVec 32 := 4#32
  let v1537 : BitVec 32 := Scalar.muli arg10 c4_i32_370
  let v1538 : BitVec 32 := Scalar.addi v1537 c0_i32_371
  let c8_i32_372 : BitVec 32 := 8#32
  let v1555 : BitVec 32 := Scalar.muli v1538 c8_i32_372
  let v1556 : BitVec 32 := v1555
  let v1557 : BitVec 32 := Scalar.addi v1556 c0_i32_373
  let v1565 : Index := Scalar.indexCast v1557
  let c0_374 : Index := 0#32
  ![v1565.toNat, 0]
def k0_mult36 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_375 : BitVec 32 := 4#32
  let v1585 : BitVec 32 := Scalar.muli arg10 c4_i32_375
  let c0_i32_376 : BitVec 32 := 0#32
  let v1586 : BitVec 32 := Scalar.addi v1585 c0_i32_376
  let c8_i32_377 : BitVec 32 := 8#32
  let v1603 : BitVec 32 := Scalar.muli v1586 c8_i32_377
  v1603
def k0_mult37 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_380 : BitVec 32 := 4#32
  let v1633 : BitVec 32 := Scalar.muli arg10 c4_i32_380
  let c1_i32_381 : BitVec 32 := 1#32
  let v1634 : BitVec 32 := Scalar.addi v1633 c1_i32_381
  let c8_i32_382 : BitVec 32 := 8#32
  let v1651 : BitVec 32 := Scalar.muli v1634 c8_i32_382
  v1651
def k0_mult38 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_385 : BitVec 32 := 4#32
  let v1681 : BitVec 32 := Scalar.muli arg10 c4_i32_385
  let c1_i32_386 : BitVec 32 := 1#32
  let v1682 : BitVec 32 := Scalar.addi v1681 c1_i32_386
  let c8_i32_387 : BitVec 32 := 8#32
  let v1699 : BitVec 32 := Scalar.muli v1682 c8_i32_387
  v1699
def k0_mult39 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_390 : BitVec 32 := 4#32
  let v1729 : BitVec 32 := Scalar.muli arg10 c4_i32_390
  let c2_i32_391 : BitVec 32 := 2#32
  let v1730 : BitVec 32 := Scalar.addi v1729 c2_i32_391
  let c8_i32_392 : BitVec 32 := 8#32
  let v1747 : BitVec 32 := Scalar.muli v1730 c8_i32_392
  v1747
def k0_mult40 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_395 : BitVec 32 := 4#32
  let v1777 : BitVec 32 := Scalar.muli arg10 c4_i32_395
  let c2_i32_396 : BitVec 32 := 2#32
  let v1778 : BitVec 32 := Scalar.addi v1777 c2_i32_396
  let c8_i32_397 : BitVec 32 := 8#32
  let v1795 : BitVec 32 := Scalar.muli v1778 c8_i32_397
  v1795
def k0_mult41 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_400 : BitVec 32 := 4#32
  let v1825 : BitVec 32 := Scalar.muli arg10 c4_i32_400
  let c3_i32_401 : BitVec 32 := 3#32
  let v1826 : BitVec 32 := Scalar.addi v1825 c3_i32_401
  let c8_i32_402 : BitVec 32 := 8#32
  let v1843 : BitVec 32 := Scalar.muli v1826 c8_i32_402
  v1843
def k0_mult42 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_405 : BitVec 32 := 4#32
  let v1873 : BitVec 32 := Scalar.muli arg10 c4_i32_405
  let c3_i32_406 : BitVec 32 := 3#32
  let v1874 : BitVec 32 := Scalar.addi v1873 c3_i32_406
  let c8_i32_407 : BitVec 32 := 8#32
  let v1891 : BitVec 32 := Scalar.muli v1874 c8_i32_407
  v1891
def k0_mult43 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_416 : BitVec 32 := 4#32
  let v1928 : BitVec 32 := Scalar.muli arg10 c4_i32_416
  let c0_i32_417 : BitVec 32 := 0#32
  let v1929 : BitVec 32 := Scalar.addi v1928 c0_i32_417
  let c8_i32_418 : BitVec 32 := 8#32
  let v1946 : BitVec 32 := Scalar.muli v1929 c8_i32_418
  v1946
def k0_mult44 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_421 : BitVec 32 := 4#32
  let v1976 : BitVec 32 := Scalar.muli arg10 c4_i32_421
  let c0_i32_422 : BitVec 32 := 0#32
  let v1977 : BitVec 32 := Scalar.addi v1976 c0_i32_422
  let c8_i32_423 : BitVec 32 := 8#32
  let v1994 : BitVec 32 := Scalar.muli v1977 c8_i32_423
  v1994
def k0_mult45 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_426 : BitVec 32 := 4#32
  let v2024 : BitVec 32 := Scalar.muli arg10 c4_i32_426
  let c1_i32_427 : BitVec 32 := 1#32
  let v2025 : BitVec 32 := Scalar.addi v2024 c1_i32_427
  let c8_i32_428 : BitVec 32 := 8#32
  let v2042 : BitVec 32 := Scalar.muli v2025 c8_i32_428
  v2042
def k0_mult46 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_431 : BitVec 32 := 4#32
  let v2072 : BitVec 32 := Scalar.muli arg10 c4_i32_431
  let c1_i32_432 : BitVec 32 := 1#32
  let v2073 : BitVec 32 := Scalar.addi v2072 c1_i32_432
  let c8_i32_433 : BitVec 32 := 8#32
  let v2090 : BitVec 32 := Scalar.muli v2073 c8_i32_433
  v2090
def k0_mult47 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_436 : BitVec 32 := 4#32
  let v2120 : BitVec 32 := Scalar.muli arg10 c4_i32_436
  let c2_i32_437 : BitVec 32 := 2#32
  let v2121 : BitVec 32 := Scalar.addi v2120 c2_i32_437
  let c8_i32_438 : BitVec 32 := 8#32
  let v2138 : BitVec 32 := Scalar.muli v2121 c8_i32_438
  v2138
def k0_mult48 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_441 : BitVec 32 := 4#32
  let v2168 : BitVec 32 := Scalar.muli arg10 c4_i32_441
  let c2_i32_442 : BitVec 32 := 2#32
  let v2169 : BitVec 32 := Scalar.addi v2168 c2_i32_442
  let c8_i32_443 : BitVec 32 := 8#32
  let v2186 : BitVec 32 := Scalar.muli v2169 c8_i32_443
  v2186
def k0_mult49 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_446 : BitVec 32 := 4#32
  let v2216 : BitVec 32 := Scalar.muli arg10 c4_i32_446
  let c3_i32_447 : BitVec 32 := 3#32
  let v2217 : BitVec 32 := Scalar.addi v2216 c3_i32_447
  let c8_i32_448 : BitVec 32 := 8#32
  let v2234 : BitVec 32 := Scalar.muli v2217 c8_i32_448
  v2234
def k0_mult50 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_451 : BitVec 32 := 4#32
  let v2264 : BitVec 32 := Scalar.muli arg10 c4_i32_451
  let c3_i32_452 : BitVec 32 := 3#32
  let v2265 : BitVec 32 := Scalar.addi v2264 c3_i32_452
  let c8_i32_453 : BitVec 32 := 8#32
  let v2282 : BitVec 32 := Scalar.muli v2265 c8_i32_453
  v2282
def k0_mult51 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_462 : BitVec 32 := 4#32
  let v2319 : BitVec 32 := Scalar.muli arg10 c4_i32_462
  let c0_i32_463 : BitVec 32 := 0#32
  let v2320 : BitVec 32 := Scalar.addi v2319 c0_i32_463
  let c8_i32_464 : BitVec 32 := 8#32
  let v2337 : BitVec 32 := Scalar.muli v2320 c8_i32_464
  v2337
def k0_mult52 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_467 : BitVec 32 := 4#32
  let v2367 : BitVec 32 := Scalar.muli arg10 c4_i32_467
  let c0_i32_468 : BitVec 32 := 0#32
  let v2368 : BitVec 32 := Scalar.addi v2367 c0_i32_468
  let c8_i32_469 : BitVec 32 := 8#32
  let v2385 : BitVec 32 := Scalar.muli v2368 c8_i32_469
  v2385
def k0_mult53 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_472 : BitVec 32 := 4#32
  let v2415 : BitVec 32 := Scalar.muli arg10 c4_i32_472
  let c1_i32_473 : BitVec 32 := 1#32
  let v2416 : BitVec 32 := Scalar.addi v2415 c1_i32_473
  let c8_i32_474 : BitVec 32 := 8#32
  let v2433 : BitVec 32 := Scalar.muli v2416 c8_i32_474
  v2433
def k0_mult54 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_477 : BitVec 32 := 4#32
  let v2463 : BitVec 32 := Scalar.muli arg10 c4_i32_477
  let c1_i32_478 : BitVec 32 := 1#32
  let v2464 : BitVec 32 := Scalar.addi v2463 c1_i32_478
  let c8_i32_479 : BitVec 32 := 8#32
  let v2481 : BitVec 32 := Scalar.muli v2464 c8_i32_479
  v2481
def k0_mult55 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_482 : BitVec 32 := 4#32
  let v2511 : BitVec 32 := Scalar.muli arg10 c4_i32_482
  let c2_i32_483 : BitVec 32 := 2#32
  let v2512 : BitVec 32 := Scalar.addi v2511 c2_i32_483
  let c8_i32_484 : BitVec 32 := 8#32
  let v2529 : BitVec 32 := Scalar.muli v2512 c8_i32_484
  v2529
def k0_mult56 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_487 : BitVec 32 := 4#32
  let v2559 : BitVec 32 := Scalar.muli arg10 c4_i32_487
  let c2_i32_488 : BitVec 32 := 2#32
  let v2560 : BitVec 32 := Scalar.addi v2559 c2_i32_488
  let c8_i32_489 : BitVec 32 := 8#32
  let v2577 : BitVec 32 := Scalar.muli v2560 c8_i32_489
  v2577
def k0_mult57 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_492 : BitVec 32 := 4#32
  let v2607 : BitVec 32 := Scalar.muli arg10 c4_i32_492
  let c3_i32_493 : BitVec 32 := 3#32
  let v2608 : BitVec 32 := Scalar.addi v2607 c3_i32_493
  let c8_i32_494 : BitVec 32 := 8#32
  let v2625 : BitVec 32 := Scalar.muli v2608 c8_i32_494
  v2625
def k0_mult58 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_497 : BitVec 32 := 4#32
  let v2655 : BitVec 32 := Scalar.muli arg10 c4_i32_497
  let c3_i32_498 : BitVec 32 := 3#32
  let v2656 : BitVec 32 := Scalar.addi v2655 c3_i32_498
  let c8_i32_499 : BitVec 32 := 8#32
  let v2673 : BitVec 32 := Scalar.muli v2656 c8_i32_499
  v2673
def k0_mult59 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_508 : BitVec 32 := 4#32
  let v2710 : BitVec 32 := Scalar.muli arg10 c4_i32_508
  let c0_i32_509 : BitVec 32 := 0#32
  let v2711 : BitVec 32 := Scalar.addi v2710 c0_i32_509
  let c8_i32_510 : BitVec 32 := 8#32
  let v2728 : BitVec 32 := Scalar.muli v2711 c8_i32_510
  v2728
def k0_mult60 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_513 : BitVec 32 := 4#32
  let v2758 : BitVec 32 := Scalar.muli arg10 c4_i32_513
  let c0_i32_514 : BitVec 32 := 0#32
  let v2759 : BitVec 32 := Scalar.addi v2758 c0_i32_514
  let c8_i32_515 : BitVec 32 := 8#32
  let v2776 : BitVec 32 := Scalar.muli v2759 c8_i32_515
  v2776
def k0_mult61 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_518 : BitVec 32 := 4#32
  let v2806 : BitVec 32 := Scalar.muli arg10 c4_i32_518
  let c1_i32_519 : BitVec 32 := 1#32
  let v2807 : BitVec 32 := Scalar.addi v2806 c1_i32_519
  let c8_i32_520 : BitVec 32 := 8#32
  let v2824 : BitVec 32 := Scalar.muli v2807 c8_i32_520
  v2824
def k0_mult62 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_523 : BitVec 32 := 4#32
  let v2854 : BitVec 32 := Scalar.muli arg10 c4_i32_523
  let c1_i32_524 : BitVec 32 := 1#32
  let v2855 : BitVec 32 := Scalar.addi v2854 c1_i32_524
  let c8_i32_525 : BitVec 32 := 8#32
  let v2872 : BitVec 32 := Scalar.muli v2855 c8_i32_525
  v2872
def k0_mult63 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_528 : BitVec 32 := 4#32
  let v2902 : BitVec 32 := Scalar.muli arg10 c4_i32_528
  let c2_i32_529 : BitVec 32 := 2#32
  let v2903 : BitVec 32 := Scalar.addi v2902 c2_i32_529
  let c8_i32_530 : BitVec 32 := 8#32
  let v2920 : BitVec 32 := Scalar.muli v2903 c8_i32_530
  v2920
def k0_mult64 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_533 : BitVec 32 := 4#32
  let v2950 : BitVec 32 := Scalar.muli arg10 c4_i32_533
  let c2_i32_534 : BitVec 32 := 2#32
  let v2951 : BitVec 32 := Scalar.addi v2950 c2_i32_534
  let c8_i32_535 : BitVec 32 := 8#32
  let v2968 : BitVec 32 := Scalar.muli v2951 c8_i32_535
  v2968
def k0_mult65 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_538 : BitVec 32 := 4#32
  let v2998 : BitVec 32 := Scalar.muli arg10 c4_i32_538
  let c3_i32_539 : BitVec 32 := 3#32
  let v2999 : BitVec 32 := Scalar.addi v2998 c3_i32_539
  let c8_i32_540 : BitVec 32 := 8#32
  let v3016 : BitVec 32 := Scalar.muli v2999 c8_i32_540
  v3016
def k0_mult66 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32 : BitVec 32 := 1#32
  let v29 : BitVec 32 := Scalar.divsi v27 c1_i32
  let v30 : BitVec 32 := Scalar.muli v29 c1_i32
  let v31 : BitVec 32 := Scalar.addi c0_i32_14 v30
  let c1_i32_16 : BitVec 32 := 1#32
  let arg10 : BitVec 32 := Scf.iv v31 c1_i32_16 k0_t2
  let c4_i32_543 : BitVec 32 := 4#32
  let v3046 : BitVec 32 := Scalar.muli arg10 c4_i32_543
  let c3_i32_544 : BitVec 32 := 3#32
  let v3047 : BitVec 32 := Scalar.addi v3046 c3_i32_544
  let c8_i32_545 : BitVec 32 := 8#32
  let v3064 : BitVec 32 := Scalar.muli v3047 c8_i32_545
  v3064
def k0_mult67 (i : grid0.Coords) : BitVec 32 :=
  let arg1 : BitVec 32 := BitVec.ofNat 32 (i 1).val
  let c256_i32 : BitVec 32 := 256#32
  let v34 : BitVec 32 := Scalar.muli arg1 c256_i32
  v34
def k0_off5 (i : grid0.Coords) : Fin 3 → Nat :=
  let c0_17 : Index := 0#32
  let arg1 : BitVec 32 := BitVec.ofNat 32 (i 1).val
  let c256_i32 : BitVec 32 := 256#32
  let v34 : BitVec 32 := Scalar.muli arg1 c256_i32
  let v35 : BitVec 32 := v34
  let v36 : Index := Scalar.indexCast v35
  let c0_18 : Index := 0#32
  ![0, v36.toNat, 0]
def k0_mult68 (i : grid0.Coords) : BitVec 32 :=
  let arg1 : BitVec 32 := BitVec.ofNat 32 (i 1).val
  let c4_i32 : BitVec 32 := 4#32
  let v46 : BitVec 32 := Scalar.muli arg1 c4_i32
  let c0_i32_25 : BitVec 32 := 0#32
  let v47 : BitVec 32 := Scalar.addi v46 c0_i32_25
  let c8_i32_35 : BitVec 32 := 8#32
  let v104 : BitVec 32 := Scalar.muli v47 c8_i32_35
  v104
def k0_off6 (i : grid0.Coords) (c0_i32_25 : BitVec 32) (c0_i32_36 : BitVec 32) : Fin 2 → Nat :=
  let arg1 : BitVec 32 := BitVec.ofNat 32 (i 1).val
  let c4_i32 : BitVec 32 := 4#32
  let v46 : BitVec 32 := Scalar.muli arg1 c4_i32
  let v47 : BitVec 32 := Scalar.addi v46 c0_i32_25
  let c8_i32_35 : BitVec 32 := 8#32
  let v104 : BitVec 32 := Scalar.muli v47 c8_i32_35
  let v105 : BitVec 32 := v104
  let v106 : BitVec 32 := Scalar.addi v105 c0_i32_36
  let v114 : Index := Scalar.indexCast v106
  let c0_37 : Index := 0#32
  ![v114.toNat, 0]
def k0_off6_at (r : Fin 20) : BitVec 32 × BitVec 32 :=
  if r.val < 10 then
    if r.val < 5 then
      if r.val < 2 then
        if r.val < 1 then
          (0#32, 0#32)
        else
          (0#32, 1280#32)
      else
        if r.val < 3 then
          (0#32, 2560#32)
        else
          if r.val < 4 then
            (0#32, 3840#32)
          else
            (1#32, 2560#32)
    else
      if r.val < 7 then
        if r.val < 6 then
          (1#32, 3840#32)
        else
          (0#32, 5120#32)
      else
        if r.val < 8 then
          (0#32, 6400#32)
        else
          if r.val < 9 then
            (1#32, 5120#32)
          else
            (1#32, 6400#32)
  else
    if r.val < 15 then
      if r.val < 12 then
        if r.val < 11 then
          (2#32, 5120#32)
        else
          (2#32, 6400#32)
      else
        if r.val < 13 then
          (0#32, 7680#32)
        else
          if r.val < 14 then
            (0#32, 8960#32)
          else
            (1#32, 7680#32)
    else
      if r.val < 17 then
        if r.val < 16 then
          (1#32, 8960#32)
        else
          (2#32, 7680#32)
      else
        if r.val < 18 then
          (2#32, 8960#32)
        else
          if r.val < 19 then
            (3#32, 7680#32)
          else
            (3#32, 8960#32)
def k0_mult69 (i : grid0.Coords) : BitVec 32 :=
  let arg1 : BitVec 32 := BitVec.ofNat 32 (i 1).val
  let c4_i32_38 : BitVec 32 := 4#32
  let v134 : BitVec 32 := Scalar.muli arg1 c4_i32_38
  let c0_i32_39 : BitVec 32 := 0#32
  let v135 : BitVec 32 := Scalar.addi v134 c0_i32_39
  let c8_i32_56 : BitVec 32 := 8#32
  let v192 : BitVec 32 := Scalar.muli v135 c8_i32_56
  v192
def k0_mult70 (i : grid0.Coords) : BitVec 32 :=
  let arg1 : BitVec 32 := BitVec.ofNat 32 (i 1).val
  let c256_i32_58 : BitVec 32 := 256#32
  let v222 : BitVec 32 := Scalar.muli arg1 c256_i32_58
  v222
def k0_off7 (i : grid0.Coords) : Fin 3 → Nat :=
  let c0_59 : Index := 0#32
  let arg1 : BitVec 32 := BitVec.ofNat 32 (i 1).val
  let c256_i32_58 : BitVec 32 := 256#32
  let v222 : BitVec 32 := Scalar.muli arg1 c256_i32_58
  let v223 : BitVec 32 := v222
  let v224 : Index := Scalar.indexCast v223
  let c0_60 : Index := 0#32
  ![0, v224.toNat, 0]
def k0_mult71 (i : grid0.Coords) : BitVec 32 :=
  let arg1 : BitVec 32 := BitVec.ofNat 32 (i 1).val
  let c4_i32_66 : BitVec 32 := 4#32
  let v234 : BitVec 32 := Scalar.muli arg1 c4_i32_66
  let c0_i32_67 : BitVec 32 := 0#32
  let v235 : BitVec 32 := Scalar.addi v234 c0_i32_67
  let c8_i32_68 : BitVec 32 := 8#32
  let v252 : BitVec 32 := Scalar.muli v235 c8_i32_68
  v252
def k0_mult72 (i : grid0.Coords) : BitVec 32 :=
  let arg1 : BitVec 32 := BitVec.ofNat 32 (i 1).val
  let c4_i32_70 : BitVec 32 := 4#32
  let v282 : BitVec 32 := Scalar.muli arg1 c4_i32_70
  let c0_i32_71 : BitVec 32 := 0#32
  let v283 : BitVec 32 := Scalar.addi v282 c0_i32_71
  let c8_i32_72 : BitVec 32 := 8#32
  let v300 : BitVec 32 := Scalar.muli v283 c8_i32_72
  v300
def k0_mult73 (i : grid0.Coords) : BitVec 32 :=
  let arg1 : BitVec 32 := BitVec.ofNat 32 (i 1).val
  let c4_i32_74 : BitVec 32 := 4#32
  let v330 : BitVec 32 := Scalar.muli arg1 c4_i32_74
  let c1_i32_75 : BitVec 32 := 1#32
  let v331 : BitVec 32 := Scalar.addi v330 c1_i32_75
  let c8_i32_92 : BitVec 32 := 8#32
  let v388 : BitVec 32 := Scalar.muli v331 c8_i32_92
  v388
def k0_mult74 (i : grid0.Coords) : BitVec 32 :=
  let arg1 : BitVec 32 := BitVec.ofNat 32 (i 1).val
  let c4_i32_95 : BitVec 32 := 4#32
  let v418 : BitVec 32 := Scalar.muli arg1 c4_i32_95
  let c1_i32_96 : BitVec 32 := 1#32
  let v419 : BitVec 32 := Scalar.addi v418 c1_i32_96
  let c8_i32_113 : BitVec 32 := 8#32
  let v476 : BitVec 32 := Scalar.muli v419 c8_i32_113
  v476
def k0_mult75 (i : grid0.Coords) : BitVec 32 :=
  let arg1 : BitVec 32 := BitVec.ofNat 32 (i 1).val
  let c256_i32_116 : BitVec 32 := 256#32
  let v506 : BitVec 32 := Scalar.muli arg1 c256_i32_116
  v506
def k0_off8 (i : grid0.Coords) : Fin 3 → Nat :=
  let c0_117 : Index := 0#32
  let arg1 : BitVec 32 := BitVec.ofNat 32 (i 1).val
  let c256_i32_116 : BitVec 32 := 256#32
  let v506 : BitVec 32 := Scalar.muli arg1 c256_i32_116
  let v507 : BitVec 32 := v506
  let v508 : Index := Scalar.indexCast v507
  let c0_118 : Index := 0#32
  ![0, v508.toNat, 0]
def k0_mult76 (i : grid0.Coords) : BitVec 32 :=
  let arg1 : BitVec 32 := BitVec.ofNat 32 (i 1).val
  let c4_i32_124 : BitVec 32 := 4#32
  let v518 : BitVec 32 := Scalar.muli arg1 c4_i32_124
  let c0_i32_125 : BitVec 32 := 0#32
  let v519 : BitVec 32 := Scalar.addi v518 c0_i32_125
  let c8_i32_126 : BitVec 32 := 8#32
  let v536 : BitVec 32 := Scalar.muli v519 c8_i32_126
  v536
def k0_mult77 (i : grid0.Coords) : BitVec 32 :=
  let arg1 : BitVec 32 := BitVec.ofNat 32 (i 1).val
  let c4_i32_128 : BitVec 32 := 4#32
  let v566 : BitVec 32 := Scalar.muli arg1 c4_i32_128
  let c0_i32_129 : BitVec 32 := 0#32
  let v567 : BitVec 32 := Scalar.addi v566 c0_i32_129
  let c8_i32_130 : BitVec 32 := 8#32
  let v584 : BitVec 32 := Scalar.muli v567 c8_i32_130
  v584
def k0_mult78 (i : grid0.Coords) : BitVec 32 :=
  let arg1 : BitVec 32 := BitVec.ofNat 32 (i 1).val
  let c4_i32_132 : BitVec 32 := 4#32
  let v614 : BitVec 32 := Scalar.muli arg1 c4_i32_132
  let c1_i32_133 : BitVec 32 := 1#32
  let v615 : BitVec 32 := Scalar.addi v614 c1_i32_133
  let c8_i32_134 : BitVec 32 := 8#32
  let v632 : BitVec 32 := Scalar.muli v615 c8_i32_134
  v632
def k0_mult79 (i : grid0.Coords) : BitVec 32 :=
  let arg1 : BitVec 32 := BitVec.ofNat 32 (i 1).val
  let c4_i32_137 : BitVec 32 := 4#32
  let v662 : BitVec 32 := Scalar.muli arg1 c4_i32_137
  let c1_i32_138 : BitVec 32 := 1#32
  let v663 : BitVec 32 := Scalar.addi v662 c1_i32_138
  let c8_i32_139 : BitVec 32 := 8#32
  let v680 : BitVec 32 := Scalar.muli v663 c8_i32_139
  v680
def k0_mult80 (i : grid0.Coords) : BitVec 32 :=
  let arg1 : BitVec 32 := BitVec.ofNat 32 (i 1).val
  let c4_i32_142 : BitVec 32 := 4#32
  let v710 : BitVec 32 := Scalar.muli arg1 c4_i32_142
  let c2_i32 : BitVec 32 := 2#32
  let v711 : BitVec 32 := Scalar.addi v710 c2_i32
  let c8_i32_159 : BitVec 32 := 8#32
  let v768 : BitVec 32 := Scalar.muli v711 c8_i32_159
  v768
def k0_mult81 (i : grid0.Coords) : BitVec 32 :=
  let arg1 : BitVec 32 := BitVec.ofNat 32 (i 1).val
  let c4_i32_162 : BitVec 32 := 4#32
  let v798 : BitVec 32 := Scalar.muli arg1 c4_i32_162
  let c2_i32_163 : BitVec 32 := 2#32
  let v799 : BitVec 32 := Scalar.addi v798 c2_i32_163
  let c8_i32_180 : BitVec 32 := 8#32
  let v856 : BitVec 32 := Scalar.muli v799 c8_i32_180
  v856
def k0_mult82 (i : grid0.Coords) : BitVec 32 :=
  let arg1 : BitVec 32 := BitVec.ofNat 32 (i 1).val
  let c256_i32_183 : BitVec 32 := 256#32
  let v886 : BitVec 32 := Scalar.muli arg1 c256_i32_183
  v886
def k0_off9 (i : grid0.Coords) : Fin 3 → Nat :=
  let c0_184 : Index := 0#32
  let arg1 : BitVec 32 := BitVec.ofNat 32 (i 1).val
  let c256_i32_183 : BitVec 32 := 256#32
  let v886 : BitVec 32 := Scalar.muli arg1 c256_i32_183
  let v887 : BitVec 32 := v886
  let v888 : Index := Scalar.indexCast v887
  let c0_185 : Index := 0#32
  ![0, v888.toNat, 0]
def k0_mult83 (i : grid0.Coords) : BitVec 32 :=
  let arg1 : BitVec 32 := BitVec.ofNat 32 (i 1).val
  let c4_i32_191 : BitVec 32 := 4#32
  let v898 : BitVec 32 := Scalar.muli arg1 c4_i32_191
  let c0_i32_192 : BitVec 32 := 0#32
  let v899 : BitVec 32 := Scalar.addi v898 c0_i32_192
  let c8_i32_193 : BitVec 32 := 8#32
  let v916 : BitVec 32 := Scalar.muli v899 c8_i32_193
  v916
def k0_mult84 (i : grid0.Coords) : BitVec 32 :=
  let arg1 : BitVec 32 := BitVec.ofNat 32 (i 1).val
  let c4_i32_195 : BitVec 32 := 4#32
  let v946 : BitVec 32 := Scalar.muli arg1 c4_i32_195
  let c0_i32_196 : BitVec 32 := 0#32
  let v947 : BitVec 32 := Scalar.addi v946 c0_i32_196
  let c8_i32_197 : BitVec 32 := 8#32
  let v964 : BitVec 32 := Scalar.muli v947 c8_i32_197
  v964
def k0_mult85 (i : grid0.Coords) : BitVec 32 :=
  let arg1 : BitVec 32 := BitVec.ofNat 32 (i 1).val
  let c4_i32_199 : BitVec 32 := 4#32
  let v994 : BitVec 32 := Scalar.muli arg1 c4_i32_199
  let c1_i32_200 : BitVec 32 := 1#32
  let v995 : BitVec 32 := Scalar.addi v994 c1_i32_200
  let c8_i32_201 : BitVec 32 := 8#32
  let v1012 : BitVec 32 := Scalar.muli v995 c8_i32_201
  v1012
def k0_mult86 (i : grid0.Coords) : BitVec 32 :=
  let arg1 : BitVec 32 := BitVec.ofNat 32 (i 1).val
  let c4_i32_204 : BitVec 32 := 4#32
  let v1042 : BitVec 32 := Scalar.muli arg1 c4_i32_204
  let c1_i32_205 : BitVec 32 := 1#32
  let v1043 : BitVec 32 := Scalar.addi v1042 c1_i32_205
  let c8_i32_206 : BitVec 32 := 8#32
  let v1060 : BitVec 32 := Scalar.muli v1043 c8_i32_206
  v1060
def k0_mult87 (i : grid0.Coords) : BitVec 32 :=
  let arg1 : BitVec 32 := BitVec.ofNat 32 (i 1).val
  let c4_i32_209 : BitVec 32 := 4#32
  let v1090 : BitVec 32 := Scalar.muli arg1 c4_i32_209
  let c2_i32_210 : BitVec 32 := 2#32
  let v1091 : BitVec 32 := Scalar.addi v1090 c2_i32_210
  let c8_i32_211 : BitVec 32 := 8#32
  let v1108 : BitVec 32 := Scalar.muli v1091 c8_i32_211
  v1108
def k0_mult88 (i : grid0.Coords) : BitVec 32 :=
  let arg1 : BitVec 32 := BitVec.ofNat 32 (i 1).val
  let c4_i32_214 : BitVec 32 := 4#32
  let v1138 : BitVec 32 := Scalar.muli arg1 c4_i32_214
  let c2_i32_215 : BitVec 32 := 2#32
  let v1139 : BitVec 32 := Scalar.addi v1138 c2_i32_215
  let c8_i32_216 : BitVec 32 := 8#32
  let v1156 : BitVec 32 := Scalar.muli v1139 c8_i32_216
  v1156
def k0_mult89 (i : grid0.Coords) : BitVec 32 :=
  let arg1 : BitVec 32 := BitVec.ofNat 32 (i 1).val
  let c4_i32_219 : BitVec 32 := 4#32
  let v1186 : BitVec 32 := Scalar.muli arg1 c4_i32_219
  let c3_i32 : BitVec 32 := 3#32
  let v1187 : BitVec 32 := Scalar.addi v1186 c3_i32
  let c8_i32_236 : BitVec 32 := 8#32
  let v1244 : BitVec 32 := Scalar.muli v1187 c8_i32_236
  v1244
def k0_mult90 (i : grid0.Coords) : BitVec 32 :=
  let arg1 : BitVec 32 := BitVec.ofNat 32 (i 1).val
  let c4_i32_239 : BitVec 32 := 4#32
  let v1274 : BitVec 32 := Scalar.muli arg1 c4_i32_239
  let c3_i32_240 : BitVec 32 := 3#32
  let v1275 : BitVec 32 := Scalar.addi v1274 c3_i32_240
  let c8_i32_257 : BitVec 32 := 8#32
  let v1332 : BitVec 32 := Scalar.muli v1275 c8_i32_257
  v1332
@[reducible] def k0_t3_loop (i : grid0.Coords) : Scf.Loop 32 :=
  let c0_i32_371 : BitVec 32 := 0#32
  let arg1 : BitVec 32 := BitVec.ofNat 32 (i 1).val
  let c1_i32_369 : BitVec 32 := 1#32
  let v1533 : BitVec 32 := Scalar.addi arg1 c1_i32_369
  let c4_i32_370 : BitVec 32 := 4#32
  let v1534 : BitVec 32 := Scalar.muli v1533 c4_i32_370
  let v1535 : BitVec 32 := Scalar.subi v1534 c0_i32_371
  let c1_i32_372 : BitVec 32 := 1#32
  let v1537 : BitVec 32 := Scalar.divsi v1535 c1_i32_372
  let v1538 : BitVec 32 := Scalar.muli v1537 c1_i32_372
  let v1539 : BitVec 32 := Scalar.addi c0_i32_371 v1538
  let c1_i32_373 : BitVec 32 := 1#32
  ⟨c0_i32_371, v1539, c1_i32_373⟩
def k0_mult91 (i : grid0.Coords) (k0_t3 : Fin (k0_t3_loop i).trips) : BitVec 32 :=
  let c0_i32_371 : BitVec 32 := 0#32
  let c1_i32_373 : BitVec 32 := 1#32
  let arg10 : BitVec 32 := Scf.iv c0_i32_371 c1_i32_373 k0_t3
  let c8_i32_429 : BitVec 32 := 8#32
  let v1671 : BitVec 32 := Scalar.muli arg10 c8_i32_429
  v1671
def k0_off10 (i : grid0.Coords) (k0_t3 : Fin (k0_t3_loop i).trips) (c0_i32_432 : BitVec 32) : Fin 2 → Nat :=
  let c0_i32_371 : BitVec 32 := 0#32
  let c1_i32_373 : BitVec 32 := 1#32
  let arg10 : BitVec 32 := Scf.iv c0_i32_371 c1_i32_373 k0_t3
  let c8_i32_429 : BitVec 32 := 8#32
  let v1671 : BitVec 32 := Scalar.muli arg10 c8_i32_429
  let v1672 : BitVec 32 := v1671
  let v1676 : BitVec 32 := Scalar.addi c0_i32_432 v1672
  let v1677 : Index := Scalar.indexCast v1676
  let c0_433 : Index := 0#32
  ![v1677.toNat, 0]
@[reducible] def k0_t4_loop (i : grid0.Coords) : Scf.Loop 32 :=
  let c0_i32_371 : BitVec 32 := 0#32
  let arg1 : BitVec 32 := BitVec.ofNat 32 (i 1).val
  let c1_i32_369 : BitVec 32 := 1#32
  let v1533 : BitVec 32 := Scalar.addi arg1 c1_i32_369
  let c4_i32_370 : BitVec 32 := 4#32
  let v1534 : BitVec 32 := Scalar.muli v1533 c4_i32_370
  let v1535 : BitVec 32 := Scalar.subi v1534 c0_i32_371
  let c1_i32_372 : BitVec 32 := 1#32
  let v1537 : BitVec 32 := Scalar.divsi v1535 c1_i32_372
  let v1538 : BitVec 32 := Scalar.muli v1537 c1_i32_372
  let v1539 : BitVec 32 := Scalar.addi c0_i32_371 v1538
  let v1536 : BitVec 32 := Scalar.addi c0_i32_371 v1535
  let c1_i32_374 : BitVec 32 := 1#32
  ⟨v1539, v1536, c1_i32_374⟩
def k0_mult92 (i : grid0.Coords) (k0_t4 : Fin (k0_t4_loop i).trips) : BitVec 32 :=
  let c0_i32_371 : BitVec 32 := 0#32
  let arg1 : BitVec 32 := BitVec.ofNat 32 (i 1).val
  let c1_i32_369 : BitVec 32 := 1#32
  let v1533 : BitVec 32 := Scalar.addi arg1 c1_i32_369
  let c4_i32_370 : BitVec 32 := 4#32
  let v1534 : BitVec 32 := Scalar.muli v1533 c4_i32_370
  let v1535 : BitVec 32 := Scalar.subi v1534 c0_i32_371
  let c1_i32_372 : BitVec 32 := 1#32
  let v1537 : BitVec 32 := Scalar.divsi v1535 c1_i32_372
  let v1538 : BitVec 32 := Scalar.muli v1537 c1_i32_372
  let v1539 : BitVec 32 := Scalar.addi c0_i32_371 v1538
  let c1_i32_374 : BitVec 32 := 1#32
  let arg10 : BitVec 32 := Scf.iv v1539 c1_i32_374 k0_t4
  let c8_i32_429 : BitVec 32 := 8#32
  let v1671 : BitVec 32 := Scalar.muli arg10 c8_i32_429
  v1671
def k0_off11 (i : grid0.Coords) (k0_t4 : Fin (k0_t4_loop i).trips) (c0_i32_432 : BitVec 32) : Fin 2 → Nat :=
  let c0_i32_371 : BitVec 32 := 0#32
  let arg1 : BitVec 32 := BitVec.ofNat 32 (i 1).val
  let c1_i32_369 : BitVec 32 := 1#32
  let v1533 : BitVec 32 := Scalar.addi arg1 c1_i32_369
  let c4_i32_370 : BitVec 32 := 4#32
  let v1534 : BitVec 32 := Scalar.muli v1533 c4_i32_370
  let v1535 : BitVec 32 := Scalar.subi v1534 c0_i32_371
  let c1_i32_372 : BitVec 32 := 1#32
  let v1537 : BitVec 32 := Scalar.divsi v1535 c1_i32_372
  let v1538 : BitVec 32 := Scalar.muli v1537 c1_i32_372
  let v1539 : BitVec 32 := Scalar.addi c0_i32_371 v1538
  let c1_i32_374 : BitVec 32 := 1#32
  let arg10 : BitVec 32 := Scf.iv v1539 c1_i32_374 k0_t4
  let c8_i32_429 : BitVec 32 := 8#32
  let v1671 : BitVec 32 := Scalar.muli arg10 c8_i32_429
  let v1672 : BitVec 32 := v1671
  let v1676 : BitVec 32 := Scalar.addi c0_i32_432 v1672
  let v1677 : Index := Scalar.indexCast v1676
  let c0_433 : Index := 0#32
  ![v1677.toNat, 0]
@[reducible] def k0_t5_loop (i : grid0.Coords) : Scf.Loop 32 :=
  let c0_i32_393 : BitVec 32 := 0#32
  let arg1 : BitVec 32 := BitVec.ofNat 32 (i 1).val
  let c1_i32_391 : BitVec 32 := 1#32
  let v1582 : BitVec 32 := Scalar.addi arg1 c1_i32_391
  let c4_i32_392 : BitVec 32 := 4#32
  let v1583 : BitVec 32 := Scalar.muli v1582 c4_i32_392
  let v1584 : BitVec 32 := Scalar.subi v1583 c0_i32_393
  let c1_i32_394 : BitVec 32 := 1#32
  let v1586 : BitVec 32 := Scalar.divsi v1584 c1_i32_394
  let v1587 : BitVec 32 := Scalar.muli v1586 c1_i32_394
  let v1588 : BitVec 32 := Scalar.addi c0_i32_393 v1587
  let c1_i32_395 : BitVec 32 := 1#32
  ⟨c0_i32_393, v1588, c1_i32_395⟩
def k0_mult93 (i : grid0.Coords) (k0_t5 : Fin (k0_t5_loop i).trips) : BitVec 32 :=
  let c0_i32_393 : BitVec 32 := 0#32
  let c1_i32_395 : BitVec 32 := 1#32
  let arg10 : BitVec 32 := Scf.iv c0_i32_393 c1_i32_395 k0_t5
  let c64_i32_429 : BitVec 32 := 64#32
  let v1671 : BitVec 32 := Scalar.muli arg10 c64_i32_429
  v1671
def k0_off12 (i : grid0.Coords) (k0_t5 : Fin (k0_t5_loop i).trips) : Fin 3 → Nat :=
  let c0_430 : Index := 0#32
  let c0_i32_393 : BitVec 32 := 0#32
  let c1_i32_395 : BitVec 32 := 1#32
  let arg10 : BitVec 32 := Scf.iv c0_i32_393 c1_i32_395 k0_t5
  let c64_i32_429 : BitVec 32 := 64#32
  let v1671 : BitVec 32 := Scalar.muli arg10 c64_i32_429
  let v1672 : BitVec 32 := v1671
  let v1673 : Index := Scalar.indexCast v1672
  let c0_431 : Index := 0#32
  ![0, v1673.toNat, 0]
@[reducible] def k0_t6_loop (i : grid0.Coords) : Scf.Loop 32 :=
  let c0_i32_393 : BitVec 32 := 0#32
  let arg1 : BitVec 32 := BitVec.ofNat 32 (i 1).val
  let c1_i32_391 : BitVec 32 := 1#32
  let v1582 : BitVec 32 := Scalar.addi arg1 c1_i32_391
  let c4_i32_392 : BitVec 32 := 4#32
  let v1583 : BitVec 32 := Scalar.muli v1582 c4_i32_392
  let v1584 : BitVec 32 := Scalar.subi v1583 c0_i32_393
  let c1_i32_394 : BitVec 32 := 1#32
  let v1586 : BitVec 32 := Scalar.divsi v1584 c1_i32_394
  let v1587 : BitVec 32 := Scalar.muli v1586 c1_i32_394
  let v1588 : BitVec 32 := Scalar.addi c0_i32_393 v1587
  let v1585 : BitVec 32 := Scalar.addi c0_i32_393 v1584
  let c1_i32_396 : BitVec 32 := 1#32
  ⟨v1588, v1585, c1_i32_396⟩
def k0_mult94 (i : grid0.Coords) (k0_t6 : Fin (k0_t6_loop i).trips) : BitVec 32 :=
  let c0_i32_393 : BitVec 32 := 0#32
  let arg1 : BitVec 32 := BitVec.ofNat 32 (i 1).val
  let c1_i32_391 : BitVec 32 := 1#32
  let v1582 : BitVec 32 := Scalar.addi arg1 c1_i32_391
  let c4_i32_392 : BitVec 32 := 4#32
  let v1583 : BitVec 32 := Scalar.muli v1582 c4_i32_392
  let v1584 : BitVec 32 := Scalar.subi v1583 c0_i32_393
  let c1_i32_394 : BitVec 32 := 1#32
  let v1586 : BitVec 32 := Scalar.divsi v1584 c1_i32_394
  let v1587 : BitVec 32 := Scalar.muli v1586 c1_i32_394
  let v1588 : BitVec 32 := Scalar.addi c0_i32_393 v1587
  let c1_i32_396 : BitVec 32 := 1#32
  let arg10 : BitVec 32 := Scf.iv v1588 c1_i32_396 k0_t6
  let c64_i32_429 : BitVec 32 := 64#32
  let v1671 : BitVec 32 := Scalar.muli arg10 c64_i32_429
  v1671
def k0_off13 (i : grid0.Coords) (k0_t6 : Fin (k0_t6_loop i).trips) : Fin 3 → Nat :=
  let c0_430 : Index := 0#32
  let c0_i32_393 : BitVec 32 := 0#32
  let arg1 : BitVec 32 := BitVec.ofNat 32 (i 1).val
  let c1_i32_391 : BitVec 32 := 1#32
  let v1582 : BitVec 32 := Scalar.addi arg1 c1_i32_391
  let c4_i32_392 : BitVec 32 := 4#32
  let v1583 : BitVec 32 := Scalar.muli v1582 c4_i32_392
  let v1584 : BitVec 32 := Scalar.subi v1583 c0_i32_393
  let c1_i32_394 : BitVec 32 := 1#32
  let v1586 : BitVec 32 := Scalar.divsi v1584 c1_i32_394
  let v1587 : BitVec 32 := Scalar.muli v1586 c1_i32_394
  let v1588 : BitVec 32 := Scalar.addi c0_i32_393 v1587
  let c1_i32_396 : BitVec 32 := 1#32
  let arg10 : BitVec 32 := Scf.iv v1588 c1_i32_396 k0_t6
  let c64_i32_429 : BitVec 32 := 64#32
  let v1671 : BitVec 32 := Scalar.muli arg10 c64_i32_429
  let v1672 : BitVec 32 := v1671
  let v1673 : Index := Scalar.indexCast v1672
  let c0_431 : Index := 0#32
  ![0, v1673.toNat, 0]
def k0_mult95 (i : grid0.Coords) : BitVec 32 :=
  let arg1 : BitVec 32 := BitVec.ofNat 32 (i 1).val
  let c4_i32_336 : BitVec 32 := 4#32
  let v1476 : BitVec 32 := Scalar.muli arg1 c4_i32_336
  let c0_i32_337 : BitVec 32 := 0#32
  let v1478 : BitVec 1 := Scalar.cmpi .sgt v1476 c0_i32_337
  let v1479 : BitVec 32 := Scalar.extui v1478
  let c0_i32_338 : BitVec 32 := 0#32
  let v1480 : BitVec 1 := Scalar.cmpi .slt v1476 c0_i32_338
  let v1481 : BitVec 32 := Scalar.extui v1480
  let v1482 : BitVec 32 := Scalar.subi v1479 v1481
  let c128_i32 : BitVec 32 := 128#32
  let c0_i32_339 : BitVec 32 := 0#32
  let v1483 : BitVec 1 := Scalar.cmpi .sgt c128_i32 c0_i32_339
  let v1484 : BitVec 32 := Scalar.extui v1483
  let c0_i32_340 : BitVec 32 := 0#32
  let v1485 : BitVec 1 := Scalar.cmpi .slt c128_i32 c0_i32_340
  let v1486 : BitVec 32 := Scalar.extui v1485
  let v1487 : BitVec 32 := Scalar.subi v1484 v1486
  let v1488 : BitVec 1 := Scalar.cmpi .ne v1482 v1487
  let v1489 : BitVec 32 := Scalar.remsi v1476 c128_i32
  let c0_i32_341 : BitVec 32 := 0#32
  let v1490 : BitVec 1 := Scalar.cmpi .ne v1489 c0_i32_341
  let v1491 : BitVec 1 := Scalar.andi v1488 v1490
  let v1477 : BitVec 32 := Scalar.divsi v1476 c128_i32
  let c1_i32_342 : BitVec 32 := 1#32
  let v1492 : BitVec 32 := Scalar.subi v1477 c1_i32_342
  let v1493 : BitVec 32 := Scalar.select v1491 v1492 v1477
  let c128_i32_343 : BitVec 32 := 128#32
  let v1494 : BitVec 32 := Scalar.muli v1493 c128_i32_343
  v1494
@[reducible] def k0_t7_loop (i : grid0.Coords) : Scf.Loop 32 :=
  let c0_i32_356 : BitVec 32 := 0#32
  let arg1 : BitVec 32 := BitVec.ofNat 32 (i 1).val
  let c1_i32_344 : BitVec 32 := 1#32
  let v1496 : BitVec 32 := Scalar.addi arg1 c1_i32_344
  let c4_i32_345 : BitVec 32 := 4#32
  let v1497 : BitVec 32 := Scalar.muli v1496 c4_i32_345
  let c8_i32_346 : BitVec 32 := 8#32
  let v1498 : BitVec 32 := Scalar.addi v1497 c8_i32_346
  let c1_i32_347 : BitVec 32 := 1#32
  let v1499 : BitVec 32 := Scalar.subi v1498 c1_i32_347
  let c0_i32_349 : BitVec 32 := 0#32
  let v1501 : BitVec 1 := Scalar.cmpi .sgt v1499 c0_i32_349
  let v1502 : BitVec 32 := Scalar.extui v1501
  let c0_i32_350 : BitVec 32 := 0#32
  let v1503 : BitVec 1 := Scalar.cmpi .slt v1499 c0_i32_350
  let v1504 : BitVec 32 := Scalar.extui v1503
  let v1505 : BitVec 32 := Scalar.subi v1502 v1504
  let c8_i32_348 : BitVec 32 := 8#32
  let c0_i32_351 : BitVec 32 := 0#32
  let v1506 : BitVec 1 := Scalar.cmpi .sgt c8_i32_348 c0_i32_351
  let v1507 : BitVec 32 := Scalar.extui v1506
  let c0_i32_352 : BitVec 32 := 0#32
  let v1508 : BitVec 1 := Scalar.cmpi .slt c8_i32_348 c0_i32_352
  let v1509 : BitVec 32 := Scalar.extui v1508
  let v1510 : BitVec 32 := Scalar.subi v1507 v1509
  let v1511 : BitVec 1 := Scalar.cmpi .ne v1505 v1510
  let v1512 : BitVec 32 := Scalar.remsi v1499 c8_i32_348
  let c0_i32_353 : BitVec 32 := 0#32
  let v1513 : BitVec 1 := Scalar.cmpi .ne v1512 c0_i32_353
  let v1514 : BitVec 1 := Scalar.andi v1511 v1513
  let v1500 : BitVec 32 := Scalar.divsi v1499 c8_i32_348
  let c1_i32_354 : BitVec 32 := 1#32
  let v1515 : BitVec 32 := Scalar.subi v1500 c1_i32_354
  let v1516 : BitVec 32 := Scalar.select v1514 v1515 v1500
  let v1517 : BitVec 32 := Scalar.subi v1516 c0_i32_356
  let c1_i32_357 : BitVec 32 := 1#32
  let v1519 : BitVec 32 := Scalar.divsi v1517 c1_i32_357
  let v1520 : BitVec 32 := Scalar.muli v1519 c1_i32_357
  let v1521 : BitVec 32 := Scalar.addi c0_i32_356 v1520
  let c1_i32_358 : BitVec 32 := 1#32
  ⟨c0_i32_356, v1521, c1_i32_358⟩
def k0_mult96 (i : grid0.Coords) (k0_t7 : Fin (k0_t7_loop i).trips) : BitVec 32 :=
  let c0_i32_356 : BitVec 32 := 0#32
  let c1_i32_358 : BitVec 32 := 1#32
  let arg10 : BitVec 32 := Scf.iv c0_i32_356 c1_i32_358 k0_t7
  let c8_i32_361 : BitVec 32 := 8#32
  let v1525 : BitVec 32 := Scalar.muli arg10 c8_i32_361
  let c8_i32_362 : BitVec 32 := 8#32
  let v1526 : BitVec 32 := Scalar.muli v1525 c8_i32_362
  v1526
def k0_mult97 (i : grid0.Coords) (k0_t7 : Fin (k0_t7_loop i).trips) : BitVec 32 :=
  let c0_i32_356 : BitVec 32 := 0#32
  let c1_i32_358 : BitVec 32 := 1#32
  let arg10 : BitVec 32 := Scf.iv c0_i32_356 c1_i32_358 k0_t7
  let c8_i32_363 : BitVec 32 := 8#32
  let v1528 : BitVec 32 := Scalar.muli arg10 c8_i32_363
  v1528
def k0_off14 (i : grid0.Coords) (k0_t7 : Fin (k0_t7_loop i).trips) : Fin 2 → Nat :=
  let c0_i32_356 : BitVec 32 := 0#32
  let c1_i32_358 : BitVec 32 := 1#32
  let arg10 : BitVec 32 := Scf.iv c0_i32_356 c1_i32_358 k0_t7
  let c8_i32_363 : BitVec 32 := 8#32
  let v1528 : BitVec 32 := Scalar.muli arg10 c8_i32_363
  let v1529 : BitVec 32 := v1528
  let v1530 : Index := Scalar.indexCast v1529
  let arg1 : BitVec 32 := BitVec.ofNat 32 (i 1).val
  let c4_i32_336 : BitVec 32 := 4#32
  let v1476 : BitVec 32 := Scalar.muli arg1 c4_i32_336
  let c0_i32_337 : BitVec 32 := 0#32
  let v1478 : BitVec 1 := Scalar.cmpi .sgt v1476 c0_i32_337
  let v1479 : BitVec 32 := Scalar.extui v1478
  let c0_i32_338 : BitVec 32 := 0#32
  let v1480 : BitVec 1 := Scalar.cmpi .slt v1476 c0_i32_338
  let v1481 : BitVec 32 := Scalar.extui v1480
  let v1482 : BitVec 32 := Scalar.subi v1479 v1481
  let c128_i32 : BitVec 32 := 128#32
  let c0_i32_339 : BitVec 32 := 0#32
  let v1483 : BitVec 1 := Scalar.cmpi .sgt c128_i32 c0_i32_339
  let v1484 : BitVec 32 := Scalar.extui v1483
  let c0_i32_340 : BitVec 32 := 0#32
  let v1485 : BitVec 1 := Scalar.cmpi .slt c128_i32 c0_i32_340
  let v1486 : BitVec 32 := Scalar.extui v1485
  let v1487 : BitVec 32 := Scalar.subi v1484 v1486
  let v1488 : BitVec 1 := Scalar.cmpi .ne v1482 v1487
  let v1489 : BitVec 32 := Scalar.remsi v1476 c128_i32
  let c0_i32_341 : BitVec 32 := 0#32
  let v1490 : BitVec 1 := Scalar.cmpi .ne v1489 c0_i32_341
  let v1491 : BitVec 1 := Scalar.andi v1488 v1490
  let v1477 : BitVec 32 := Scalar.divsi v1476 c128_i32
  let c1_i32_342 : BitVec 32 := 1#32
  let v1492 : BitVec 32 := Scalar.subi v1477 c1_i32_342
  let v1493 : BitVec 32 := Scalar.select v1491 v1492 v1477
  let c128_i32_343 : BitVec 32 := 128#32
  let v1494 : BitVec 32 := Scalar.muli v1493 c128_i32_343
  let v1495 : BitVec 32 := v1494
  let v1531 : Index := Scalar.indexCast v1495
  ![v1530.toNat, v1531.toNat]
def k0_off15 (i : grid0.Coords) (k0_t7 : Fin (k0_t7_loop i).trips) (c0_i32_366 : BitVec 32) (c0_i32_367 : BitVec 32) : Fin 2 → Nat :=
  let c0_i32_356 : BitVec 32 := 0#32
  let c1_i32_358 : BitVec 32 := 1#32
  let arg10 : BitVec 32 := Scf.iv c0_i32_356 c1_i32_358 k0_t7
  let c8_i32_361 : BitVec 32 := 8#32
  let v1525 : BitVec 32 := Scalar.muli arg10 c8_i32_361
  let c8_i32_362 : BitVec 32 := 8#32
  let v1526 : BitVec 32 := Scalar.muli v1525 c8_i32_362
  let v1527 : BitVec 32 := v1526
  let v1535 : BitVec 32 := Scalar.addi c0_i32_366 v1527
  let v1536 : BitVec 32 := Scalar.addi v1535 c0_i32_367
  let v1537 : Index := Scalar.indexCast v1536
  let c0_368 : Index := 0#32
  ![v1537.toNat, 0]
@[reducible] def k0_t8_loop (i : grid0.Coords) : Scf.Loop 32 :=
  let c0_i32_356 : BitVec 32 := 0#32
  let arg1 : BitVec 32 := BitVec.ofNat 32 (i 1).val
  let c1_i32_344 : BitVec 32 := 1#32
  let v1496 : BitVec 32 := Scalar.addi arg1 c1_i32_344
  let c4_i32_345 : BitVec 32 := 4#32
  let v1497 : BitVec 32 := Scalar.muli v1496 c4_i32_345
  let c8_i32_346 : BitVec 32 := 8#32
  let v1498 : BitVec 32 := Scalar.addi v1497 c8_i32_346
  let c1_i32_347 : BitVec 32 := 1#32
  let v1499 : BitVec 32 := Scalar.subi v1498 c1_i32_347
  let c0_i32_349 : BitVec 32 := 0#32
  let v1501 : BitVec 1 := Scalar.cmpi .sgt v1499 c0_i32_349
  let v1502 : BitVec 32 := Scalar.extui v1501
  let c0_i32_350 : BitVec 32 := 0#32
  let v1503 : BitVec 1 := Scalar.cmpi .slt v1499 c0_i32_350
  let v1504 : BitVec 32 := Scalar.extui v1503
  let v1505 : BitVec 32 := Scalar.subi v1502 v1504
  let c8_i32_348 : BitVec 32 := 8#32
  let c0_i32_351 : BitVec 32 := 0#32
  let v1506 : BitVec 1 := Scalar.cmpi .sgt c8_i32_348 c0_i32_351
  let v1507 : BitVec 32 := Scalar.extui v1506
  let c0_i32_352 : BitVec 32 := 0#32
  let v1508 : BitVec 1 := Scalar.cmpi .slt c8_i32_348 c0_i32_352
  let v1509 : BitVec 32 := Scalar.extui v1508
  let v1510 : BitVec 32 := Scalar.subi v1507 v1509
  let v1511 : BitVec 1 := Scalar.cmpi .ne v1505 v1510
  let v1512 : BitVec 32 := Scalar.remsi v1499 c8_i32_348
  let c0_i32_353 : BitVec 32 := 0#32
  let v1513 : BitVec 1 := Scalar.cmpi .ne v1512 c0_i32_353
  let v1514 : BitVec 1 := Scalar.andi v1511 v1513
  let v1500 : BitVec 32 := Scalar.divsi v1499 c8_i32_348
  let c1_i32_354 : BitVec 32 := 1#32
  let v1515 : BitVec 32 := Scalar.subi v1500 c1_i32_354
  let v1516 : BitVec 32 := Scalar.select v1514 v1515 v1500
  let v1517 : BitVec 32 := Scalar.subi v1516 c0_i32_356
  let c1_i32_357 : BitVec 32 := 1#32
  let v1519 : BitVec 32 := Scalar.divsi v1517 c1_i32_357
  let v1520 : BitVec 32 := Scalar.muli v1519 c1_i32_357
  let v1521 : BitVec 32 := Scalar.addi c0_i32_356 v1520
  let v1518 : BitVec 32 := Scalar.addi c0_i32_356 v1517
  let c1_i32_359 : BitVec 32 := 1#32
  ⟨v1521, v1518, c1_i32_359⟩
def k0_mult98 (i : grid0.Coords) (k0_t8 : Fin (k0_t8_loop i).trips) : BitVec 32 :=
  let c0_i32_356 : BitVec 32 := 0#32
  let arg1 : BitVec 32 := BitVec.ofNat 32 (i 1).val
  let c1_i32_344 : BitVec 32 := 1#32
  let v1496 : BitVec 32 := Scalar.addi arg1 c1_i32_344
  let c4_i32_345 : BitVec 32 := 4#32
  let v1497 : BitVec 32 := Scalar.muli v1496 c4_i32_345
  let c8_i32_346 : BitVec 32 := 8#32
  let v1498 : BitVec 32 := Scalar.addi v1497 c8_i32_346
  let c1_i32_347 : BitVec 32 := 1#32
  let v1499 : BitVec 32 := Scalar.subi v1498 c1_i32_347
  let c0_i32_349 : BitVec 32 := 0#32
  let v1501 : BitVec 1 := Scalar.cmpi .sgt v1499 c0_i32_349
  let v1502 : BitVec 32 := Scalar.extui v1501
  let c0_i32_350 : BitVec 32 := 0#32
  let v1503 : BitVec 1 := Scalar.cmpi .slt v1499 c0_i32_350
  let v1504 : BitVec 32 := Scalar.extui v1503
  let v1505 : BitVec 32 := Scalar.subi v1502 v1504
  let c8_i32_348 : BitVec 32 := 8#32
  let c0_i32_351 : BitVec 32 := 0#32
  let v1506 : BitVec 1 := Scalar.cmpi .sgt c8_i32_348 c0_i32_351
  let v1507 : BitVec 32 := Scalar.extui v1506
  let c0_i32_352 : BitVec 32 := 0#32
  let v1508 : BitVec 1 := Scalar.cmpi .slt c8_i32_348 c0_i32_352
  let v1509 : BitVec 32 := Scalar.extui v1508
  let v1510 : BitVec 32 := Scalar.subi v1507 v1509
  let v1511 : BitVec 1 := Scalar.cmpi .ne v1505 v1510
  let v1512 : BitVec 32 := Scalar.remsi v1499 c8_i32_348
  let c0_i32_353 : BitVec 32 := 0#32
  let v1513 : BitVec 1 := Scalar.cmpi .ne v1512 c0_i32_353
  let v1514 : BitVec 1 := Scalar.andi v1511 v1513
  let v1500 : BitVec 32 := Scalar.divsi v1499 c8_i32_348
  let c1_i32_354 : BitVec 32 := 1#32
  let v1515 : BitVec 32 := Scalar.subi v1500 c1_i32_354
  let v1516 : BitVec 32 := Scalar.select v1514 v1515 v1500
  let v1517 : BitVec 32 := Scalar.subi v1516 c0_i32_356
  let c1_i32_357 : BitVec 32 := 1#32
  let v1519 : BitVec 32 := Scalar.divsi v1517 c1_i32_357
  let v1520 : BitVec 32 := Scalar.muli v1519 c1_i32_357
  let v1521 : BitVec 32 := Scalar.addi c0_i32_356 v1520
  let c1_i32_359 : BitVec 32 := 1#32
  let arg10 : BitVec 32 := Scf.iv v1521 c1_i32_359 k0_t8
  let c8_i32_361 : BitVec 32 := 8#32
  let v1525 : BitVec 32 := Scalar.muli arg10 c8_i32_361
  let c8_i32_362 : BitVec 32 := 8#32
  let v1526 : BitVec 32 := Scalar.muli v1525 c8_i32_362
  v1526
def k0_mult99 (i : grid0.Coords) (k0_t8 : Fin (k0_t8_loop i).trips) : BitVec 32 :=
  let c0_i32_356 : BitVec 32 := 0#32
  let arg1 : BitVec 32 := BitVec.ofNat 32 (i 1).val
  let c1_i32_344 : BitVec 32 := 1#32
  let v1496 : BitVec 32 := Scalar.addi arg1 c1_i32_344
  let c4_i32_345 : BitVec 32 := 4#32
  let v1497 : BitVec 32 := Scalar.muli v1496 c4_i32_345
  let c8_i32_346 : BitVec 32 := 8#32
  let v1498 : BitVec 32 := Scalar.addi v1497 c8_i32_346
  let c1_i32_347 : BitVec 32 := 1#32
  let v1499 : BitVec 32 := Scalar.subi v1498 c1_i32_347
  let c0_i32_349 : BitVec 32 := 0#32
  let v1501 : BitVec 1 := Scalar.cmpi .sgt v1499 c0_i32_349
  let v1502 : BitVec 32 := Scalar.extui v1501
  let c0_i32_350 : BitVec 32 := 0#32
  let v1503 : BitVec 1 := Scalar.cmpi .slt v1499 c0_i32_350
  let v1504 : BitVec 32 := Scalar.extui v1503
  let v1505 : BitVec 32 := Scalar.subi v1502 v1504
  let c8_i32_348 : BitVec 32 := 8#32
  let c0_i32_351 : BitVec 32 := 0#32
  let v1506 : BitVec 1 := Scalar.cmpi .sgt c8_i32_348 c0_i32_351
  let v1507 : BitVec 32 := Scalar.extui v1506
  let c0_i32_352 : BitVec 32 := 0#32
  let v1508 : BitVec 1 := Scalar.cmpi .slt c8_i32_348 c0_i32_352
  let v1509 : BitVec 32 := Scalar.extui v1508
  let v1510 : BitVec 32 := Scalar.subi v1507 v1509
  let v1511 : BitVec 1 := Scalar.cmpi .ne v1505 v1510
  let v1512 : BitVec 32 := Scalar.remsi v1499 c8_i32_348
  let c0_i32_353 : BitVec 32 := 0#32
  let v1513 : BitVec 1 := Scalar.cmpi .ne v1512 c0_i32_353
  let v1514 : BitVec 1 := Scalar.andi v1511 v1513
  let v1500 : BitVec 32 := Scalar.divsi v1499 c8_i32_348
  let c1_i32_354 : BitVec 32 := 1#32
  let v1515 : BitVec 32 := Scalar.subi v1500 c1_i32_354
  let v1516 : BitVec 32 := Scalar.select v1514 v1515 v1500
  let v1517 : BitVec 32 := Scalar.subi v1516 c0_i32_356
  let c1_i32_357 : BitVec 32 := 1#32
  let v1519 : BitVec 32 := Scalar.divsi v1517 c1_i32_357
  let v1520 : BitVec 32 := Scalar.muli v1519 c1_i32_357
  let v1521 : BitVec 32 := Scalar.addi c0_i32_356 v1520
  let c1_i32_359 : BitVec 32 := 1#32
  let arg10 : BitVec 32 := Scf.iv v1521 c1_i32_359 k0_t8
  let c8_i32_363 : BitVec 32 := 8#32
  let v1528 : BitVec 32 := Scalar.muli arg10 c8_i32_363
  v1528
def k0_off16 (i : grid0.Coords) (k0_t8 : Fin (k0_t8_loop i).trips) : Fin 2 → Nat :=
  let c0_i32_356 : BitVec 32 := 0#32
  let arg1 : BitVec 32 := BitVec.ofNat 32 (i 1).val
  let c1_i32_344 : BitVec 32 := 1#32
  let v1496 : BitVec 32 := Scalar.addi arg1 c1_i32_344
  let c4_i32_345 : BitVec 32 := 4#32
  let v1497 : BitVec 32 := Scalar.muli v1496 c4_i32_345
  let c8_i32_346 : BitVec 32 := 8#32
  let v1498 : BitVec 32 := Scalar.addi v1497 c8_i32_346
  let c1_i32_347 : BitVec 32 := 1#32
  let v1499 : BitVec 32 := Scalar.subi v1498 c1_i32_347
  let c0_i32_349 : BitVec 32 := 0#32
  let v1501 : BitVec 1 := Scalar.cmpi .sgt v1499 c0_i32_349
  let v1502 : BitVec 32 := Scalar.extui v1501
  let c0_i32_350 : BitVec 32 := 0#32
  let v1503 : BitVec 1 := Scalar.cmpi .slt v1499 c0_i32_350
  let v1504 : BitVec 32 := Scalar.extui v1503
  let v1505 : BitVec 32 := Scalar.subi v1502 v1504
  let c8_i32_348 : BitVec 32 := 8#32
  let c0_i32_351 : BitVec 32 := 0#32
  let v1506 : BitVec 1 := Scalar.cmpi .sgt c8_i32_348 c0_i32_351
  let v1507 : BitVec 32 := Scalar.extui v1506
  let c0_i32_352 : BitVec 32 := 0#32
  let v1508 : BitVec 1 := Scalar.cmpi .slt c8_i32_348 c0_i32_352
  let v1509 : BitVec 32 := Scalar.extui v1508
  let v1510 : BitVec 32 := Scalar.subi v1507 v1509
  let v1511 : BitVec 1 := Scalar.cmpi .ne v1505 v1510
  let v1512 : BitVec 32 := Scalar.remsi v1499 c8_i32_348
  let c0_i32_353 : BitVec 32 := 0#32
  let v1513 : BitVec 1 := Scalar.cmpi .ne v1512 c0_i32_353
  let v1514 : BitVec 1 := Scalar.andi v1511 v1513
  let v1500 : BitVec 32 := Scalar.divsi v1499 c8_i32_348
  let c1_i32_354 : BitVec 32 := 1#32
  let v1515 : BitVec 32 := Scalar.subi v1500 c1_i32_354
  let v1516 : BitVec 32 := Scalar.select v1514 v1515 v1500
  let v1517 : BitVec 32 := Scalar.subi v1516 c0_i32_356
  let c1_i32_357 : BitVec 32 := 1#32
  let v1519 : BitVec 32 := Scalar.divsi v1517 c1_i32_357
  let v1520 : BitVec 32 := Scalar.muli v1519 c1_i32_357
  let v1521 : BitVec 32 := Scalar.addi c0_i32_356 v1520
  let c1_i32_359 : BitVec 32 := 1#32
  let arg10 : BitVec 32 := Scf.iv v1521 c1_i32_359 k0_t8
  let c8_i32_363 : BitVec 32 := 8#32
  let v1528 : BitVec 32 := Scalar.muli arg10 c8_i32_363
  let v1529 : BitVec 32 := v1528
  let v1530 : Index := Scalar.indexCast v1529
  let c4_i32_336 : BitVec 32 := 4#32
  let v1476 : BitVec 32 := Scalar.muli arg1 c4_i32_336
  let c0_i32_337 : BitVec 32 := 0#32
  let v1478 : BitVec 1 := Scalar.cmpi .sgt v1476 c0_i32_337
  let v1479 : BitVec 32 := Scalar.extui v1478
  let c0_i32_338 : BitVec 32 := 0#32
  let v1480 : BitVec 1 := Scalar.cmpi .slt v1476 c0_i32_338
  let v1481 : BitVec 32 := Scalar.extui v1480
  let v1482 : BitVec 32 := Scalar.subi v1479 v1481
  let c128_i32 : BitVec 32 := 128#32
  let c0_i32_339 : BitVec 32 := 0#32
  let v1483 : BitVec 1 := Scalar.cmpi .sgt c128_i32 c0_i32_339
  let v1484 : BitVec 32 := Scalar.extui v1483
  let c0_i32_340 : BitVec 32 := 0#32
  let v1485 : BitVec 1 := Scalar.cmpi .slt c128_i32 c0_i32_340
  let v1486 : BitVec 32 := Scalar.extui v1485
  let v1487 : BitVec 32 := Scalar.subi v1484 v1486
  let v1488 : BitVec 1 := Scalar.cmpi .ne v1482 v1487
  let v1489 : BitVec 32 := Scalar.remsi v1476 c128_i32
  let c0_i32_341 : BitVec 32 := 0#32
  let v1490 : BitVec 1 := Scalar.cmpi .ne v1489 c0_i32_341
  let v1491 : BitVec 1 := Scalar.andi v1488 v1490
  let v1477 : BitVec 32 := Scalar.divsi v1476 c128_i32
  let c1_i32_342 : BitVec 32 := 1#32
  let v1492 : BitVec 32 := Scalar.subi v1477 c1_i32_342
  let v1493 : BitVec 32 := Scalar.select v1491 v1492 v1477
  let c128_i32_343 : BitVec 32 := 128#32
  let v1494 : BitVec 32 := Scalar.muli v1493 c128_i32_343
  let v1495 : BitVec 32 := v1494
  let v1531 : Index := Scalar.indexCast v1495
  ![v1530.toNat, v1531.toNat]
def k0_off17 (i : grid0.Coords) (k0_t8 : Fin (k0_t8_loop i).trips) (c0_i32_366 : BitVec 32) (c0_i32_367 : BitVec 32) : Fin 2 → Nat :=
  let c0_i32_356 : BitVec 32 := 0#32
  let arg1 : BitVec 32 := BitVec.ofNat 32 (i 1).val
  let c1_i32_344 : BitVec 32 := 1#32
  let v1496 : BitVec 32 := Scalar.addi arg1 c1_i32_344
  let c4_i32_345 : BitVec 32 := 4#32
  let v1497 : BitVec 32 := Scalar.muli v1496 c4_i32_345
  let c8_i32_346 : BitVec 32 := 8#32
  let v1498 : BitVec 32 := Scalar.addi v1497 c8_i32_346
  let c1_i32_347 : BitVec 32 := 1#32
  let v1499 : BitVec 32 := Scalar.subi v1498 c1_i32_347
  let c0_i32_349 : BitVec 32 := 0#32
  let v1501 : BitVec 1 := Scalar.cmpi .sgt v1499 c0_i32_349
  let v1502 : BitVec 32 := Scalar.extui v1501
  let c0_i32_350 : BitVec 32 := 0#32
  let v1503 : BitVec 1 := Scalar.cmpi .slt v1499 c0_i32_350
  let v1504 : BitVec 32 := Scalar.extui v1503
  let v1505 : BitVec 32 := Scalar.subi v1502 v1504
  let c8_i32_348 : BitVec 32 := 8#32
  let c0_i32_351 : BitVec 32 := 0#32
  let v1506 : BitVec 1 := Scalar.cmpi .sgt c8_i32_348 c0_i32_351
  let v1507 : BitVec 32 := Scalar.extui v1506
  let c0_i32_352 : BitVec 32 := 0#32
  let v1508 : BitVec 1 := Scalar.cmpi .slt c8_i32_348 c0_i32_352
  let v1509 : BitVec 32 := Scalar.extui v1508
  let v1510 : BitVec 32 := Scalar.subi v1507 v1509
  let v1511 : BitVec 1 := Scalar.cmpi .ne v1505 v1510
  let v1512 : BitVec 32 := Scalar.remsi v1499 c8_i32_348
  let c0_i32_353 : BitVec 32 := 0#32
  let v1513 : BitVec 1 := Scalar.cmpi .ne v1512 c0_i32_353
  let v1514 : BitVec 1 := Scalar.andi v1511 v1513
  let v1500 : BitVec 32 := Scalar.divsi v1499 c8_i32_348
  let c1_i32_354 : BitVec 32 := 1#32
  let v1515 : BitVec 32 := Scalar.subi v1500 c1_i32_354
  let v1516 : BitVec 32 := Scalar.select v1514 v1515 v1500
  let v1517 : BitVec 32 := Scalar.subi v1516 c0_i32_356
  let c1_i32_357 : BitVec 32 := 1#32
  let v1519 : BitVec 32 := Scalar.divsi v1517 c1_i32_357
  let v1520 : BitVec 32 := Scalar.muli v1519 c1_i32_357
  let v1521 : BitVec 32 := Scalar.addi c0_i32_356 v1520
  let c1_i32_359 : BitVec 32 := 1#32
  let arg10 : BitVec 32 := Scf.iv v1521 c1_i32_359 k0_t8
  let c8_i32_361 : BitVec 32 := 8#32
  let v1525 : BitVec 32 := Scalar.muli arg10 c8_i32_361
  let c8_i32_362 : BitVec 32 := 8#32
  let v1526 : BitVec 32 := Scalar.muli v1525 c8_i32_362
  let v1527 : BitVec 32 := v1526
  let v1535 : BitVec 32 := Scalar.addi c0_i32_366 v1527
  let v1536 : BitVec 32 := Scalar.addi v1535 c0_i32_367
  let v1537 : Index := Scalar.indexCast v1536
  let c0_368 : Index := 0#32
  ![v1537.toNat, 0]
def k0_cond3 (i : grid0.Coords) : BitVec 1 :=
  let arg1 : BitVec 32 := BitVec.ofNat 32 (i 1).val
  let c39_i32 : BitVec 32 := 39#32
  let v1522 : BitVec 1 := Scalar.cmpi .eq arg1 c39_i32
  let v1523 : BitVec 32 := Scalar.extui v1522
  let c0_i32_360 : BitVec 32 := 0#32
  let v1524 : BitVec 1 := Scalar.cmpi .ne v1523 c0_i32_360
  v1524

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x96 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10240x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x160x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S4x10240x32x96 : Shape := ⟨4, ![4, 10240, 32, 96]⟩
abbrev S4x32 : Shape := ⟨2, ![4, 32]⟩
abbrev S4x10240x8x96 : Shape := ⟨4, ![4, 10240, 8, 96]⟩
abbrev S4x8 : Shape := ⟨2, ![4, 8]⟩
abbrev S4x8x4 : Shape := ⟨3, ![4, 8, 4]⟩
abbrev S4x8x1 : Shape := ⟨3, ![4, 8, 1]⟩
abbrev S_ : Shape := ⟨0, ![]⟩
abbrev S4x10240x8x4x96 : Shape := ⟨5, ![4, 10240, 8, 4, 96]⟩
abbrev S4x8x10240x10240x4 : Shape := ⟨5, ![4, 8, 10240, 10240, 4]⟩
abbrev S4x8x4x10240x10240 : Shape := ⟨5, ![4, 8, 4, 10240, 10240]⟩
abbrev S4x8x4x1x1 : Shape := ⟨5, ![4, 8, 4, 1, 1]⟩
abbrev S10240 : Shape := ⟨1, ![10240]⟩
abbrev S1x10240 : Shape := ⟨2, ![1, 10240]⟩
abbrev S10240x1 : Shape := ⟨2, ![10240, 1]⟩
abbrev S10240x10240 : Shape := ⟨2, ![10240, 10240]⟩
abbrev S4x8x4x10240 : Shape := ⟨4, ![4, 8, 4, 10240]⟩
abbrev S4x8x4x10240x1 : Shape := ⟨5, ![4, 8, 4, 10240, 1]⟩
abbrev S4x8x4x10240x160x64 : Shape := ⟨6, ![4, 8, 4, 10240, 160, 64]⟩
abbrev S4x8x4x10240x160 : Shape := ⟨5, ![4, 8, 4, 10240, 160]⟩
abbrev S4x8x4x160x64x160 : Shape := ⟨6, ![4, 8, 4, 160, 64, 160]⟩
abbrev S4x8x160x160 : Shape := ⟨4, ![4, 8, 160, 160]⟩
abbrev S4x8x160 : Shape := ⟨3, ![4, 8, 160]⟩
abbrev S4x8x160x1 : Shape := ⟨4, ![4, 8, 160, 1]⟩
abbrev S4x32x10240 : Shape := ⟨3, ![4, 32, 10240]⟩
abbrev S1x1x10240 : Shape := ⟨3, ![1, 1, 10240]⟩

abbrev nBuf : Space → Nat
  | .hbm => 64
  | .vmem => 4
  | .smem => 0
  | _ => 0

abbrev bufTy : (tb : Table) → Fin (tcTables nBuf tb) → BufTy
  | .hbm, ⟨0, _⟩ => ⟨S4x10240x32x96, .fp8e4m3⟩
  | .hbm, ⟨1, _⟩ => ⟨S4x32, .f32⟩
  | .hbm, ⟨2, _⟩ => ⟨S4x10240x8x96, .fp8e4m3⟩
  | .hbm, ⟨3, _⟩ => ⟨S4x8, .f32⟩
  | .hbm, ⟨4, _⟩ => ⟨S4x8x4, .f32⟩
  | .hbm, ⟨5, _⟩ => ⟨S4x8x1, .f32⟩
  | .hbm, ⟨6, _⟩ => ⟨S4x8x4, .f32⟩
  | .hbm, ⟨7, _⟩ => ⟨S4x8x4, .f32⟩
  | .hbm, ⟨8, _⟩ => ⟨S_, .f32⟩
  | .hbm, ⟨9, _⟩ => ⟨S4x8x4, .f32⟩
  | .hbm, ⟨10, _⟩ => ⟨S4x8x4, .f32⟩
  | .hbm, ⟨11, _⟩ => ⟨S4x10240x32x96, .f32⟩
  | .hbm, ⟨12, _⟩ => ⟨S4x10240x8x96, .f32⟩
  | .hbm, ⟨13, _⟩ => ⟨S4x10240x8x4x96, .f32⟩
  | .hbm, ⟨14, _⟩ => ⟨S4x8x10240x10240x4, .f32⟩
  | .hbm, ⟨15, _⟩ => ⟨S4x8x4x10240x10240, .f32⟩
  | .hbm, ⟨16, _⟩ => ⟨S4x8x4x1x1, .f32⟩
  | .hbm, ⟨17, _⟩ => ⟨S4x8x4x10240x10240, .f32⟩
  | .hbm, ⟨18, _⟩ => ⟨S4x8x4x10240x10240, .f32⟩
  | .hbm, ⟨19, _⟩ => ⟨S10240, .i32⟩
  | .hbm, ⟨20, _⟩ => ⟨S1x10240, .i32⟩
  | .hbm, ⟨21, _⟩ => ⟨S10240x1, .i32⟩
  | .hbm, ⟨22, _⟩ => ⟨S10240x10240, .i32⟩
  | .hbm, ⟨23, _⟩ => ⟨S10240x10240, .i32⟩
  | .hbm, ⟨24, _⟩ => ⟨S10240x10240, .i1⟩
  | .hbm, ⟨25, _⟩ => ⟨S_, .f32⟩
  | .hbm, ⟨26, _⟩ => ⟨S_, .f32⟩
  | .hbm, ⟨27, _⟩ => ⟨S4x8x4x10240x10240, .i1⟩
  | .hbm, ⟨28, _⟩ => ⟨S4x8x4x10240x10240, .f32⟩
  | .hbm, ⟨29, _⟩ => ⟨S4x8x4x10240x10240, .f32⟩
  | .hbm, ⟨30, _⟩ => ⟨S_, .f32⟩
  | .hbm, ⟨31, _⟩ => ⟨S4x8x4x10240, .f32⟩
  | .hbm, ⟨32, _⟩ => ⟨S4x8x4x10240x1, .f32⟩
  | .hbm, ⟨33, _⟩ => ⟨S4x8x4x10240x10240, .f32⟩
  | .hbm, ⟨34, _⟩ => ⟨S4x8x4x10240x10240, .f32⟩
  | .hbm, ⟨35, _⟩ => ⟨S4x8x4x10240x10240, .f32⟩
  | .hbm, ⟨36, _⟩ => ⟨S_, .f32⟩
  | .hbm, ⟨37, _⟩ => ⟨S4x8x4x10240, .f32⟩
  | .hbm, ⟨38, _⟩ => ⟨S4x8x4x10240x1, .f32⟩
  | .hbm, ⟨39, _⟩ => ⟨S4x8x4x10240x1, .f32⟩
  | .hbm, ⟨40, _⟩ => ⟨S4x8x4x10240x1, .f32⟩
  | .hbm, ⟨41, _⟩ => ⟨S4x8x4x10240x10240, .f32⟩
  | .hbm, ⟨42, _⟩ => ⟨S4x8x4x10240x10240, .f32⟩
  | .hbm, ⟨43, _⟩ => ⟨S4x8x4x10240x10240, .f32⟩
  | .hbm, ⟨44, _⟩ => ⟨S4x8x4x10240x160x64, .f32⟩
  | .hbm, ⟨45, _⟩ => ⟨S_, .f32⟩
  | .hbm, ⟨46, _⟩ => ⟨S4x8x4x10240x160, .f32⟩
  | .hbm, ⟨47, _⟩ => ⟨S4x8x4x160x64x160, .f32⟩
  | .hbm, ⟨48, _⟩ => ⟨S_, .f32⟩
  | .hbm, ⟨49, _⟩ => ⟨S4x8x160x160, .f32⟩
  | .hbm, ⟨50, _⟩ => ⟨S_, .f32⟩
  | .hbm, ⟨51, _⟩ => ⟨S4x8x160, .f32⟩
  | .hbm, ⟨52, _⟩ => ⟨S4x8x160x1, .f32⟩
  | .hbm, ⟨53, _⟩ => ⟨S4x8x160x160, .f32⟩
  | .hbm, ⟨54, _⟩ => ⟨S4x8x160x160, .f32⟩
  | .hbm, ⟨55, _⟩ => ⟨S4x32x10240, .f32⟩
  | .hbm, ⟨56, _⟩ => ⟨S_, .i32⟩
  | .hbm, ⟨57, _⟩ => ⟨S10240, .i32⟩
  | .hbm, ⟨58, _⟩ => ⟨S10240, .i32⟩
  | .hbm, ⟨59, _⟩ => ⟨S10240, .f32⟩
  | .hbm, ⟨60, _⟩ => ⟨S10240, .f32⟩
  | .hbm, ⟨61, _⟩ => ⟨S1x1x10240, .f32⟩
  | .hbm, ⟨62, _⟩ => ⟨S4x32x10240, .f32⟩
  | .hbm, ⟨63, _⟩ => ⟨S4x32x10240, .f32⟩
  | .local _ .vmem, ⟨0, _⟩ => ⟨S4x10240x32x96, .fp8e4m3⟩
  | .local _ .vmem, ⟨1, _⟩ => ⟨S4x10240x8x96, .fp8e4m3⟩
  | .local _ .vmem, ⟨2, _⟩ => ⟨S4x10240x32x96, .f32⟩
  | .local _ .vmem, ⟨3, _⟩ => ⟨S4x10240x8x96, .f32⟩
  | _, _ => ⟨S4x10240x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x10240x32x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x10240x8x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x10240x32x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x10240x8x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KFrame.lean ====
/-
  `Kernel`'s frame. The body is run once by `sl_exec_parts` from every window and scratch buffer at some contents
  (its counted loops by the generated invariants), the two outputs and the scratch handed back at some contents;
  the launch forgets both outputs, so only the inputs' blocks are named.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The body, run once -/

/-- The body from every buffer at some contents: it returns, the inputs as they were and the rest at some contents. -/
theorem kernelRun (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (f2 : BufTy.Contents (Elt F) arg2.view.ty) (f3 : BufTy.Contents (Elt F) arg3.view.ty)
    (f4 : BufTy.Contents (Elt F) arg4.view.ty) (f5 : BufTy.Contents (Elt F) arg5.view.ty)
    (f6 : BufTy.Contents (Elt F) arg6.view.ty) (f7 : BufTy.Contents (Elt F) arg7.view.ty)
    (f8 : BufTy.Contents (Elt F) arg8.view.ty) (f9 : BufTy.Contents (Elt F) arg9.view.ty)
    (K : PUnit → sProp 𝕄) :
    iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} f8) ∗ (arg9.view.loc (c : Thread nD τ) ↦[arg9.view.set]{fullShare} f9)
        ∗ (iprop((arg2.view.loc (c : Thread nD τ) ↦[arg2.view.set]{fullShare} f2) ∗ (arg3.view.loc (c : Thread nD τ) ↦[arg3.view.set]{fullShare} f3)
              ∗ (arg4.view.loc (c : Thread nD τ) ↦[arg4.view.set]{fullShare} f4) ∗ (∃ f, arg5.view.loc (c : Thread nD τ) ↦[arg5.view.set]{fullShare} f)
              ∗ (∃ f, arg6.view.loc (c : Thread nD τ) ↦[arg6.view.set]{fullShare} f) ∗ (∃ f, arg7.view.loc (c : Thread nD τ) ↦[arg7.view.set]{fullShare} f)
              ∗ (∃ f, arg8.view.loc (c : Thread nD τ) ↦[arg8.view.set]{fullShare} f) ∗ (∃ f, arg9.view.loc (c : Thread nD τ) ↦[arg9.view.set]{fullShare} f)) -∗ K ⟨⟩))
      ⊢ wp frame (wpE (defs₀ (F := F)) Variants.none c none) Set.univ
          (cc0_gate_target i arg2 harg2 arg3 harg3 arg4 harg4 arg5 harg5 arg6 harg6 arg7 harg7 arg8 harg8 arg9 harg9) K := by
  simp only [cc0_gate_target_eq_skeleton]; unfold cc0_gate_target_skel
  iintro ⟨H2, H3, H4, H5, H6, H7, H8, H9, Hk⟩
  sl_exec_parts
  by_cases hC : kernelRun.sl.v1399 c i arg2 harg2 arg3 harg3 arg4 harg4 arg5 harg5 arg6 harg6 arg7 harg7 arg8 harg8
      arg9 harg9 f2 f3 f4 = 1#1
  all_goals
    sl_exec_parts
    sl_step
    iapply Hk
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iexists _; iexact H9

/-! ## The launch -/

variable (m : (ℓ : Loc nD τ sig) → Buf (Elt F) ℓ) (ρ : Dev nD → PrngReg)

/-- The two outputs, forgotten: the frame reads nothing of what the kernel leaves there. -/
def forgets : Fin 5 → Bool := fun w => decide (3 ≤ w.val)

/-- The proof data: the arrays as the region finds them, the inputs' blocks left as they are, the outputs unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
    | 4 => Pipeline.Dat.unnamed (cfg := cfg0) 4 t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, owns (c : Thread nD τ) (st0_3 t) fullShare X)
    ∗ (∃ X, owns (c : Thread nD τ) (st0_4 t) fullShare X))

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d

theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]; simp only [owns_whole]; try rfl

/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before_0, before_1, before_2]
  iintro ⟨⟨⟨⟨%d7, H7⟩, ⟨%d8, H8⟩, ⟨%d9, H9⟩⟩, Hg⟩, HO, ⟨%d2, H2⟩, ⟨%d3, H3⟩, ⟨%d4, H4⟩, ⟨%d5, H5⟩, ⟨%d6, H6⟩⟩
  unfold owns
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H7 with ⟨%f7, %h7, H7⟩
  icases H8 with ⟨%f8, %h8, H8⟩
  icases H9 with ⟨%f9, %h9, H9⟩
  iapply (kernelRun c (grid0.coords t) _ _ _ _ _ _ _ _ _ _ _ _ _ _ _ _ f2 f3 f4 f5 f6 f7 f8 f9 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, ⟨%g5, H5⟩, ⟨%g6, H6⟩, ⟨%g7, H7⟩, ⟨%g8, H8⟩, ⟨%g9, H9⟩⟩
  isplitl [H7 H8 H9 Hg]
  · isplitl [H7 H8 H9]
    · isplitl [H7]
      · iexists _, _; isplitr; swap; · iexact H7
        ipureintro; rfl
      isplitl [H8]
      · iexists _, _; isplitr; swap; · iexact H8
        ipureintro; rfl
      iexists _, _; isplitr; swap; · iexact H9
      ipureintro; rfl
    iexact Hg
  isplitl [HO]; · iexact HO
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _, _; isplitr; swap; · iexact H5
    ipureintro; rfl
  iexists _, _; isplitr; swap; · iexact H6
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- The buffers the lines after the region write. -/
def T : Finset (Ref sig .tc) := {main_v15, main_v16}

theorem sfx_T : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  subst hops
  simp only [hostOps1, List.mem_cons, List.mem_nil_iff, or_false] at hop
  rcases hop with rfl | rfl
  all_goals
    simp only [StableHlo.reshape_writes, Finset.mem_singleton] at hb
    have := Proc.devRef_injective .tc hb
    subst this; decide

set_option backward.isDefEq.respectTransparency.types false in
/-- The launch. -/
theorem run_main :
    θ_run defs (onTc (τ := τ) (main (F := F))) (s₀ m ρ)
      (fun r => Pipeline.RDat.FramePostR (cfgs 0) (fun c => (dats m 0 c).toRForget forgets) T (V m) r ∧ r.2.sem = fun _ => 0) :=
  Pipeline.θ_run_frame_around_T_forget (Q' := _) cfgs (dats m) (0 : Fin 1) launch0 defs₀ Variants.none forgets T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- The frame: every argument array ends as it started, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (by decide)).trans (V_main_arg0 m c),
     ((h.1 c).2 main_arg1 (by decide)).trans (V_main_arg1 m c),
     ((h.1 c).2 main_arg2 (by decide)).trans (V_main_arg2 m c),
     ((h.1 c).2 main_arg3 (by decide)).trans (V_main_arg3 m c)⟩, h.2⟩) (run_main m ρ)

end Cert.Kernel.Hand

end
-- ==== Proof.Off.lean ====
/-
  Closed forms of the offsets at which the diagonal blocks' maxima are kept.
-/
module

public import proofs.«01_k».proof.Proof.Gen.KernelIdeal.Points
public import Idealize.ShloMosaic.Lib.Exec

@[expose] public section

set_option maxRecDepth 16384

namespace Cert.KernelIdeal.Hand

open Cert.KernelIdeal Cert.KernelIdeal.Gen
open Idealize.ShloMosaic

/-- The row of a diagonal block's maxima: the point's own four blocks, then the block within them, then the register. -/
theorem k0_off6_eq (i : grid0.Coords) (r : Fin 20) :
    k0_off6 i (k0_off6_at r).1 (k0_off6_at r).2 = ![32 * (i 1).val + (8 * (k0_off6_at r).1.toNat + (k0_off6_at r).2.toNat), 0] := by
  revert i r; decide +kernel

instance closedOff_k0_off6_0 (i : grid0.Coords) : ClosedOff (k0_off6 i 0#32 0#32) := ⟨![32 * (i 1).val + 0, 0], k0_off6_eq i 0⟩
instance closedOff_k0_off6_1 (i : grid0.Coords) : ClosedOff (k0_off6 i 0#32 1280#32) := ⟨![32 * (i 1).val + 1280, 0], k0_off6_eq i 1⟩
instance closedOff_k0_off6_2 (i : grid0.Coords) : ClosedOff (k0_off6 i 0#32 2560#32) := ⟨![32 * (i 1).val + 2560, 0], k0_off6_eq i 2⟩
instance closedOff_k0_off6_3 (i : grid0.Coords) : ClosedOff (k0_off6 i 0#32 3840#32) := ⟨![32 * (i 1).val + 3840, 0], k0_off6_eq i 3⟩
instance closedOff_k0_off6_4 (i : grid0.Coords) : ClosedOff (k0_off6 i 1#32 2560#32) := ⟨![32 * (i 1).val + 2568, 0], k0_off6_eq i 4⟩
instance closedOff_k0_off6_5 (i : grid0.Coords) : ClosedOff (k0_off6 i 1#32 3840#32) := ⟨![32 * (i 1).val + 3848, 0], k0_off6_eq i 5⟩
instance closedOff_k0_off6_6 (i : grid0.Coords) : ClosedOff (k0_off6 i 0#32 5120#32) := ⟨![32 * (i 1).val + 5120, 0], k0_off6_eq i 6⟩
instance closedOff_k0_off6_7 (i : grid0.Coords) : ClosedOff (k0_off6 i 0#32 6400#32) := ⟨![32 * (i 1).val + 6400, 0], k0_off6_eq i 7⟩
instance closedOff_k0_off6_8 (i : grid0.Coords) : ClosedOff (k0_off6 i 1#32 5120#32) := ⟨![32 * (i 1).val + 5128, 0], k0_off6_eq i 8⟩
instance closedOff_k0_off6_9 (i : grid0.Coords) : ClosedOff (k0_off6 i 1#32 6400#32) := ⟨![32 * (i 1).val + 6408, 0], k0_off6_eq i 9⟩
instance closedOff_k0_off6_10 (i : grid0.Coords) : ClosedOff (k0_off6 i 2#32 5120#32) := ⟨![32 * (i 1).val + 5136, 0], k0_off6_eq i 10⟩
instance closedOff_k0_off6_11 (i : grid0.Coords) : ClosedOff (k0_off6 i 2#32 6400#32) := ⟨![32 * (i 1).val + 6416, 0], k0_off6_eq i 11⟩
instance closedOff_k0_off6_12 (i : grid0.Coords) : ClosedOff (k0_off6 i 0#32 7680#32) := ⟨![32 * (i 1).val + 7680, 0], k0_off6_eq i 12⟩
instance closedOff_k0_off6_13 (i : grid0.Coords) : ClosedOff (k0_off6 i 0#32 8960#32) := ⟨![32 * (i 1).val + 8960, 0], k0_off6_eq i 13⟩
instance closedOff_k0_off6_14 (i : grid0.Coords) : ClosedOff (k0_off6 i 1#32 7680#32) := ⟨![32 * (i 1).val + 7688, 0], k0_off6_eq i 14⟩
instance closedOff_k0_off6_15 (i : grid0.Coords) : ClosedOff (k0_off6 i 1#32 8960#32) := ⟨![32 * (i 1).val + 8968, 0], k0_off6_eq i 15⟩
instance closedOff_k0_off6_16 (i : grid0.Coords) : ClosedOff (k0_off6 i 2#32 7680#32) := ⟨![32 * (i 1).val + 7696, 0], k0_off6_eq i 16⟩
instance closedOff_k0_off6_17 (i : grid0.Coords) : ClosedOff (k0_off6 i 2#32 8960#32) := ⟨![32 * (i 1).val + 8976, 0], k0_off6_eq i 17⟩
instance closedOff_k0_off6_18 (i : grid0.Coords) : ClosedOff (k0_off6 i 3#32 7680#32) := ⟨![32 * (i 1).val + 7704, 0], k0_off6_eq i 18⟩
instance closedOff_k0_off6_19 (i : grid0.Coords) : ClosedOff (k0_off6 i 3#32 8960#32) := ⟨![32 * (i 1).val + 8984, 0], k0_off6_eq i 19⟩

end Cert.KernelIdeal.Hand

end
-- ==== Proof.KIFrame.lean ====
/-
  `KernelIdeal`'s frame. The body is run once by `sl_exec_parts` from every window and scratch buffer at some contents
  (its counted loops by the generated invariants), the two outputs and the scratch handed back at some contents;
  the launch forgets both outputs, so only the inputs' blocks are named.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Off
public import Idealize.ShloMosaic.Lib.Pipeline.Frame
public import Idealize.ShloMosaic.Lib.Tactic

@[expose] public section

set_option maxRecDepth 16384
set_option maxHeartbeats 4000000

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## The body, run once -/

/-- The body from every buffer at some contents: it returns, the inputs as they were and the rest at some contents. -/
theorem kernelRun (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (f2 : BufTy.Contents (Elt F) arg2.view.ty) (f3 : BufTy.Contents (Elt F) arg3.view.ty)
    (f4 : BufTy.Contents (Elt F) arg4.view.ty) (f5 : BufTy.Contents (Elt F) arg5.view.ty)
    (f6 : BufTy.Contents (Elt F) arg6.view.ty) (f7 : BufTy.Contents (Elt F) arg7.view.ty)
    (f8 : BufTy.Contents (Elt F) arg8.view.ty) (f9 : BufTy.Contents (Elt F) arg9.view.ty)
    (K : PUnit → sProp 𝕄) :
    iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} f8) ∗ (arg9.view.loc (c : Thread nD τ) ↦[arg9.view.set]{fullShare} f9)
        ∗ (iprop((arg2.view.loc (c : Thread nD τ) ↦[arg2.view.set]{fullShare} f2) ∗ (arg3.view.loc (c : Thread nD τ) ↦[arg3.view.set]{fullShare} f3)
              ∗ (arg4.view.loc (c : Thread nD τ) ↦[arg4.view.set]{fullShare} f4) ∗ (∃ f, arg5.view.loc (c : Thread nD τ) ↦[arg5.view.set]{fullShare} f)
              ∗ (∃ f, arg6.view.loc (c : Thread nD τ) ↦[arg6.view.set]{fullShare} f) ∗ (∃ f, arg7.view.loc (c : Thread nD τ) ↦[arg7.view.set]{fullShare} f)
              ∗ (∃ f, arg8.view.loc (c : Thread nD τ) ↦[arg8.view.set]{fullShare} f) ∗ (∃ f, arg9.view.loc (c : Thread nD τ) ↦[arg9.view.set]{fullShare} f)) -∗ K ⟨⟩))
      ⊢ wp frame (wpE (defs₀ (F := F)) Variants.none c none) Set.univ
          (cc0_gate_target i arg2 harg2 arg3 harg3 arg4 harg4 arg5 harg5 arg6 harg6 arg7 harg7 arg8 harg8 arg9 harg9) K := by
  simp only [cc0_gate_target_eq_skeleton]; unfold cc0_gate_target_skel
  iintro ⟨H2, H3, H4, H5, H6, H7, H8, H9, Hk⟩
  sl_exec_parts
  by_cases hC : kernelRun.sl.v1399 c i arg2 harg2 arg3 harg3 arg4 harg4 arg5 harg5 arg6 harg6 arg7 harg7 arg8 harg8
      arg9 harg9 f2 f3 f4 = 1#1
  all_goals
    sl_exec_parts
    sl_step
    iapply Hk
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iexists _; iexact H9

/-! ## The launch -/

variable (m : (ℓ : Loc nD τ sig) → Buf (Elt F) ℓ) (ρ : Dev nD → PrngReg)

/-- The two outputs, forgotten: the frame reads nothing of what the kernel leaves there. -/
def forgets : Fin 5 → Bool := fun w => decide (3 ≤ w.val)

/-- The proof data: the arrays as the region finds them, the inputs' blocks left as they are, the outputs unnamed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
    | 4 => Pipeline.Dat.unnamed (cfg := cfg0) 4 t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, owns (c : Thread nD τ) (st0_3 t) fullShare X)
    ∗ (∃ X, owns (c : Thread nD τ) (st0_4 t) fullShare X))

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d

theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]; simp only [owns_whole]; try rfl

/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before_0, before_1, before_2]
  iintro ⟨⟨⟨⟨%d7, H7⟩, ⟨%d8, H8⟩, ⟨%d9, H9⟩⟩, Hg⟩, HO, ⟨%d2, H2⟩, ⟨%d3, H3⟩, ⟨%d4, H4⟩, ⟨%d5, H5⟩, ⟨%d6, H6⟩⟩
  unfold owns
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H7 with ⟨%f7, %h7, H7⟩
  icases H8 with ⟨%f8, %h8, H8⟩
  icases H9 with ⟨%f9, %h9, H9⟩
  iapply (kernelRun c (grid0.coords t) _ _ _ _ _ _ _ _ _ _ _ _ _ _ _ _ f2 f3 f4 f5 f6 f7 f8 f9 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, ⟨%g5, H5⟩, ⟨%g6, H6⟩, ⟨%g7, H7⟩, ⟨%g8, H8⟩, ⟨%g9, H9⟩⟩
  isplitl [H7 H8 H9 Hg]
  · isplitl [H7 H8 H9]
    · isplitl [H7]
      · iexists _, _; isplitr; swap; · iexact H7
        ipureintro; rfl
      isplitl [H8]
      · iexists _, _; isplitr; swap; · iexact H8
        ipureintro; rfl
      iexists _, _; isplitr; swap; · iexact H9
      ipureintro; rfl
    iexact Hg
  isplitl [HO]; · iexact HO
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _, _; isplitr; swap; · iexact H5
    ipureintro; rfl
  iexists _, _; isplitr; swap; · iexact H6
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- The buffers the lines after the region write. -/
def T : Finset (Ref sig .tc) := {main_v15, main_v16}

theorem sfx_T : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  subst hops
  simp only [hostOps1, List.mem_cons, List.mem_nil_iff, or_false] at hop
  rcases hop with rfl | rfl
  all_goals
    simp only [StableHlo.reshape_writes, Finset.mem_singleton] at hb
    have := Proc.devRef_injective .tc hb
    subst this; decide

set_option backward.isDefEq.respectTransparency.types false in
/-- The launch. -/
theorem run_main :
    θ_run defs (onTc (τ := τ) (main (F := F))) (s₀ m ρ)
      (fun r => Pipeline.RDat.FramePostR (cfgs 0) (fun c => (dats m 0 c).toRForget forgets) T (V m) r ∧ r.2.sem = fun _ => 0) :=
  Pipeline.θ_run_frame_around_T_forget (Q' := _) cfgs (dats m) (0 : Fin 1) launch0 defs₀ Variants.none forgets T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- The frame: every argument array ends as it started, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (by decide)).trans (V_main_arg0 m c),
     ((h.1 c).2 main_arg1 (by decide)).trans (V_main_arg1 m c),
     ((h.1 c).2 main_arg2 (by decide)).trans (V_main_arg2 m c),
     ((h.1 c).2 main_arg3 (by decide)).trans (V_main_arg3 m c)⟩, h.2⟩) (run_main m ρ)

end Cert.KernelIdeal.FrameProof

end
-- ==== Proof.EMath.lean ====
/-
  Extended-real facts: powers of two against exponentials, the scaling by `1 / log 2`, finite maxima, and the two ways of
  writing the logarithm of a sum of exponentials.
-/
module

public import Idealize.ShloMosaic.PureOps.Ideal
public import Mathlib.Analysis.SpecialFunctions.Pow.Real

@[expose] public section

noncomputable section

namespace Cert.EMath

open Idealize.ShloMosaic

/-- `1 / log 2`. -/
def kap : EReal := (((Real.log 2)⁻¹ : ℝ) : EReal)
/-- `log 2`. -/
def lnt : EReal := ((Real.log 2 : ℝ) : EReal)

theorem log2_pos : 0 < Real.log 2 := Real.log_pos (by norm_num)

theorem mul_kap_lnt (x : EReal) : x * kap * lnt = x := by
  rw [mul_assoc, kap, lnt, ← EReal.coe_mul, inv_mul_cancel₀ log2_pos.ne', EReal.coe_one, mul_one]

theorem bot_mul_kap : (⊥ : EReal) * kap = ⊥ := EReal.bot_mul_coe_of_pos (inv_pos.2 log2_pos)
theorem top_mul_kap : (⊤ : EReal) * kap = ⊤ := EReal.top_mul_coe_of_pos (inv_pos.2 log2_pos)

theorem exp2_mul_kap (x : EReal) : Ideal.exp2 (x * kap) = Ideal.exp x := by
  induction x with
  | bot => rw [bot_mul_kap]; rfl
  | top => rw [top_mul_kap]; rfl
  | coe r =>
    rw [kap, ← EReal.coe_mul]
    show ((Real.rpow 2 _ : ℝ) : EReal) = ((Real.exp r : ℝ) : EReal)
    congr 1
    show (2 : ℝ) ^ (r * (Real.log 2)⁻¹) = _
    rw [Real.rpow_def_of_pos (by norm_num)]
    congr 1
    have := log2_pos.ne'
    field_simp

theorem add_mul_kap (x y : EReal) : (x + y) * kap = x * kap + y * kap :=
  EReal.right_distrib_of_nonneg_of_ne_top (EReal.coe_nonneg.2 (inv_pos.2 log2_pos).le) (EReal.coe_ne_top _) x y

theorem sub_mul_kap (x y : EReal) : (x - y) * kap = x * kap - y * kap := by
  rw [sub_eq_add_neg, add_mul_kap, EReal.neg_mul, ← sub_eq_add_neg]

theorem mul_kap_mono : Monotone (fun x : EReal => x * kap) := fun _ _ h =>
  mul_le_mul_of_nonneg_right h (EReal.coe_nonneg.2 (inv_pos.2 log2_pos).le)

theorem sup_mul_kap {ι : Type*} (s : Finset ι) (f : ι → EReal) : s.sup f * kap = s.sup fun i => f i * kap :=
  Finset.comp_sup_eq_sup_comp_of_is_total (fun x : EReal => x * kap) mul_kap_mono bot_mul_kap

theorem sub_mono (c : EReal) : Monotone (fun x : EReal => x - c) := fun _ _ h => EReal.sub_le_sub h le_rfl

theorem bot_sub (c : EReal) : (⊥ : EReal) - c = ⊥ := by rw [sub_eq_add_neg, EReal.bot_add]

theorem sup_sub {ι : Type*} (s : Finset ι) (f : ι → EReal) (c : EReal) : s.sup f - c = s.sup fun i => f i - c :=
  Finset.comp_sup_eq_sup_comp_of_is_total (fun x : EReal => x - c) (sub_mono c) (bot_sub c)

theorem exp_bot : Ideal.exp ⊥ = 0 := rfl

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_mono : Monotone Ideal.exp := by
  intro x y h
  induction x with
  | bot =>
    induction y with
    | bot => exact le_rfl
    | top => exact le_top
    | coe r => exact EReal.coe_nonneg.2 (Real.exp_pos r).le
  | top => rw [top_le_iff.1 h]
  | coe r =>
    induction y with
    | bot => exact absurd h (by simp)
    | top => exact le_top
    | coe q => exact EReal.coe_le_coe_iff.2 (Real.exp_le_exp.2 (EReal.coe_le_coe_iff.1 h))

theorem exp_nonneg (x : EReal) : 0 ≤ Ideal.exp x := exp_mono (bot_le : (⊥ : EReal) ≤ x)

theorem exp_sup {ι : Type*} (s : Finset ι) (hs : s.Nonempty) (f : ι → EReal) :
    Ideal.exp (s.sup f) = s.sup fun i => Ideal.exp (f i) := by
  obtain ⟨i, hi, h⟩ := Finset.exists_mem_eq_sup s hs f
  refine le_antisymm ?_ (Finset.sup_le fun j hj => exp_mono (Finset.le_sup hj))
  rw [h]; exact Finset.le_sup (f := fun i => Ideal.exp (f i)) hi

/-- The logarithm of a sum of exponentials, shifted by the maximum. -/
def lse {ι : Type*} (s : Finset ι) (f : ι → EReal) : EReal := s.sup f + Ideal.log (∑ i ∈ s, Ideal.exp (f i - s.sup f))

/-- Where the plain sum of exponentials is a positive real, the shifted form is its logarithm. -/
theorem lse_eq_log {ι : Type*} (s : Finset ι) (f : ι → EReal) (h0 : 0 < ∑ i ∈ s, Ideal.exp (f i))
    (h1 : ∑ i ∈ s, Ideal.exp (f i) < ⊤) : lse s f = Ideal.log (∑ i ∈ s, Ideal.exp (f i)) := by
  have hne : s.Nonempty := by
    by_contra h; rw [Finset.not_nonempty_iff_eq_empty] at h; subst h; simp at h0
  have htop : ∀ i ∈ s, f i ≠ ⊤ := fun i hi h => by
    have : Ideal.exp (f i) ≤ ∑ i ∈ s, Ideal.exp (f i) := Finset.single_le_sum (f := fun i => Ideal.exp (f i)) (fun j _ => exp_nonneg _) hi
    rw [h] at this; exact absurd (lt_of_le_of_lt this h1) (lt_irrefl _)
  obtain ⟨i₀, hi₀, hm⟩ := Finset.exists_mem_eq_sup s hne f
  have hbot : f i₀ ≠ ⊥ := fun h => by
    have : ∀ i ∈ s, Ideal.exp (f i) = 0 := fun i hi => by
      have h2 : f i ≤ ⊥ := by rw [← h, ← hm]; exact Finset.le_sup hi
      rw [le_bot_iff.1 h2]; rfl
    rw [Finset.sum_eq_zero this] at h0; exact lt_irrefl _ h0
  obtain ⟨r, hr⟩ : ∃ r : ℝ, f i₀ = (r : EReal) := ⟨_, (EReal.coe_toReal (htop i₀ hi₀) hbot).symm⟩
  set e : ι → ℝ := fun i => (Ideal.exp (f i)).toReal with he
  have h2 : ∀ i ∈ s, Ideal.exp (f i) = (e i : EReal) ∧ Ideal.exp (f i - (r : EReal)) = ((e i * Real.exp (-r) : ℝ) : EReal) := fun i hi => by
    have ht := htop i hi
    rw [he]; dsimp only
    generalize f i = x at ht
    induction x with
    | bot =>
      rw [bot_sub, exp_bot]
      exact ⟨by simp, by simp⟩
    | top => exact absurd rfl ht
    | coe q =>
      refine ⟨rfl, ?_⟩
      rw [← EReal.coe_sub]
      show ((Real.exp (q - r) : ℝ) : EReal) = ((Real.exp q * Real.exp (-r) : ℝ) : EReal)
      rw [← Real.exp_add, sub_eq_add_neg]
  have hs : ∑ i ∈ s, Ideal.exp (f i) = ((∑ i ∈ s, e i : ℝ) : EReal) := by
    rw [coe_sum]; exact Finset.sum_congr rfl fun i hi => (h2 i hi).1
  unfold lse
  rw [hs] at h0
  rw [hm, hr, hs]
  have hs' : ∑ i ∈ s, Ideal.exp (f i - (r : EReal)) = (((∑ i ∈ s, e i) * Real.exp (-r) : ℝ) : EReal) := by
    rw [Finset.sum_mul, coe_sum]; exact Finset.sum_congr rfl fun i hi => (h2 i hi).2
  rw [hs']
  have hp : 0 < ∑ i ∈ s, e i := EReal.coe_pos.1 h0
  have hq : 0 < (∑ i ∈ s, e i) * Real.exp (-r) := mul_pos hp (Real.exp_pos _)
  show (r : EReal) + (if _ ≤ (0 : ℝ) then ⊥ else ((Real.log _ : ℝ) : EReal)) = if _ ≤ (0 : ℝ) then ⊥ else ((Real.log _ : ℝ) : EReal)
  rw [if_neg (not_le.2 hq), if_neg (not_le.2 hp), ← EReal.coe_add, Real.log_mul hp.ne' (Real.exp_pos _).ne', Real.log_exp]
  congr 1; ring

end Cert.EMath

end
-- ==== Proof.Fns.lean ====
/-
  The kernel's small vector functions, read element by element: the scores of a block of keys against a query tile, the
  eight vectors of a 64-key block, their maximum and the sum of their powers of two.
-/
module

public import proofs.«01_k».proof.Proof.Gen.KernelIdeal.Skeleton
public import proofs.«01_k».proof.Proof.EMath
public import Idealize.ShloMosaic.Lib.Pointwise

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.Tactic

/-- A vector of eight rows. -/
abbrev V8 := FVec Ideal S8x128 .f32

/-- The score of a masked key, in powers of two: minus infinity after the query's position. -/
def TA (kf qf : ℕ → Fin 96 → EReal) (sf : ℕ → EReal) (step a l key : ℕ) : EReal :=
  if key ≤ step * 256 + a / 2 * 64 + l % 64 then
    (∑ d : Fin 96, kf key d * qf (a / 2 * 256 + a % 2 * 128 + l) d) * (sf (a % 2 * 128 + l) * kap) else ⊥

/-- The largest score of one sublane of a block of 64 keys. -/
def BA (kf qf : ℕ → Fin 96 → EReal) (sf : ℕ → EReal) (step a kb sub l : ℕ) : EReal :=
  Finset.univ.sup fun i : Fin 8 => TA kf qf sf step a l (64 * kb + 8 * i.val + sub)

/-- The powers of two of the first `M` scores of one sublane, summed. -/
def AC (kf qf : ℕ → Fin 96 → EReal) (sf : ℕ → EReal) (step a M sub l : ℕ) : EReal :=
  ∑ m ∈ Finset.range M, Ideal.exp2 (TA kf qf sf step a l (8 * m + sub))

theorem AC_add (kf qf : ℕ → Fin 96 → EReal) (sf : ℕ → EReal) (step a kb sub l : ℕ) :
    AC kf qf sf step a (8 * (kb + 1)) sub l
      = AC kf qf sf step a (8 * kb) sub l + ∑ i : Fin 8, Ideal.exp2 (TA kf qf sf step a l (64 * kb + 8 * i.val + sub)) := by
  unfold AC
  rw [show 8 * (kb + 1) = 8 * kb + 8 from by ring, Finset.sum_range_add, Finset.sum_range (n := 8)]
  congr 1
  refine Finset.sum_congr rfl fun i _ => ?_
  congr 2; ring

/-- The maximum of eight vectors, taken as a tree. -/
def tmax (x : Fin 8 → V8) : V8 :=
  maximumf (maximumf (maximumf (x 0) (x 1)) (maximumf (x 2) (x 3))) (maximumf (maximumf (x 4) (x 5)) (maximumf (x 6) (x 7)))

/-- The powers of two of eight vectors, summed as a tree and added. -/
def tacc (acc : V8) (x : Fin 8 → V8) : V8 :=
  addf acc (addf (addf (addf (exp2 (x 0)) (exp2 (x 1))) (addf (exp2 (x 2)) (exp2 (x 3))))
    (addf (addf (exp2 (x 4)) (exp2 (x 5))) (addf (exp2 (x 6)) (exp2 (x 7)))))

theorem tmax_val (x : Fin 8 → V8) (j : S8x128.Idx) : tmax x j = Finset.univ.sup fun i => x i j := by
  unfold tmax
  pointwise
  rw [show (Finset.univ : Finset (Fin 8)) = {0, 1, 2, 3, 4, 5, 6, 7} from by decide]
  simp only [Finset.sup_insert, Finset.sup_singleton]
  ac_rfl

theorem tacc_val (acc : V8) (x : Fin 8 → V8) (j : S8x128.Idx) :
    tacc acc x j = acc j + ∑ i, Ideal.exp2 (x i j) := by
  unfold tacc
  pointwise
  rw [Fin.sum_univ_eight]
  congr 1
  abel

/-- A fitting window of eight rows. -/
theorem slices8 {R o0 o1 : ℕ} (h0 : o0 + 64 ≤ R) (h1 : o1 ≤ 128) (i : Fin 8) :
    (⟨2, ![R, 256]⟩ : Shape).Slices ![o0 + 8 * i.val, o1] S8x128 := by
  refine ⟨rfl, fun a => ?_⟩
  have := i.isLt
  match a with
  | 0 => show o0 + 8 * i.val + 8 ≤ R; omega
  | 1 => show o1 + 128 ≤ 256; omega

/-- The eight scaled vectors of a block of scores. -/
def xs {R : ℕ} (S : FVec Ideal ⟨2, ![R, 256]⟩ .f32) (c : V8) (o0 o1 : ℕ) (h0 : o0 + 64 ≤ R) (h1 : o1 ≤ 128) (i : Fin 8) : V8 :=
  mulf (extractStridedSlice S8x128 ![o0 + 8 * i.val, o1] S (slices8 h0 h1 i)) c

/-- The eight scaled vectors of the diagonal block, masked. -/
def xm {R : ℕ} (S : FVec Ideal ⟨2, ![R, 256]⟩ .f32) (c : V8) (o0 o1 : ℕ) (h0 : o0 + 64 ≤ R) (h1 : o1 ≤ 128) (v16 v18 : IVec S8x128 32) (i : Fin 8) : V8 :=
  select (cmpi .sle (addi v16 (broadcast S8x128 (BitVec.ofNat 32 (8 * i.val)))) v18) (xs S c o0 o1 h0 h1 i)
    (broadcast S8x128 (Scalar.ofBits .f32 0xFF800000#32))

theorem xs_val {R : ℕ} (S : FVec Ideal ⟨2, ![R, 256]⟩ .f32) (c : V8) (o0 o1 : ℕ) (h0 : o0 + 64 ≤ R) (h1 : o1 ≤ 128) (i : Fin 8)
    (sub : Fin 8) (l : Fin 128) :
    xs S c o0 o1 h0 h1 i (ix2 sub l)
      = S (ix2 ⟨o0 + 8 * i.val + sub.val, by omega⟩ ⟨o1 + l.val, by omega⟩) * c (ix2 sub l) := by
  show S _ * _ = _
  congr 2
  funext a
  match a with
  | 0 => rfl
  | 1 => rfl

theorem f8_zero : Ideal.ofBits FTy.fp8e4m3 0#8 = 0 := Ideal.ofBits_zero .fp8e4m3

theorem f32_neg_inf : Ideal.ofBits FTy.f32 0xFF800000#32 = ⊥ := by
  simp [Ideal.ofBits, Ideal.ieee, -EReal.coe_mul]

theorem sc256_val (kb qt : Vec Ideal S1x256x96 .fp8e4m3) (r l : Fin 256) :
    k0_pay4 kb qt (ix2 r l) = ∑ d : Fin 96, kb (ix3 0 r d) * qt (ix3 0 l d) := by
  unfold k0_pay4 k0_pay3
  pointwise
  rw [f8_zero]; simp

theorem sc64_val (kb : Vec Ideal S1x64x96 .fp8e4m3) (qt : Vec Ideal S1x256x96 .fp8e4m3) (r : Fin 64) (l : Fin 256) :
    k0_pay1067 kb qt (ix2 r l) = ∑ d : Fin 96, kb (ix3 0 r d) * qt (ix3 0 l d) := by
  unfold_payloads
  pointwise
  rw [f8_zero]; simp

theorem mask_word : ∀ (i sub : Fin 8) (q : Fin 64),
    IntOp.cmpi CmpIPredicate.sle (IntOp.addi (BitVec.ofNat 32 sub.val) (BitVec.ofNat 32 (8 * i.val))) (BitVec.ofNat 32 q.val)
      = if 8 * i.val + sub.val ≤ q.val then 1#1 else 0#1 := by decide +kernel

/-- The mask of the diagonal block: key `8 i + sub` against query `l mod 64`. -/
theorem mask_val (v16 v18 : IVec S8x128 32) (i sub : Fin 8) (l : Fin 128) (h16 : v16 (ix2 sub l) = BitVec.ofNat 32 sub.val)
    (h18 : v18 (ix2 sub l) = BitVec.ofNat 32 (l.val % 64)) (x y : V8) :
    select (cmpi .sle (addi v16 (broadcast S8x128 (BitVec.ofNat 32 (8 * i.val)))) v18) x y (ix2 sub l)
      = if 8 * i.val + sub.val ≤ l.val % 64 then x (ix2 sub l) else y (ix2 sub l) := by
  pointwise [h16, h18]
  have h := mask_word i sub ⟨l.val % 64, Nat.mod_lt _ (by norm_num)⟩
  dsimp only at h
  rw [h]
  split <;> rfl

theorem v18_val (sub : Fin 8) (l : Fin 128) : k0_pay1054 (ix2 sub l) = BitVec.ofNat 32 (l.val % 64) := by
  unfold k0_pay1054
  pointwise
  revert l; decide

theorem c_val0 (v0 : Vec Ideal S1x1x128 .f32) (sub : Fin 8) (l : Fin 128) : k0_pay1051 v0 (ix2 sub l) = v0 (ix3 0 0 l) * kap := by
  unfold_payloads
  pointwise
  rfl

theorem c_val1 (v0 : Vec Ideal S1x1x128 .f32) (sub : Fin 8) (l : Fin 128) : k0_pay1052 v0 (ix2 sub l) = v0 (ix3 0 0 l) * kap := by
  unfold_payloads
  pointwise
  rfl

section
variable {kf qf : ℕ → Fin 96 → EReal} {sf : ℕ → EReal} {step : ℕ}

/-- A block before the diagonal one: the scaled vectors are the scores. -/
theorem xs_TA {R : ℕ} (S : FVec Ideal ⟨2, ![R, 256]⟩ .f32) (c : V8) (b half tile k0 kb : ℕ) (h0 : 64 * b + 64 ≤ R) (h1 : 128 * half ≤ 128)
    (hS : ∀ (r : Fin R) (l : Fin 256), S (ix2 r l) = ∑ d, kf (k0 + r.val) d * qf (tile * 256 + l.val) d)
    (hc : ∀ (sub : Fin 8) (l : Fin 128), c (ix2 sub l) = sf (half * 128 + l.val) * kap)
    (hk : k0 + 64 * b = 64 * kb) (hb : kb < 4 * step + tile) (i sub : Fin 8) (l : Fin 128) :
    xs S c (64 * b) (128 * half) h0 h1 i (ix2 sub l) = TA kf qf sf step (2 * tile + half) l.val (64 * kb + 8 * i.val + sub.val) := by
  have hh : half ≤ 1 := by omega
  rw [xs_val, hS, hc, TA, if_pos (by have := i.isLt; have := sub.isLt; omega)]
  dsimp only
  rw [show k0 + (64 * b + 8 * i.val + sub.val) = 64 * kb + 8 * i.val + sub.val from by omega,
    show tile * 256 + (128 * half + l.val) = (2 * tile + half) / 2 * 256 + (2 * tile + half) % 2 * 128 + l.val from by omega,
    show half = (2 * tile + half) % 2 from by omega]
  congr 4 <;> omega

/-- The diagonal block: the masked vectors are the scores. -/
theorem xm_TA {R : ℕ} (S : FVec Ideal ⟨2, ![R, 256]⟩ .f32) (c : V8) (v16 v18 : IVec S8x128 32) (b half tile k0 kb : ℕ) (h0 : 64 * b + 64 ≤ R) (h1 : 128 * half ≤ 128)
    (hS : ∀ (r : Fin R) (l : Fin 256), S (ix2 r l) = ∑ d, kf (k0 + r.val) d * qf (tile * 256 + l.val) d)
    (hc : ∀ (sub : Fin 8) (l : Fin 128), c (ix2 sub l) = sf (half * 128 + l.val) * kap)
    (h16 : ∀ (sub : Fin 8) (l : Fin 128), v16 (ix2 sub l) = BitVec.ofNat 32 sub.val)
    (h18 : ∀ (sub : Fin 8) (l : Fin 128), v18 (ix2 sub l) = BitVec.ofNat 32 (l.val % 64))
    (hk : k0 + 64 * b = 64 * kb) (hb : kb = 4 * step + tile) (i sub : Fin 8) (l : Fin 128) :
    xm S c (64 * b) (128 * half) h0 h1 v16 v18 i (ix2 sub l) = TA kf qf sf step (2 * tile + half) l.val (64 * kb + 8 * i.val + sub.val) := by
  have hh : half ≤ 1 := by omega
  unfold xm
  rw [mask_val v16 v18 i sub l (h16 _ _) (h18 _ _), xs_val, hS, hc, TA]
  dsimp only
  rw [show k0 + (64 * b + 8 * i.val + sub.val) = 64 * kb + 8 * i.val + sub.val from by omega,
    show tile * 256 + (128 * half + l.val) = (2 * tile + half) / 2 * 256 + (2 * tile + half) % 2 * 128 + l.val from by omega]
  refine if_congr (by omega) ?_ f32_neg_inf
  congr 2
  congr 2; omega

end

end Cert.KernelIdeal.Hand

end
-- ==== Proof.Good.lean ====
/-
  What the blocks' maxima hold, grown store by store, and the running sums of powers of two.
-/
module

public import proofs.«01_k».proof.Proof.Fns
public import Idealize.ShloMosaic.Lib.WritesUnit

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.Tactic Idealize.ShloMosaic.TcCoe

/-- Eight running sums. -/
abbrev A8 := V8 × V8 × V8 × V8 × V8 × V8 × V8 × V8

/-- The running sum of a given number. -/
def accF (t : A8) : Fin 8 → V8 :=
  ![t.1, t.2.1, t.2.2.1, t.2.2.2.1, t.2.2.2.2.1, t.2.2.2.2.2.1, t.2.2.2.2.2.2.1, t.2.2.2.2.2.2.2]

section
variable (kf qf : ℕ → Fin 96 → EReal) (sf : ℕ → EReal) (step : ℕ)

/-- The maxima of the blocks `p` describes are in place. -/
def Good (arg7 : Memref sig .tc .vmem S10240x128 .f32) (p : ℕ → ℕ → Prop) (f : arg7.view.ty.Contents (Elt Ideal)) : Prop :=
  ∀ (a kb : ℕ) (sub : Fin 8) (l : Fin 128) (ha : a < 8) (hkb : kb < 160), p a kb →
    arg7.view.read (Elt Ideal) f (ix2 ⟨(a * 160 + kb) * 8 + sub.val, by omega⟩ l) = BA kf qf sf step a kb sub.val l.val

/-- A running sum has taken the first `M` rows of eight keys. -/
def AccIs (acc : V8) (a M : ℕ) : Prop := ∀ (sub : Fin 8) (l : Fin 128), acc (ix2 sub l) = AC kf qf sf step a M sub.val l.val

end

variable {kf qf : ℕ → Fin 96 → EReal} {sf : ℕ → EReal} {step : ℕ}

theorem Good.mono {arg7 : Memref sig .tc .vmem S10240x128 .f32} {p q : ℕ → ℕ → Prop} {f : arg7.view.ty.Contents (Elt Ideal)}
    (h : Good kf qf sf step arg7 p f) (hq : ∀ a kb, a < 8 → kb < 160 → q a kb → p a kb) : Good kf qf sf step arg7 q f :=
  fun a kb sub l ha hkb hp => h a kb sub l ha hkb (hq a kb ha hkb hp)

/-- One more block's maxima, stored. -/
theorem Good.store {arg7 : Memref sig .tc .vmem S10240x128 .f32} {p : ℕ → ℕ → Prop} {f : arg7.view.ty.Contents (Elt Ideal)}
    {off : Fin 2 → ℕ} (inb : ∀ a : Fin 2, off a + S8x128.size a ≤ S10240x128.size a) (x : Fin 8 → V8)
    (L : List (View.Piece (Elt Ideal) S10240x128 .f32)) (a0 kb0 : ℕ) (h0 : a0 < 8) (h1 : kb0 < 160)
    (hoff : off = ![(a0 * 160 + kb0) * 8, 0])
    (hx : ∀ (i sub : Fin 8) (l : Fin 128), x i (ix2 sub l) = TA kf qf sf step a0 l.val (64 * kb0 + 8 * i.val + sub.val))
    (hL : Good kf qf sf step arg7 p (arg7.view.writes (Elt Ideal) f L)) :
    Good kf qf sf step arg7 (fun a kb => p a kb ∨ (a = a0 ∧ kb = kb0))
      (arg7.view.writes (Elt Ideal) f ((⟨Rect.unit (s := S10240x128) off S8x128.size inb, shapeCast S8x128 (tmax x) shapeCasts_S8x128_S8x128⟩ : View.Piece (Elt Ideal) S10240x128 .f32) :: L)) := by
  intro a kb sub l ha hkb hp
  by_cases h : a = a0 ∧ kb = kb0
  · obtain ⟨rfl, rfl⟩ := h
    rw [View.read_writes_cons_rows_of_mem arg7.view f inb _ L _ (ix2 sub l) hoff rfl rfl]
    rw [show shapeCast S8x128 (tmax x) shapeCasts_S8x128_S8x128 = tmax x from funext fun j => by pointwise, tmax_val]
    exact Finset.sup_congr rfl fun i _ => hx i sub l
  · rw [View.read_writes_cons_rows_of_not_mem arg7.view f inb _ L _ hoff (W := 8) rfl]
    · exact hL a kb sub l ha hkb (hp.resolve_right h)
    · show (a * 160 + kb) * 8 + sub.val < _ ∨ _ ≤ (a * 160 + kb) * 8 + sub.val
      have := sub.isLt
      omega

theorem AccIs.next {acc : V8} {x : Fin 8 → V8} {a kb : ℕ} (h : AccIs kf qf sf step acc a (8 * kb))
    (hx : ∀ (i sub : Fin 8) (l : Fin 128), x i (ix2 sub l) = TA kf qf sf step a l.val (64 * kb + 8 * i.val + sub.val)) :
    AccIs kf qf sf step (tacc acc x) a (8 * (kb + 1)) := by
  intro sub l
  rw [tacc_val, h, AC_add]
  congr 1
  exact Finset.sum_congr rfl fun i _ => by rw [hx]

end Cert.KernelIdeal.Hand

end
-- ==== Proof.Trip1.lean ====
/-
  One trip of the walk over the full key blocks.
-/
module

public import proofs.«01_k».proof.Proof.Gen.KernelIdeal.Frame
public import proofs.«01_k».proof.Proof.Gen.KernelIdeal.Skeleton
public import proofs.«01_k».proof.Proof.Good
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- What a chunk of 256 keys scores against a query tile. -/
def IsScore (kf qf : ℕ → Fin 96 → EReal) {R : ℕ} (S : FVec Ideal ⟨2, ![R, 256]⟩ .f32) (k0 tile : ℕ) : Prop :=
  ∀ (r : Fin R) (l : Fin 256), S (ix2 r l) = ∑ d, kf (k0 + r.val) d * qf (tile * 256 + l.val) d

section
variable {kf qf : ℕ → Fin 96 → EReal} {sf : ℕ → EReal} {step : ℕ}

/-- A store of the walk over the full key blocks. -/
theorem trip_store {arg7 : Memref sig .tc .vmem S10240x128 .f32} {p : ℕ → ℕ → Prop} {f : arg7.view.ty.Contents (Elt Ideal)}
    {L : List (View.Piece (Elt Ideal) S10240x128 .f32)} (i : grid0.Coords) (k : Fin (k0_t1_loop i).trips) (b tile : Fin 4) (half : Fin 2)
    (hk : k.val < step) (hs : step < 40)
    {S : FVec Ideal S256x256 .f32} {c : V8} (hS : IsScore kf qf S (256 * k.val) tile.val)
    (hc : ∀ (sub : Fin 8) (l : Fin 128), c (ix2 sub l) = sf (half.val * 128 + l.val) * kap)
    (h0 : 64 * b.val + 64 ≤ 256) (h1 : 128 * half.val ≤ 128) (a : Fin 8) (ha : a.val = 2 * tile.val + half.val)
    (hL : Good kf qf sf step arg7 p (arg7.view.writes (Elt Ideal) f L)) :
    Good kf qf sf step arg7 (fun a' kb => p a' kb ∨ (a' = a.val ∧ kb = 4 * k.val + b.val))
      (arg7.view.writes (Elt Ideal) f ((⟨Rect.unit (s := S10240x128) (k0_off2 i k (BitVec.ofNat 32 b.val) (BitVec.ofNat 32 (1280 * a.val))) S8x128.size
        (k0_off2_inb i k b a), shapeCast S8x128 (tmax (xs S c (64 * b.val) (128 * half.val) h0 h1)) shapeCasts_S8x128_S8x128⟩ : View.Piece (Elt Ideal) S10240x128 .f32) :: L)) := by
  have hb := b.isLt; have ht := tile.isLt
  refine Good.store (k0_off2_inb i k b a) _ L a.val (4 * k.val + b.val) a.isLt (by omega) ?_ ?_ hL
  · rw [k0_off2_eq i k b a]; congr 1; ring
  · rw [ha]
    exact xs_TA S c b.val half.val tile.val (256 * k.val) (4 * k.val + b.val) h0 h1 hS hc (by ring) (by omega)

/-- A running sum over a chunk of four blocks. -/
theorem trip_acc (k tile half : ℕ) {acc : V8} {S : FVec Ideal S256x256 .f32} {c : V8} (hk : k < step) (hS : IsScore kf qf S (256 * k) tile)
    (hc : ∀ (sub : Fin 8) (l : Fin 128), c (ix2 sub l) = sf (half * 128 + l.val) * kap) (h1 : 128 * half ≤ 128)
    (hacc : AccIs kf qf sf step acc (2 * tile + half) (8 * (4 * k))) :
    AccIs kf qf sf step (tacc (tacc (tacc (tacc acc (xs S c (64 * 0) (128 * half) (by norm_num) h1)) (xs S c (64 * 1) (128 * half) (by norm_num) h1))
      (xs S c (64 * 2) (128 * half) (by norm_num) h1)) (xs S c (64 * 3) (128 * half) (by norm_num) h1)) (2 * tile + half) (8 * (4 * (k + 1))) := by
  rw [show 4 * (k + 1) = 4 * k + 1 + 1 + 1 + 1 from by ring]
  refine AccIs.next (AccIs.next (AccIs.next (AccIs.next hacc ?_) ?_) ?_) ?_
  · exact xs_TA S c 0 half tile (256 * k) _ _ h1 hS hc (by ring) (by omega)
  · exact xs_TA S c 1 half tile (256 * k) _ _ h1 hS hc (by ring) (by omega)
  · exact xs_TA S c 2 half tile (256 * k) _ _ h1 hS hc (by ring) (by omega)
  · exact xs_TA S c 3 half tile (256 * k) _ _ h1 hS hc (by ring) (by omega)

end

theorem t1_trips : ∀ i : grid0.Coords, (k0_t1_loop i).trips = (i 1).val := by
  decide +kernel

theorem load4 {arg4 : Memref sig .tc .vmem S1x10240x96 .fp8e4m3} (harg4 : arg4.IsWhole) (X4 : S1x10240x96.Idx → Elt Ideal .fp8e4m3)
    {kf : ℕ → Fin 96 → EReal} (hk : ∀ (key : Fin 10240) d, X4 (ix3 0 key d) = kf key.val d) {R k0 : ℕ} {off : Fin 3 → ℕ}
    (inb : ∀ a, off a + (![1, R, 96] : Fin 3 → ℕ) a ≤ S1x10240x96.size a) (hoff : off = ![0, k0, 0]) (hR : R ≤ 10240) (r : Fin R) (d : Fin 96) :
    View.readAt (Elt Ideal) arg4.view (Rect.unit (s := S1x10240x96) off ![1, R, 96] inb).toLoadRect (harg4.unread X4) (ix3 0 r d) = kf (k0 + r.val) d := by
  subst hoff
  have h1 : k0 + R ≤ 10240 := inb 1
  rw [harg4.readAt_unread]
  rw [← hk ⟨k0 + r.val, by omega⟩ d]
  refine congrArg X4 (funext fun a => Fin.ext ((Rect.idx_unit_val _ _ inb _ a).trans ?_))
  match a with
  | 0 => rfl
  | 1 => rfl
  | 2 => exact Nat.zero_add _

theorem load3 {arg3 : Memref sig .tc .vmem S1x1024x96 .fp8e4m3} (harg3 : arg3.IsWhole) (X3 : S1x1024x96.Idx → Elt Ideal .fp8e4m3)
    {qf : ℕ → Fin 96 → EReal} (hq : ∀ (row : Fin 1024) d, X3 (ix3 0 row d) = qf row.val d) {R q0 q1 : ℕ}
    (inb : ∀ a, (![0, q0, 0] : Fin 3 → ℕ) a + (![1, R, 96] : Fin 3 → ℕ) a ≤ S1x1024x96.size a) (hoff : q0 = q1) (hR : R ≤ 1024) (r : Fin R) (d : Fin 96) :
    View.readAt (Elt Ideal) arg3.view (Rect.unit (s := S1x1024x96) ![0, q0, 0] ![1, R, 96] inb).toLoadRect (harg3.unread X3) (ix3 0 r d) = qf (q1 + r.val) d := by
  subst hoff
  have h1 : q0 + R ≤ 1024 := inb 1
  rw [harg3.readAt_unread]
  rw [← hq ⟨q0 + r.val, by omega⟩ d]
  refine congrArg X3 (funext fun a => Fin.ext ((Rect.idx_unit_val _ _ inb _ a).trans ?_))
  match a with
  | 0 => rfl
  | 1 => rfl
  | 2 => exact Nat.zero_add _

theorem trip1 (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (X3 : S1x1024x96.Idx → Elt Ideal .fp8e4m3) (X4 : S1x10240x96.Idx → Elt Ideal .fp8e4m3)
    (f7 : arg7.view.ty.Contents (Elt Ideal)) (v0 v4 : Vec Ideal S1x1x128 .f32) (k : Fin (k0_t1_loop i).trips)
    (acc : A8) (K : A8 → sProp 𝕄)
    {kf qf : ℕ → Fin 96 → EReal} {sf : ℕ → EReal} {step : ℕ} (hstep : step = (i 1).val)
    (hk : ∀ (key : Fin 10240) d, X4 (ix3 0 key d) = kf key.val d) (hq : ∀ (row : Fin 1024) d, X3 (ix3 0 row d) = qf row.val d)
    (h0 : ∀ l : Fin 128, v0 (ix3 0 0 l) = sf (0 * 128 + l.val)) (h4 : ∀ l : Fin 128, v4 (ix3 0 0 l) = sf (1 * 128 + l.val))
    (hacc : ∀ a : Fin 8, AccIs kf qf sf step (accF acc a) a.val (8 * (4 * k.val)))
    (hf : Good kf qf sf step arg7 (fun _ kb => kb < 4 * k.val) f7) :
    iprop((arg3.view.loc (c : Thread nD τ) ↦[arg3.view.set]{fullShare} harg3.unread X3)
        ∗ (arg4.view.loc (c : Thread nD τ) ↦[arg4.view.set]{fullShare} harg4.unread X4)
        ∗ (arg7.view.loc (c : Thread nD τ) ↦[arg7.view.set]{fullShare} f7)
        ∗ (∀ r f, iprop((arg3.view.loc (c : Thread nD τ) ↦[arg3.view.set]{fullShare} harg3.unread X3)
              ∗ (arg4.view.loc (c : Thread nD τ) ↦[arg4.view.set]{fullShare} harg4.unread X4)
              ∗ (arg7.view.loc (c : Thread nD τ) ↦[arg7.view.set]{fullShare} f)
              ∗ ⌜(∀ a : Fin 8, AccIs kf qf sf step (accF r a) a.val (8 * (4 * (k.val + 1)))) ∧ Good kf qf sf step arg7 (fun _ kb => kb < 4 * (k.val + 1)) f⌝) -∗ K r))
      ⊢ wp frame (wpE (defs₀ (F := Ideal)) Variants.none c none) Set.univ
          (k0_t1_body i arg2 harg2 arg3 harg3 arg4 harg4 arg5 harg5 arg6 harg6 arg7 harg7 arg8 harg8 arg9 harg9 v0 v4 k acc) K := by
  have hkk : k.val < step := by
    rw [hstep]; exact Nat.lt_of_lt_of_le k.isLt (t1_trips i).le
  have hs : step < 40 := by rw [hstep]; exact (i 1).isLt
  obtain ⟨a0, a1, a2, a3, a4, a5, a6, a7⟩ := acc
  unfold k0_t1_body
  iintro ⟨H3, H4, H7, Hk⟩
  sl_exec_parts
  sl_step
  iapply Hk
  isplitl [H3]; · iexact H3
  isplitl [H4]; · iexact H4
  isplitl [H7]; · iexact H7
  ipureintro
  have hS : ∀ (tile : Fin 4) (inb), IsScore kf qf (k0_pay4
      (View.readAt (Elt Ideal) arg4.view (Rect.unit (s := S1x10240x96) (k0_off1 i k) S1x256x96.size (k0_off1_inb i k)).toLoadRect (harg4.unread X4))
      (View.readAt (Elt Ideal) arg3.view (Rect.unit (s := S1x1024x96) ![0, 256 * tile.val, 0] S1x256x96.size inb).toLoadRect (harg3.unread X3)))
      (256 * k.val) tile.val := by
    intro tile inb r l
    rw [sc256_val]
    refine Finset.sum_congr rfl fun d _ => ?_
    rw [load4 harg4 X4 hk (k0_off1_inb i k) (k0_off1_eq i k) (by norm_num) r d, load3 harg3 X3 hq inb (Nat.mul_comm _ _) (by norm_num) l d]
  have hc0 : ∀ (sub : Fin 8) (l : Fin 128), k0_pay1051 v0 (ix2 sub l) = sf (0 * 128 + l.val) * kap := fun sub l => by rw [c_val0, h0]
  have hc1 : ∀ (sub : Fin 8) (l : Fin 128), k0_pay1052 v4 (ix2 sub l) = sf (1 * 128 + l.val) * kap := fun sub l => by rw [c_val1, h4]
  constructor
  · intro a
    fin_cases a
    · exact trip_acc k.val 0 0 hkk (hS 0 (by decide)) hc0 (by norm_num) (hacc 0)
    · exact trip_acc k.val 0 1 hkk (hS 0 (by decide)) hc1 (by norm_num) (hacc 1)
    · exact trip_acc k.val 1 0 hkk (hS 1 (by decide)) hc0 (by norm_num) (hacc 2)
    · exact trip_acc k.val 1 1 hkk (hS 1 (by decide)) hc1 (by norm_num) (hacc 3)
    · exact trip_acc k.val 2 0 hkk (hS 2 (by decide)) hc0 (by norm_num) (hacc 4)
    · exact trip_acc k.val 2 1 hkk (hS 2 (by decide)) hc1 (by norm_num) (hacc 5)
    · exact trip_acc k.val 3 0 hkk (hS 3 (by decide)) hc0 (by norm_num) (hacc 6)
    · exact trip_acc k.val 3 1 hkk (hS 3 (by decide)) hc1 (by norm_num) (hacc 7)
  · apply Good.mono
    · apply trip_store i k 3 3 1 hkk hs (hS 3 (by decide)) hc1 (by norm_num) (by norm_num) 7 rfl
      apply trip_store i k 3 3 0 hkk hs (hS 3 (by decide)) hc0 (by norm_num) (by norm_num) 6 rfl
      apply trip_store i k 2 3 1 hkk hs (hS 3 (by decide)) hc1 (by norm_num) (by norm_num) 7 rfl
      apply trip_store i k 2 3 0 hkk hs (hS 3 (by decide)) hc0 (by norm_num) (by norm_num) 6 rfl
      apply trip_store i k 1 3 1 hkk hs (hS 3 (by decide)) hc1 (by norm_num) (by norm_num) 7 rfl
      apply trip_store i k 1 3 0 hkk hs (hS 3 (by decide)) hc0 (by norm_num) (by norm_num) 6 rfl
      apply trip_store i k 0 3 1 hkk hs (hS 3 (by decide)) hc1 (by norm_num) (by norm_num) 7 rfl
      apply trip_store i k 0 3 0 hkk hs (hS 3 (by decide)) hc0 (by norm_num) (by norm_num) 6 rfl
      apply trip_store i k 3 2 1 hkk hs (hS 2 (by decide)) hc1 (by norm_num) (by norm_num) 5 rfl
      apply trip_store i k 3 2 0 hkk hs (hS 2 (by decide)) hc0 (by norm_num) (by norm_num) 4 rfl
      apply trip_store i k 2 2 1 hkk hs (hS 2 (by decide)) hc1 (by norm_num) (by norm_num) 5 rfl
      apply trip_store i k 2 2 0 hkk hs (hS 2 (by decide)) hc0 (by norm_num) (by norm_num) 4 rfl
      apply trip_store i k 1 2 1 hkk hs (hS 2 (by decide)) hc1 (by norm_num) (by norm_num) 5 rfl
      apply trip_store i k 1 2 0 hkk hs (hS 2 (by decide)) hc0 (by norm_num) (by norm_num) 4 rfl
      apply trip_store i k 0 2 1 hkk hs (hS 2 (by decide)) hc1 (by norm_num) (by norm_num) 5 rfl
      apply trip_store i k 0 2 0 hkk hs (hS 2 (by decide)) hc0 (by norm_num) (by norm_num) 4 rfl
      apply trip_store i k 3 1 1 hkk hs (hS 1 (by decide)) hc1 (by norm_num) (by norm_num) 3 rfl
      apply trip_store i k 3 1 0 hkk hs (hS 1 (by decide)) hc0 (by norm_num) (by norm_num) 2 rfl
      apply trip_store i k 2 1 1 hkk hs (hS 1 (by decide)) hc1 (by norm_num) (by norm_num) 3 rfl
      apply trip_store i k 2 1 0 hkk hs (hS 1 (by decide)) hc0 (by norm_num) (by norm_num) 2 rfl
      apply trip_store i k 1 1 1 hkk hs (hS 1 (by decide)) hc1 (by norm_num) (by norm_num) 3 rfl
      apply trip_store i k 1 1 0 hkk hs (hS 1 (by decide)) hc0 (by norm_num) (by norm_num) 2 rfl
      apply trip_store i k 0 1 1 hkk hs (hS 1 (by decide)) hc1 (by norm_num) (by norm_num) 3 rfl
      apply trip_store i k 0 1 0 hkk hs (hS 1 (by decide)) hc0 (by norm_num) (by norm_num) 2 rfl
      apply trip_store i k 3 0 1 hkk hs (hS 0 (by decide)) hc1 (by norm_num) (by norm_num) 1 rfl
      apply trip_store i k 3 0 0 hkk hs (hS 0 (by decide)) hc0 (by norm_num) (by norm_num) 0 rfl
      apply trip_store i k 2 0 1 hkk hs (hS 0 (by decide)) hc1 (by norm_num) (by norm_num) 1 rfl
      apply trip_store i k 2 0 0 hkk hs (hS 0 (by decide)) hc0 (by norm_num) (by norm_num) 0 rfl
      apply trip_store i k 1 0 1 hkk hs (hS 0 (by decide)) hc1 (by norm_num) (by norm_num) 1 rfl
      apply trip_store i k 1 0 0 hkk hs (hS 0 (by decide)) hc0 (by norm_num) (by norm_num) 0 rfl
      apply trip_store i k 0 0 1 hkk hs (hS 0 (by decide)) hc1 (by norm_num) (by norm_num) 1 rfl
      apply trip_store i k 0 0 0 hkk hs (hS 0 (by decide)) hc0 (by norm_num) (by norm_num) 0 rfl
      exact hf
    · intro a kb ha hkb h
      interval_cases a <;> simp <;> omega

end Cert.KernelIdeal.Hand

end
-- ==== Proof.Fall.lean ====
/-
  The second pass over the blocks, taken when a plain sum of powers of two is out of range: the running maxima, and the sums
  shifted by them.
-/
module

public import proofs.«01_k».proof.Proof.Gen.KernelIdeal.Frame
public import proofs.«01_k».proof.Proof.Gen.KernelIdeal.Skeleton
public import proofs.«01_k».proof.Proof.Trip1
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

section
variable {kf qf : ℕ → Fin 96 → EReal} {sf : ℕ → EReal} {step : ℕ}

/-- A running maximum has taken the first `M` rows of eight keys. -/
def MaxIs (kf qf : ℕ → Fin 96 → EReal) (sf : ℕ → EReal) (step : ℕ) (acc : V8) (a M : ℕ) : Prop :=
  ∀ (sub : Fin 8) (l : Fin 128), acc (ix2 sub l) = (Finset.range M).sup fun m => TA kf qf sf step a l.val (8 * m + sub.val)

/-- A shifted running sum has taken the first `M` rows of eight keys. -/
def SumIs (kf qf : ℕ → Fin 96 → EReal) (sf : ℕ → EReal) (step : ℕ) (mu : ℕ → EReal) (acc : V8) (a M : ℕ) : Prop :=
  ∀ (sub : Fin 8) (l : Fin 128), acc (ix2 sub l) = ∑ m ∈ Finset.range M, Ideal.exp2 (TA kf qf sf step a l.val (8 * m + sub.val) - mu l.val)

theorem sup_range_add (f : ℕ → EReal) (n m : ℕ) :
    (Finset.range (n + m)).sup f = (Finset.range n).sup f ⊔ (Finset.univ : Finset (Fin m)).sup fun i => f (n + i.val) := by
  induction m with
  | zero => simp
  | succ m ih =>
    rw [← add_assoc, Finset.range_add_one, Finset.sup_insert, ih, Fin.univ_castSuccEmb, Finset.sup_cons, Finset.sup_map]
    simp only [Function.comp_def, Fin.val_last, Fin.castSuccEmb_apply, Fin.val_castSucc]
    ac_rfl

theorem sle_word : ∀ (s : Fin 40) (t : Fin 4) (k : Fin 160),
    Scalar.cmpi .sle (Scf.iv 0#32 1#32 k.val) (Scalar.addi (Scalar.muli (BitVec.ofNat 32 s.val) 4#32) (BitVec.ofNat 32 t.val))
      = if k.val ≤ 4 * s.val + t.val then 1#1 else 0#1 := by decide +kernel

/-- A block's maxima, read back. -/
theorem load7 {arg7 : Memref sig .tc .vmem S10240x128 .f32} {p : ℕ → ℕ → Prop} {f : arg7.view.ty.Contents (Elt Ideal)}
    (hf : Good kf qf sf step arg7 p f) {off : Fin 2 → ℕ} (inb : ∀ a : Fin 2, off a + S8x128.size a ≤ S10240x128.size a) (a kb : ℕ) (ha : a < 8) (hkb : kb < 160)
    (hoff : off = ![(a * 160 + kb) * 8, 0]) (hp : p a kb) (sub : Fin 8) (l : Fin 128) :
    View.readAt (Elt Ideal) arg7.view (Rect.unit (s := S10240x128) off S8x128.size inb).toLoadRect f (ix2 sub l) = BA kf qf sf step a kb sub.val l.val := by
  subst hoff
  rw [← hf a kb sub l ha hkb hp]
  refine congrArg (arg7.view.read (Elt Ideal) f) (funext fun x => Fin.ext ((Rect.idx_unit_val _ _ inb _ x).trans ?_))
  match x with
  | 0 => rfl
  | 1 => exact Nat.zero_add _

/-- One block more in a running maximum. -/
theorem max_next {arg7 : Memref sig .tc .vmem S10240x128 .f32} {f : arg7.view.ty.Contents (Elt Ideal)}
    (hf : Good kf qf sf step arg7 (fun a kb => kb ≤ 4 * step + a / 2) f) (i : grid0.Coords) (k : Fin (k0_t3_loop i).trips) (hs : step = (i 1).val)
    (hk : k.val < 160) (a : Fin 8) (tile : Fin 4) (ht : tile.val = a.val / 2) {acc : V8} (h : MaxIs kf qf sf step acc a.val (8 * k.val)) :
    MaxIs kf qf sf step (Scalar.select (Scalar.cmpi .sle (Scf.iv 0#32 1#32 k.val) (Scalar.addi (Scalar.muli (BitVec.ofNat 32 (i 1).val) 4#32) (BitVec.ofNat 32 tile.val)))
      (maximumf acc (View.readAt (Elt Ideal) arg7.view (Rect.unit (s := S10240x128) (k0_off10 i k (BitVec.ofNat 32 (1280 * a.val))) S8x128.size (k0_off10_inb i k a)).toLoadRect f)) acc)
      a.val (8 * (k.val + 1)) := by
  intro sub l
  rw [sle_word (i 1) tile ⟨k.val, hk⟩]
  rw [show 8 * (k.val + 1) = 8 * k.val + 8 from by ring, sup_range_add, ← h sub l]
  have hsup : ((Finset.univ : Finset (Fin 8)).sup fun i => TA kf qf sf step a.val l.val (8 * (8 * k.val + i.val) + sub.val)) = BA kf qf sf step a.val k.val sub.val l.val :=
    Finset.sup_congr rfl fun i _ => by congr 1; ring
  rw [hsup]
  have ha := a.isLt
  by_cases hc : k.val ≤ 4 * step + a.val / 2
  · rw [if_pos (by rw [ht, ← hs]; exact hc)]
    refine congrArg (acc (ix2 sub l) ⊔ ·) ?_
    exact (load7 hf (k0_off10_inb i k a) a.val k.val a.isLt hk (by rw [k0_off10_eq i k a]; congr 1; ring) hc sub l)
  · rw [if_neg (by rw [ht, ← hs]; exact hc)]
    show acc _ = _
    have : BA kf qf sf step a.val k.val sub.val l.val = ⊥ := by
      refine (Finset.sup_eq_bot_iff _ _).2 fun i _ => ?_
      rw [TA, if_neg]
      have := Nat.mod_lt l.val (show 64 > 0 by norm_num)
      omega
    rw [this, sup_bot_eq]

/-- The eight shifted powers of two of a block, masked. -/
def fe (S : FVec Ideal S64x256 .f32) (c ms : V8) (o1 : ℕ) (h1 : o1 ≤ 128) (v16 lim : IVec S8x128 32) (i : Fin 8) : V8 :=
  select (cmpi .sle (addi v16 (broadcast S8x128 (BitVec.ofNat 32 (8 * i.val)))) lim)
    (exp2 (subf (xs (R := 64) S c (64 * 0) o1 (by norm_num) h1 i) ms)) (broadcast S8x128 (Scalar.ofBits .f32 0x00000000#32))

/-- Eight vectors added one after another. -/
def facc (acc : V8) (x : Fin 8 → V8) : V8 :=
  addf (addf (addf (addf (addf (addf (addf (addf acc (x 0)) (x 1)) (x 2)) (x 3)) (x 4)) (x 5)) (x 6)) (x 7)

theorem facc_val (acc : V8) (x : Fin 8 → V8) (j : S8x128.Idx) : facc acc x j = acc j + ∑ i, x i j := by
  unfold facc
  pointwise
  rw [Fin.sum_univ_eight]
  abel

/-- The last visible key of a query, counted from a block's start. -/
def lim (v18 : IVec S8x128 32) (s k tile : ℕ) : IVec S8x128 32 :=
  addi v18 (broadcast S8x128 (Scalar.muli (Scalar.subi (Scalar.addi (Scalar.muli (BitVec.ofNat 32 s) 4#32) (BitVec.ofNat 32 tile)) (Scf.iv 0#32 1#32 k)) 64#32))

theorem lim_word (s k tile i sub q : ℕ) (hs : s < 40) (hk : k < 160) (ht : tile < 4) (hi : i < 8) (hsub : sub < 8) (hq : q < 64) :
    IntOp.cmpi CmpIPredicate.sle (IntOp.addi (BitVec.ofNat 32 sub) (BitVec.ofNat 32 (8 * i)))
      (IntOp.addi (BitVec.ofNat 32 q) (Scalar.muli (Scalar.subi (Scalar.addi (Scalar.muli (BitVec.ofNat 32 s) 4#32) (BitVec.ofNat 32 tile)) (Scf.iv 0#32 1#32 k)) 64#32))
      = if 64 * k + 8 * i + sub ≤ s * 256 + tile * 64 + q then 1#1 else 0#1 := by
  have hq' : Affine.IsInt (BitVec.ofNat 32 q) (q : ℤ) := Affine.ofNat q (by omega)
  have hs' : Affine.IsInt (BitVec.ofNat 32 s) (s : ℤ) := Affine.ofNat s (by omega)
  have ht' : Affine.IsInt (BitVec.ofNat 32 tile) (tile : ℤ) := Affine.ofNat tile (by omega)
  have hi' : Affine.IsInt (BitVec.ofNat 32 (8 * i)) (8 * i : ℤ) := Affine.ofNat (8 * i) (by omega)
  have hu' : Affine.IsInt (BitVec.ofNat 32 sub) (sub : ℤ) := Affine.ofNat sub (by omega)
  have h4 : Affine.IsInt 4#32 4 := Affine.ofNat 4 (by omega)
  have h64 : Affine.IsInt 64#32 64 := Affine.ofNat 64 (by omega)
  have hk' : Affine.IsInt (Scf.iv 0#32 1#32 k) (k : ℤ) := Affine.iv (ea := 0) (eb := 1) (Affine.ofNat 0 (by omega)) (Affine.ofNat 1 (by omega)) k (by omega)
  have e1 := Affine.addi hu' hi' (e := sub + 8 * i) (by omega)
  have e2 := Affine.muli hs' h4 (e := s * 4) (by omega)
  have e3 := Affine.addi e2 ht' (e := s * 4 + tile) (by omega)
  have e4 := Affine.subi e3 hk' (e := s * 4 + tile - k) (by omega)
  have e5 := Affine.muli e4 h64 (e := (s * 4 + tile - k) * 64) (by omega)
  have e6 := Affine.addi hq' e5 (e := q + (s * 4 + tile - k) * 64) (by omega)
  by_cases h : 64 * k + 8 * i + sub ≤ s * 256 + tile * 64 + q
  · rw [if_pos h]
    exact Affine.sle_holds e1 e6 (by omega)
  · rw [if_neg h]
    exact (BitVec.eq_zero_or_eq_one _).resolve_right (Affine.sle_fails e1 e6 (by omega))

theorem fsc_val (kb : Vec Ideal S1x64x96 .fp8e4m3) (qt : Vec Ideal S1x256x96 .fp8e4m3) (r : Fin 64) (l : Fin 256) :
    k0_pay816 kb qt (ix2 r l) = ∑ d : Fin 96, kb (ix3 0 r d) * qt (ix3 0 l d) := by
  unfold_payloads
  pointwise
  rw [f8_zero]; simp

/-- A masked shifted power of two is the one of the masked score. -/
theorem fe_val (S : FVec Ideal S64x256 .f32) (c ms : V8) (v16 v18 : IVec S8x128 32) (half tile kb : ℕ) (h1 : 128 * half ≤ 128) (mu : ℕ → EReal)
    (hs : step < 40) (ht : tile < 4) (hkb : kb < 160)
    (hS : IsScore kf qf S (64 * kb) tile)
    (hc : ∀ (sub : Fin 8) (l : Fin 128), c (ix2 sub l) = sf (half * 128 + l.val) * kap)
    (h16 : ∀ (sub : Fin 8) (l : Fin 128), v16 (ix2 sub l) = BitVec.ofNat 32 sub.val)
    (h18 : ∀ (sub : Fin 8) (l : Fin 128), v18 (ix2 sub l) = BitVec.ofNat 32 (l.val % 64))
    (hms : ∀ (sub : Fin 8) (l : Fin 128), ms (ix2 sub l) = mu l.val) (i sub : Fin 8) (l : Fin 128) :
    fe S c ms (128 * half) h1 v16 (lim v18 step kb tile) i (ix2 sub l)
      = Ideal.exp2 (TA kf qf sf step (2 * tile + half) l.val (64 * kb + 8 * i.val + sub.val) - mu l.val) := by
  have hh : half ≤ 1 := by omega
  unfold fe lim
  pointwise [h16 sub l, h18 sub l]
  rw [lim_word step kb tile i.val sub.val (l.val % 64) hs hkb ht i.isLt sub.isLt (Nat.mod_lt _ (by norm_num))]
  have hx := xs_val S c (64 * 0) (128 * half) (by norm_num) h1 i sub l
  rw [hS, hc] at hx
  rw [TA]
  have e1 : (2 * tile + half) / 2 = tile := by omega
  have e2 : (2 * tile + half) % 2 = half := by omega
  rw [e1, e2]
  by_cases h : 64 * kb + 8 * i.val + sub.val ≤ step * 256 + tile * 64 + l.val % 64
  · rw [if_pos h, if_pos h]
    show Ideal.exp2 (xs S c (64 * 0) (128 * half) (by norm_num) h1 i (ix2 sub l) - ms (ix2 sub l)) = _
    rw [hx, hms]
    dsimp only
    rw [show 64 * kb + (64 * 0 + 8 * i.val + sub.val) = 64 * kb + 8 * i.val + sub.val from by omega,
      show tile * 256 + (128 * half + l.val) = tile * 256 + half * 128 + l.val from by omega]
  · rw [if_neg h, if_neg h, bot_sub]
    rfl

/-- One block more in a shifted running sum. -/
theorem sum_next {S : FVec Ideal S64x256 .f32} {c ms acc : V8} {v16 v18 : IVec S8x128 32} {mu : ℕ → EReal} (half tile kb : ℕ) (h1 : 128 * half ≤ 128)
    (hs : step < 40) (ht : tile < 4) (hkb : kb < 160)
    (hS : IsScore kf qf S (64 * kb) tile)
    (hc : ∀ (sub : Fin 8) (l : Fin 128), c (ix2 sub l) = sf (half * 128 + l.val) * kap)
    (h16 : ∀ (sub : Fin 8) (l : Fin 128), v16 (ix2 sub l) = BitVec.ofNat 32 sub.val)
    (h18 : ∀ (sub : Fin 8) (l : Fin 128), v18 (ix2 sub l) = BitVec.ofNat 32 (l.val % 64))
    (hms : ∀ (sub : Fin 8) (l : Fin 128), ms (ix2 sub l) = mu l.val)
    (h : SumIs kf qf sf step mu acc (2 * tile + half) (8 * kb)) :
    SumIs kf qf sf step mu (facc acc (fe S c ms (128 * half) h1 v16 (lim v18 step kb tile))) (2 * tile + half) (8 * (kb + 1)) := by
  intro sub l
  rw [facc_val, h sub l, show 8 * (kb + 1) = 8 * kb + 8 from by ring, Finset.sum_range_add, Finset.sum_range (n := 8)]
  congr 1
  refine Finset.sum_congr rfl fun i _ => ?_
  rw [fe_val S c ms v16 v18 half tile kb h1 mu hs ht hkb hS hc h16 h18 hms]
  congr 3; ring

end

theorem t3_trips : ∀ i : grid0.Coords, (k0_t3_loop i).trips = 4 * (i 1).val + 4 := by
  decide +kernel

theorem t5_trips : ∀ i : grid0.Coords, (k0_t5_loop i).trips = 4 * (i 1).val + 4 := by
  decide +kernel

theorem trip3 (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (f7 : arg7.view.ty.Contents (Elt Ideal)) (k : Fin (k0_t3_loop i).trips) (acc : A8) (K : A8 → sProp 𝕄)
    {kf qf : ℕ → Fin 96 → EReal} {sf : ℕ → EReal} {step : ℕ} (hstep : step = (i 1).val)
    (hacc : ∀ a : Fin 8, MaxIs kf qf sf step (accF acc a) a.val (8 * k.val))
    (hf : Good kf qf sf step arg7 (fun a kb => kb ≤ 4 * step + a / 2) f7) :
    iprop((arg7.view.loc (c : Thread nD τ) ↦[arg7.view.set]{fullShare} f7)
        ∗ (∀ r, iprop((arg7.view.loc (c : Thread nD τ) ↦[arg7.view.set]{fullShare} f7)
              ∗ ⌜∀ a : Fin 8, MaxIs kf qf sf step (accF r a) a.val (8 * (k.val + 1))⌝) -∗ K r))
      ⊢ wp frame (wpE (defs₀ (F := Ideal)) Variants.none c none) Set.univ
          (k0_t3_body i arg2 harg2 arg3 harg3 arg4 harg4 arg5 harg5 arg6 harg6 arg7 harg7 arg8 harg8 arg9 harg9 (BitVec.ofNat 32 (i 1).val) k acc) K := by
  have hk : k.val < 160 := by
    have := Nat.lt_of_lt_of_le k.isLt (t3_trips i).le; have : (i 1).val < 40 := (i 1).isLt; omega
  obtain ⟨a0, a1, a2, a3, a4, a5, a6, a7⟩ := acc
  unfold k0_t3_body
  iintro ⟨H7, Hk⟩
  sl_exec_parts
  sl_step
  iapply Hk
  isplitl [H7]; · iexact H7
  ipureintro
  intro a
  fin_cases a
  · exact max_next hf i k hstep hk 0 0 rfl (hacc 0)
  · exact max_next hf i k hstep hk 1 0 rfl (hacc 1)
  · exact max_next hf i k hstep hk 2 1 rfl (hacc 2)
  · exact max_next hf i k hstep hk 3 1 rfl (hacc 3)
  · exact max_next hf i k hstep hk 4 2 rfl (hacc 4)
  · exact max_next hf i k hstep hk 5 2 rfl (hacc 5)
  · exact max_next hf i k hstep hk 6 3 rfl (hacc 6)
  · exact max_next hf i k hstep hk 7 3 rfl (hacc 7)

theorem trip5 (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (X3 : S1x1024x96.Idx → Elt Ideal .fp8e4m3) (X4 : S1x10240x96.Idx → Elt Ideal .fp8e4m3)
    (v9 v11 : V8) (v16 v18 : IVec S8x128 32) (m6 m7 m0 m1 m2 m3 m4 : V8) (m5 : FVec Ideal S1x128 .f32)
    (k : Fin (k0_t5_loop i).trips) (acc : A8) (K : A8 → sProp 𝕄)
    {kf qf : ℕ → Fin 96 → EReal} {sf : ℕ → EReal} {step : ℕ} {mu : Fin 8 → ℕ → EReal} (hstep : step = (i 1).val)
    (hk : ∀ (key : Fin 10240) d, X4 (ix3 0 key d) = kf key.val d) (hq : ∀ (row : Fin 1024) d, X3 (ix3 0 row d) = qf row.val d)
    (h9 : ∀ (sub : Fin 8) (l : Fin 128), v9 (ix2 sub l) = sf (0 * 128 + l.val) * kap) (h11 : ∀ (sub : Fin 8) (l : Fin 128), v11 (ix2 sub l) = sf (1 * 128 + l.val) * kap)
    (h16 : ∀ (sub : Fin 8) (l : Fin 128), v16 (ix2 sub l) = BitVec.ofNat 32 sub.val)
    (h18 : ∀ (sub : Fin 8) (l : Fin 128), v18 (ix2 sub l) = BitVec.ofNat 32 (l.val % 64))
    (hm : ∀ (a : Fin 8) (sub : Fin 8) (l : Fin 128),
      (![m0, m1, m2, m3, m4, k0_pay1005 m5, k0_pay1006 m6, k0_pay1007 m7] : Fin 8 → V8) a (ix2 sub l) = mu a l.val)
    (hacc : ∀ a : Fin 8, SumIs kf qf sf step (mu a) (accF acc a) a.val (8 * k.val)) :
    iprop((arg3.view.loc (c : Thread nD τ) ↦[arg3.view.set]{fullShare} harg3.unread X3) ∗ (arg4.view.loc (c : Thread nD τ) ↦[arg4.view.set]{fullShare} harg4.unread X4)
        ∗ (∀ r, iprop((arg3.view.loc (c : Thread nD τ) ↦[arg3.view.set]{fullShare} harg3.unread X3) ∗ (arg4.view.loc (c : Thread nD τ) ↦[arg4.view.set]{fullShare} harg4.unread X4)
              ∗ ⌜∀ a : Fin 8, SumIs kf qf sf step (mu a) (accF r a) a.val (8 * (k.val + 1))⌝) -∗ K r))
      ⊢ wp frame (wpE (defs₀ (F := Ideal)) Variants.none c none) Set.univ
          (k0_t5_body i arg2 harg2 arg3 harg3 arg4 harg4 arg5 harg5 arg6 harg6 arg7 harg7 arg8 harg8 arg9 harg9 (BitVec.ofNat 32 (i 1).val) v9 v11 v16 v18 m6 m7 m0 m1 m2 m3 m4 m5 k acc) K := by
  have hs : step < 40 := by rw [hstep]; exact (i 1).isLt
  have hkk : k.val < 160 := by
    have := Nat.lt_of_lt_of_le k.isLt (t5_trips i).le; omega
  obtain ⟨a0, a1, a2, a3, a4, a5, a6, a7⟩ := acc
  unfold k0_t5_body
  iintro ⟨H3, H4, Hk⟩
  sl_exec_parts
  sl_step
  iapply Hk
  isplitl [H3]; · iexact H3
  isplitl [H4]; · iexact H4
  ipureintro
  subst hstep
  have hS : ∀ (tile : Fin 4) (inb), IsScore kf qf (k0_pay816
      (View.readAt (Elt Ideal) arg4.view (Rect.unit (s := S1x10240x96) (k0_off12 i k) S1x64x96.size (k0_off12_inb i k)).toLoadRect (harg4.unread X4))
      (View.readAt (Elt Ideal) arg3.view (Rect.unit (s := S1x1024x96) ![0, 256 * tile.val, 0] S1x256x96.size inb).toLoadRect (harg3.unread X3)))
      (64 * k.val) tile.val := by
    intro tile inb r l
    rw [fsc_val]
    refine Finset.sum_congr rfl fun d _ => ?_
    rw [load4 harg4 X4 hk (k0_off12_inb i k) (k0_off12_eq i k) (by norm_num) r d, load3 harg3 X3 hq inb (Nat.mul_comm _ _) (by norm_num) l d]
  intro a
  fin_cases a
  · exact sum_next 0 0 k.val (by norm_num) hs (by norm_num) hkk (hS 0 (by decide)) h9 h16 h18 (hm 0) (hacc 0)
  · exact sum_next 1 0 k.val (by norm_num) hs (by norm_num) hkk (hS 0 (by decide)) h11 h16 h18 (hm 1) (hacc 1)
  · exact sum_next 0 1 k.val (by norm_num) hs (by norm_num) hkk (hS 1 (by decide)) h9 h16 h18 (hm 2) (hacc 2)
  · exact sum_next 1 1 k.val (by norm_num) hs (by norm_num) hkk (hS 1 (by decide)) h11 h16 h18 (hm 3) (hacc 3)
  · exact sum_next 0 2 k.val (by norm_num) hs (by norm_num) hkk (hS 2 (by decide)) h9 h16 h18 (hm 4) (hacc 4)
  · exact sum_next 1 2 k.val (by norm_num) hs (by norm_num) hkk (hS 2 (by decide)) h11 h16 h18 (hm 5) (hacc 5)
  · exact sum_next 0 3 k.val (by norm_num) hs (by norm_num) hkk (hS 3 (by decide)) h9 h16 h18 (hm 6) (hacc 6)
  · exact sum_next 1 3 k.val (by norm_num) hs (by norm_num) hkk (hS 3 (by decide)) h11 h16 h18 (hm 7) (hacc 7)

end Cert.KernelIdeal.Hand

end
-- ==== Proof.Head.lean ====
/-
  The walk over the full key blocks, and the clearing of the gate scratch at a head's first step.
-/
module

public import proofs.«01_k».proof.Proof.Gen.KernelIdeal.Frame
public import proofs.«01_k».proof.Proof.Gen.KernelIdeal.Skeleton
public import proofs.«01_k».proof.Proof.Fall
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem t2_trips (i : grid0.Coords) : (k0_t2_loop i).trips = 0 := Nat.le_zero.1 (k0_t2_abs i).2.1
theorem t4_trips (i : grid0.Coords) : (k0_t4_loop i).trips = 0 := Nat.le_zero.1 (k0_t4_abs i).2.1
theorem t6_trips (i : grid0.Coords) : (k0_t6_loop i).trips = 0 := Nat.le_zero.1 (k0_t6_abs i).2.1
theorem t8_trips (i : grid0.Coords) : (k0_t8_loop i).trips = 0 := Nat.le_zero.1 (k0_t8_abs i).2.1

/-- The lane numbers and the sublane numbers. -/
abbrev lanes : IVec S8x128 32 := iota .tc S8x128 32 [1] iota_S8x128_d1_w32
abbrev subs : IVec S8x128 32 := iota .tc S8x128 32 [0] iota_S8x128_d0_w32

theorem lanes_val (sub : Fin 8) (l : Fin 128) : lanes (ix2 sub l) = BitVec.ofNat 32 l.val := by pointwise
theorem subs_val (sub : Fin 8) (l : Fin 128) : subs (ix2 sub l) = BitVec.ofNat 32 sub.val := by pointwise

theorem load2 {arg2 : Memref sig .tc .vmem S1x1x256 .f32} (harg2 : arg2.IsWhole) (X2 : S1x1x256.Idx → Elt Ideal .f32)
    {sf : ℕ → EReal} (hsc : ∀ l : Fin 256, X2 (ix3 0 0 l) = sf l.val) {o : ℕ}
    (inb : ∀ a, (![0, 0, o] : Fin 3 → ℕ) a + S1x1x128.size a ≤ S1x1x256.size a) (l : Fin 128) :
    View.readAt (Elt Ideal) arg2.view (Rect.unit (s := S1x1x256) ![0, 0, o] S1x1x128.size inb).toLoadRect (harg2.unread X2) (ix3 0 0 l) = sf (o + l.val) := by
  have h1 : o + 128 ≤ 256 := inb 2
  rw [harg2.readAt_unread]
  rw [← hsc ⟨o + l.val, by omega⟩]
  refine congrArg X2 (funext fun a => Fin.ext ((Rect.idx_unit_val _ _ inb _ a).trans ?_))
  match a with
  | 0 => rfl
  | 1 => rfl
  | 2 => rfl

theorem first_step : ∀ i : grid0.Coords, (Scalar.cmpi .ne (Scalar.extui (Scalar.cmpi .eq (BitVec.ofNat 32 (i 1).val) 0#32) : BitVec 32) 0#32 = 1#1) ↔ (i 1).val = 0 := by
  decide +kernel

theorem clear_val (j : S256x256.Idx) : (k0_pay1053 (F := Ideal)) j = (⊥ : EReal) := by
  unfold_payloads
  pointwise
  exact f32_neg_inf

theorem head_run (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (X2 : S1x1x256.Idx → Elt Ideal .f32) (X3 : S1x1024x96.Idx → Elt Ideal .fp8e4m3) (X4 : S1x10240x96.Idx → Elt Ideal .fp8e4m3)
    (f7 : arg7.view.ty.Contents (Elt Ideal)) (f9 : arg9.view.ty.Contents (Elt Ideal)) (K : _ → sProp 𝕄)
    {kf qf : ℕ → Fin 96 → EReal} {sf : ℕ → EReal} {step : ℕ} (hstep : step = (i 1).val)
    (hsc : ∀ l : Fin 256, X2 (ix3 0 0 l) = sf l.val)
    (hk : ∀ (key : Fin 10240) d, X4 (ix3 0 key d) = kf key.val d) (hq : ∀ (row : Fin 1024) d, X3 (ix3 0 row d) = qf row.val d)
    :
    iprop((arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg7.view.loc (c : Thread nD τ) ↦[arg7.view.set]{fullShare} f7) ∗ (arg9.view.loc (c : Thread nD τ) ↦[arg9.view.set]{fullShare} f9)
        ∗ (∀ (v9 v11 a0 a1 a2 a3 a4 a5 a6 a7 : V8) (v15 v16 v18 : IVec S8x128 32) g7 g9, iprop((arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg7.view.loc (c : Thread nD τ) ↦[arg7.view.set]{fullShare} g7) ∗ (arg9.view.loc (c : Thread nD τ) ↦[arg9.view.set]{fullShare} g9)
              ∗ ⌜(∀ (sub : Fin 8) (l : Fin 128), v15 (ix2 sub l) = BitVec.ofNat 32 l.val) ∧ (∀ (sub : Fin 8) (l : Fin 128), v16 (ix2 sub l) = BitVec.ofNat 32 sub.val) ∧ (∀ (sub : Fin 8) (l : Fin 128), v18 (ix2 sub l) = BitVec.ofNat 32 (l.val % 64))
                ∧ (∀ (sub : Fin 8) (l : Fin 128), v9 (ix2 sub l) = sf (0 * 128 + l.val) * kap) ∧ (∀ (sub : Fin 8) (l : Fin 128), v11 (ix2 sub l) = sf (1 * 128 + l.val) * kap)
                ∧ (∀ a : Fin 8, AccIs kf qf sf step (accF (a0, a1, a2, a3, a4, a5, a6, a7) a) a.val (8 * (4 * step))) ∧ Good kf qf sf step arg7 (fun _ kb => kb < 4 * step) g7
                ∧ (∀ j : S256x256.Idx, arg9.view.read (Elt Ideal) g9 j = if step = 0 then (⊥ : EReal) else arg9.view.read (Elt Ideal) f9 j)⌝)
            -∗ K ⟨BitVec.ofNat 32 (i 1).val, v9, v11, v15, v16, v18, a0, a1, a2, a3, a4, a5, a6, a7⟩))
      ⊢ wp frame (wpE (defs₀ (F := Ideal)) Variants.none c none) Set.univ (k0_part114 i arg2 harg2 arg3 harg3 arg4 harg4 arg5 harg5 arg6 harg6 arg7 harg7 arg8 harg8 arg9 harg9) K := by
  rw [k0_part114_eq_skeleton]
  unfold k0_part114_skel
  iintro ⟨H2, H3, H4, H7, H9, Hk⟩
  sl_exec
  sl_for (fun n acc => iprop((arg3.view.loc (c : Thread nD τ) ↦[arg3.view.set]{fullShare} harg3.unread X3) ∗ (arg4.view.loc (c : Thread nD τ) ↦[arg4.view.set]{fullShare} harg4.unread X4) ∗ (∃ f, (arg7.view.loc (c : Thread nD τ) ↦[arg7.view.set]{fullShare} f) ∗ ⌜(∀ a : Fin 8, AccIs kf qf sf step (accF acc a) a.val (8 * (4 * n))) ∧ Good kf qf sf step arg7 (fun _ kb => kb < 4 * n) f⌝))) $$ [H3 H4 H7]
  case region =>
    intro k acc
    iintro ⟨H3, H4, %g7, H7, %hg⟩
    iapply (trip1 (kf := kf) (qf := qf) (sf := sf) (step := step) c i arg2 harg2 arg3 harg3 arg4 harg4 arg5 harg5 arg6 harg6 arg7 harg7 arg8 harg8 arg9 harg9 X3 X4 g7 _ _ k acc _ hstep hk hq
      (fun l => load2 harg2 X2 hsc _ l) (fun l => load2 harg2 X2 hsc _ l) hg.1 hg.2)
    isplitl [H3]; · iexact H3
    isplitl [H4]; · iexact H4
    isplitl [H7]; · iexact H7
    iintro %r %f ⟨H3, H4, H7, %hr⟩
    isplitl [H3]; · iexact H3
    isplitl [H4]; · iexact H4
    iexists f
    isplitl [H7]; · iexact H7
    ipureintro
    exact hr
  · isplitl [H3]; · iexact H3
    isplitl [H4]; · iexact H4
    iexists f7
    isplitl [H7]; · iexact H7
    ipureintro
    constructor
    · intro a sub l
      have hz : ∀ v : V8, v = (broadcast S8x128 (Scalar.ofBits (F := Ideal) .f32 0x00000000#32) : V8) → v (ix2 sub l) = AC kf qf sf step a.val (8 * (4 * 0)) sub.val l.val := by
        intro v hv
        rw [hv]
        exact Ideal.ofBits_zero_f32.trans (by simp [AC])
      fin_cases a <;> exact hz _ rfl
    · intro a kb sub l ha hkb h
      exact absurd h (by omega)
  iintro %acc ⟨H3, H4, %g7, H7, %hg⟩
  obtain ⟨a0, a1, a2, a3, a4, a5, a6, a7⟩ := acc
  sl_exec
  sl_for0 (t2_trips i)
  sl_exec
  sl_step
  rw [show Scf.trips (k0_t1_loop i).lb (k0_t1_loop i).ub (k0_t1_loop i).st = step from (t1_trips i).trans hstep.symm] at hg
  iapply Hk
  isplitl [H2]; · iexact H2
  isplitl [H3]; · iexact H3
  isplitl [H4]; · iexact H4
  isplitl [H7]; · iexact H7
  isplitl [H9]; · iexact H9
  ipureintro
  refine ⟨fun sub l => lanes_val sub l, fun sub l => subs_val sub l, fun sub l => v18_val sub l, fun sub l => ?_, fun sub l => ?_, hg.1, hg.2, fun j => ?_⟩
  · rw [c_val0, load2 harg2 X2 hsc]
  · rw [c_val1, load2 harg2 X2 hsc]
  · rw [hstep]
    split
    · rename_i hc
      rw [if_pos ((first_step i).1 hc)]
      exact (View.read_writes_cons_unit_of_mem (size := S256x256.size) arg9.view f9 inb_S256x256_S256x256_0_0 _ [] j j rfl
        (Fin.forall_fin_two.mpr ⟨(Nat.zero_add _).symm, (Nat.zero_add _).symm⟩)).trans (clear_val j)
    · rename_i hc
      rw [if_neg (fun h => hc ((first_step i).2 h))]

end Cert.KernelIdeal.Hand

end
-- ==== Proof.Lse.lean ====
/-
  The log sums of a step: plain where every sum of powers of two is in range, shifted by the maxima otherwise.
-/
module

public import proofs.«01_k».proof.Proof.Gen.KernelIdeal.Frame
public import proofs.«01_k».proof.Proof.Gen.KernelIdeal.Skeleton
public import proofs.«01_k».proof.Proof.Head
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem regroup_sum (f : ℕ → EReal) (M : ℕ) : ∑ sub : Fin 8, ∑ m ∈ Finset.range M, f (8 * m + sub.val) = ∑ key ∈ Finset.range (8 * M), f key := by
  rw [Finset.sum_comm]
  induction M with
  | zero => simp
  | succ M ih =>
    rw [Finset.sum_range_succ, ih, show 8 * (M + 1) = 8 * M + 8 by ring, Finset.sum_range_add, Finset.sum_range (n := 8)]

theorem regroup_sup (f : ℕ → EReal) (M : ℕ) :
    (Finset.univ.sup fun sub : Fin 8 => (Finset.range M).sup fun m => f (8 * m + sub.val)) = (Finset.range (8 * M)).sup f := by
  apply le_antisymm
  · refine Finset.sup_le fun sub _ => Finset.sup_le fun m hm => ?_
    have := Finset.mem_range.1 hm
    exact Finset.le_sup (f := f) (Finset.mem_range.2 (by omega))
  · refine Finset.sup_le fun key hkey => ?_
    have := Finset.mem_range.1 hkey
    refine le_trans ?_ (Finset.le_sup (f := fun sub : Fin 8 => (Finset.range M).sup fun m => f (8 * m + sub.val)) (Finset.mem_univ ⟨key % 8, Nat.mod_lt _ (by norm_num)⟩))
    refine le_trans ?_ (Finset.le_sup (f := fun m => f (8 * m + key % 8)) (Finset.mem_range.2 (show key / 8 < M by omega)))
    rw [Nat.div_add_mod]

section
variable (kf qf : ℕ → Fin 96 → EReal) (sf : ℕ → EReal) (step : ℕ)

/-- The masked score, in natural units. -/
def NT (a l key : ℕ) : EReal :=
  if key ≤ step * 256 + a / 2 * 64 + l % 64 then
    (∑ d : Fin 96, kf key d * qf (a / 2 * 256 + a % 2 * 128 + l) d) * sf (a % 2 * 128 + l) else ⊥

theorem TA_NT (a l key : ℕ) : TA kf qf sf step a l key = NT kf qf sf step a l key * kap := by
  unfold TA NT
  split
  · rw [mul_assoc]
  · rw [bot_mul_kap]

/-- The log sum of a query's scores, in units of powers of two. -/
def Lk (a l : ℕ) : EReal := lse (Finset.range (256 * (step + 1))) (NT kf qf sf step a l) * kap

/-- The largest score of a query. -/
def MU (a l : ℕ) : EReal := (Finset.range (256 * (step + 1))).sup (TA kf qf sf step a l)

theorem MU_eq (a l : ℕ) : MU kf qf sf step a l = (Finset.range (256 * (step + 1))).sup (NT kf qf sf step a l) * kap := by
  rw [sup_mul_kap]
  exact Finset.sup_congr rfl fun key _ => TA_NT kf qf sf step a l key

theorem shifted_eq (a l : ℕ) :
    MU kf qf sf step a l + Ideal.log (∑ key ∈ Finset.range (256 * (step + 1)), Ideal.exp2 (TA kf qf sf step a l key - MU kf qf sf step a l)) * kap
      = Lk kf qf sf step a l := by
  rw [Lk, lse, add_mul_kap, MU_eq]
  congr 3
  refine Finset.sum_congr rfl fun key _ => ?_
  rw [TA_NT, ← sub_mul_kap, exp2_mul_kap]

theorem plain_eq (a l : ℕ) (h0 : 0 < ∑ key ∈ Finset.range (256 * (step + 1)), Ideal.exp2 (TA kf qf sf step a l key))
    (h1 : ∑ key ∈ Finset.range (256 * (step + 1)), Ideal.exp2 (TA kf qf sf step a l key) < ⊤) :
    Ideal.log (∑ key ∈ Finset.range (256 * (step + 1)), Ideal.exp2 (TA kf qf sf step a l key)) * kap = Lk kf qf sf step a l := by
  have h : ∑ key ∈ Finset.range (256 * (step + 1)), Ideal.exp2 (TA kf qf sf step a l key) = ∑ key ∈ Finset.range (256 * (step + 1)), Ideal.exp (NT kf qf sf step a l key) :=
    Finset.sum_congr rfl fun key _ => by rw [TA_NT, exp2_mul_kap]
  rw [h] at h0 h1 ⊢
  rw [Lk, lse_eq_log _ _ h0 h1]

/-- The rows past a query block's own diagonal block add nothing. -/
theorem acc_total {acc : V8} {a : ℕ} (ha : a < 8) (h : AccIs kf qf sf step acc a (8 * (4 * step + a / 2 + 1))) (l : Fin 128) :
    ∑ sub : Fin 8, acc (ix2 sub l) = ∑ key ∈ Finset.range (256 * (step + 1)), Ideal.exp2 (TA kf qf sf step a l.val key) := by
  rw [Finset.sum_congr rfl fun sub _ => h sub l]
  unfold AC
  rw [regroup_sum (fun key => Ideal.exp2 (TA kf qf sf step a l.val key))]
  refine Finset.sum_subset (fun x hx => ?_) (fun x _ hx => ?_)
  · rw [Finset.mem_range] at hx ⊢; omega
  · rw [Finset.mem_range] at hx
    rw [TA, if_neg (by omega)]
    rfl

end

theorem row_val (m s : V8) (l : Fin 128) : k0_pay1018 m s (ix2 0 l) = m (ix2 0 l) + Ideal.log (∑ sub : Fin 8, s (ix2 sub l)) * kap := by
  unfold_payloads
  pointwise
  rfl

theorem max_val (m : V8) (sub : Fin 8) (l : Fin 128) : k0_pay999 m (ix2 sub l) = Finset.univ.sup fun s : Fin 8 => m (ix2 s l) := by
  unfold_payloads
  pointwise
  rw [show Ideal.ofBits FTy.f32 4286578688#32 = (⊥ : EReal) from f32_neg_inf]; rfl

/-- The eight rows of sums, one under another. -/
def L8 (s : Fin 8 → V8) : V8 :=
  k0_pay1364 (s 3) (s 4) (s 5) (s 6) (s 7) (k0_pay1361 (s 0)) (k0_pay1362 (s 1)) (k0_pay1363 (s 2))

theorem L8_val (s : Fin 8 → V8) (a : Fin 8) (l : Fin 128) : L8 s (ix2 a l) = ∑ sub : Fin 8, s a (ix2 sub l) := by
  unfold L8
  fin_cases a <;> unfold_payloads <;> pointwise

theorem plain_val (s : Fin 8 → V8) (a : Fin 8) (l : Fin 128) :
    k0_pay1365 (s 3) (s 4) (s 5) (s 6) (s 7) (k0_pay1361 (s 0)) (k0_pay1362 (s 1)) (k0_pay1363 (s 2)) (ix2 a l) = Ideal.log (L8 s (ix2 a l)) * kap := by
  unfold k0_pay1365
  pointwise
  rfl

theorem range_val (s : Fin 8 → V8) (h : Scalar.cmpi .ne (Scalar.extui (Scalar.cmpf .ogt (k0_pay1366 (s 3) (s 4) (s 5) (s 6) (s 7) (k0_pay1361 (s 0)) (k0_pay1362 (s 1)) (k0_pay1363 (s 2))) (Scalar.ofBits (F := Ideal) .f32 0x00000000#32)) : BitVec 32) 0#32 ≠ 1#1)
    (a : Fin 8) (l : Fin 128) : 0 < L8 s (ix2 a l) ∧ L8 s (ix2 a l) < ⊤ := by
  unfold k0_pay1366 at h
  rw [show k0_pay1364 (s 3) (s 4) (s 5) (s 6) (s 7) (k0_pay1361 (s 0)) (k0_pay1362 (s 1)) (k0_pay1363 (s 2)) = L8 s from rfl] at h
  generalize L8 s = u at h ⊢
  revert h
  pointwise
  intro h
  have h2 : ¬ (0 : EReal) < Finset.fold max (Ideal.ofBits FTy.f32 4286578688#32)
      (fun x : Fin 8 × Fin 128 => Scalar.select (IntOp.andi (BitVec.ofBool (decide (Ideal.ofBits FTy.f32 562036736#32 < u (ix2 x.1 x.2))))
        (BitVec.ofBool (decide (u (ix2 x.1 x.2) < Ideal.ofBits FTy.f32 2071986176#32)))) (0 : EReal) 1) Finset.univ := by
    intro hp
    apply h
    erw [decide_eq_true hp]
    rfl
  have h3 : ¬ (0 : EReal) < Scalar.select (IntOp.andi (BitVec.ofBool (decide (Ideal.ofBits FTy.f32 562036736#32 < u (ix2 a l))))
      (BitVec.ofBool (decide (u (ix2 a l) < Ideal.ofBits FTy.f32 2071986176#32)))) (0 : EReal) 1 := fun hp =>
    h2 ((Finset.lt_fold_max _).2 (Or.inr ⟨(a, l), Finset.mem_univ _, hp⟩))
  have hc : (0 : EReal) ≤ Ideal.ofBits FTy.f32 562036736#32 := by
    simp [Ideal.ofBits, Ideal.ieee, -EReal.coe_mul]
  by_cases h4 : Ideal.ofBits FTy.f32 562036736#32 < u (ix2 a l)
  · by_cases h5 : u (ix2 a l) < Ideal.ofBits FTy.f32 2071986176#32
    · exact ⟨lt_of_le_of_lt hc h4, lt_of_lt_of_le h5 le_top⟩
    · rw [decide_eq_true h4, decide_eq_false h5] at h3
      exact absurd (show (0 : EReal) < 1 from zero_lt_one) h3
  · rw [decide_eq_false h4] at h3
    by_cases h5 : u (ix2 a l) < Ideal.ofBits FTy.f32 2071986176#32
    · rw [decide_eq_true h5] at h3
      exact absurd (show (0 : EReal) < 1 from zero_lt_one) h3
    · rw [decide_eq_false h5] at h3
      exact absurd (show (0 : EReal) < 1 from zero_lt_one) h3

end Cert.KernelIdeal.Hand

end
-- ==== Proof.Second.lean ====
/-
  The second pass, run: maxima, then shifted sums, then the log sums stored row by row.
-/
module

public import proofs.«01_k».proof.Proof.Gen.KernelIdeal.Frame
public import proofs.«01_k».proof.Proof.Gen.KernelIdeal.Skeleton
public import proofs.«01_k».proof.Proof.Lse
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem max_run (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (f7 : arg7.view.ty.Contents (Elt Ideal)) (K : _ → sProp 𝕄)
    {kf qf : ℕ → Fin 96 → EReal} {sf : ℕ → EReal} {step : ℕ} (hstep : step = (i 1).val)
    (hf : Good kf qf sf step arg7 (fun a kb => kb ≤ 4 * step + a / 2) f7) :
    iprop((arg7.view.loc (c : Thread nD τ) ↦[arg7.view.set]{fullShare} f7)
        ∗ (∀ (m6 m7 m0 m1 m2 m3 m4 : V8) (m5 : FVec Ideal S1x128 .f32), iprop((arg7.view.loc (c : Thread nD τ) ↦[arg7.view.set]{fullShare} f7)
              ∗ ⌜∀ (a : Fin 8) (sub : Fin 8) (l : Fin 128),
      (![m0, m1, m2, m3, m4, k0_pay1005 m5, k0_pay1006 m6, k0_pay1007 m7] : Fin 8 → V8) a (ix2 sub l) = MU kf qf sf step a.val l.val⌝) -∗ K ⟨m6, m7, m0, m1, m2, m3, m4, m5⟩))
      ⊢ wp frame (wpE (defs₀ (F := Ideal)) Variants.none c none) Set.univ (k0_part91 i arg2 harg2 arg3 harg3 arg4 harg4 arg5 harg5 arg6 harg6 arg7 harg7 arg8 harg8 arg9 harg9 (BitVec.ofNat 32 (i 1).val)) K := by
  rw [k0_part91_eq_skeleton]
  unfold k0_part91_skel
  iintro ⟨H7, Hk⟩
  sl_exec
  sl_for (fun n acc => iprop((arg7.view.loc (c : Thread nD τ) ↦[arg7.view.set]{fullShare} f7) ∗ ⌜∀ a : Fin 8, MaxIs kf qf sf step (accF acc a) a.val (8 * n)⌝)) $$ [H7]
  case region =>
    intro k acc
    iintro ⟨H7, %hg⟩
    iapply (trip3 (kf := kf) (qf := qf) (sf := sf) (step := step) c i arg2 harg2 arg3 harg3 arg4 harg4 arg5 harg5 arg6 harg6 arg7 harg7 arg8 harg8 arg9 harg9 f7 k acc _ hstep hg hf)
    isplitl [H7]; · iexact H7
    iintro %r ⟨H7, %hr⟩
    isplitl [H7]; · iexact H7
    ipureintro
    exact hr
  · isplitl [H7]; · iexact H7
    ipureintro
    intro a sub l
    have hz : ∀ v : V8, v = (broadcast S8x128 (Scalar.ofBits (F := Ideal) .f32 0xFF800000#32) : V8) → ∀ f : ℕ → EReal, v (ix2 sub l) = (Finset.range (8 * 0)).sup f := by
      intro v hv f
      rw [hv]
      exact f32_neg_inf.trans (by simp)
    fin_cases a <;> exact hz _ rfl _
  iintro %acc ⟨H7, %hg⟩
  obtain ⟨a0, a1, a2, a3, a4, a5, a6, a7⟩ := acc
  sl_exec
  sl_for0 (t4_trips i)
  sl_exec
  sl_step
  rw [show Scf.trips (k0_t3_loop i).lb (k0_t3_loop i).ub (k0_t3_loop i).st = 4 * step + 4 from (t3_trips i).trans (by rw [hstep])] at hg
  iapply Hk
  isplitl [H7]; · iexact H7
  ipureintro
  intro a sub l
  have key : ∀ (m : V8), (MaxIs kf qf sf step m a.val (8 * (4 * step + 4))) → k0_pay999 m (ix2 sub l) = MU kf qf sf step a.val l.val := by
    intro m hm
    rw [max_val, MU, show 256 * (step + 1) = 8 * (8 * (4 * step + 4)) by ring, ← regroup_sup]
    exact Finset.sup_congr rfl fun s _ => hm s l
  have hga := hg a
  fin_cases a <;> exact key _ hga

theorem sum_run (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (X3 : S1x1024x96.Idx → Elt Ideal .fp8e4m3) (X4 : S1x10240x96.Idx → Elt Ideal .fp8e4m3)
    (v9 v11 : V8) (v16 v18 : IVec S8x128 32) (m6 m7 m0 m1 m2 m3 m4 : V8) (m5 : FVec Ideal S1x128 .f32)
    (f8 : arg8.view.ty.Contents (Elt Ideal)) (K : _ → sProp 𝕄)
    {kf qf : ℕ → Fin 96 → EReal} {sf : ℕ → EReal} {step : ℕ} {mu : Fin 8 → ℕ → EReal} (hstep : step = (i 1).val)
    (hk : ∀ (key : Fin 10240) d, X4 (ix3 0 key d) = kf key.val d) (hq : ∀ (row : Fin 1024) d, X3 (ix3 0 row d) = qf row.val d)
    (h9 : ∀ (sub : Fin 8) (l : Fin 128), v9 (ix2 sub l) = sf (0 * 128 + l.val) * kap) (h11 : ∀ (sub : Fin 8) (l : Fin 128), v11 (ix2 sub l) = sf (1 * 128 + l.val) * kap)
    (h16 : ∀ (sub : Fin 8) (l : Fin 128), v16 (ix2 sub l) = BitVec.ofNat 32 sub.val)
    (h18 : ∀ (sub : Fin 8) (l : Fin 128), v18 (ix2 sub l) = BitVec.ofNat 32 (l.val % 64))
    (hm : ∀ (a : Fin 8) (sub : Fin 8) (l : Fin 128),
      (![m0, m1, m2, m3, m4, k0_pay1005 m5, k0_pay1006 m6, k0_pay1007 m7] : Fin 8 → V8) a (ix2 sub l) = mu a l.val) :
    iprop((arg3.view.loc (c : Thread nD τ) ↦[arg3.view.set]{fullShare} harg3.unread X3) ∗ (arg4.view.loc (c : Thread nD τ) ↦[arg4.view.set]{fullShare} harg4.unread X4) ∗ (arg8.view.loc (c : Thread nD τ) ↦[arg8.view.set]{fullShare} f8)
        ∗ (∀ (s0 s1 s2 s3 s4 s5 s6 s7 : V8), iprop((arg3.view.loc (c : Thread nD τ) ↦[arg3.view.set]{fullShare} harg3.unread X3) ∗ (arg4.view.loc (c : Thread nD τ) ↦[arg4.view.set]{fullShare} harg4.unread X4) ∗ (arg8.view.loc (c : Thread nD τ) ↦[arg8.view.set]{fullShare} arg8.view.writes (Elt Ideal) f8 [⟨Rect.unit (s := S8x128) ![0, 0] S1x128.size inb_S8x128_S1x128_0_0, k0_pay1018 m0 s0⟩])
              ∗ ⌜∀ a : Fin 8, SumIs kf qf sf step (mu a) (accF (s0, s1, s2, s3, s4, s5, s6, s7) a) a.val (8 * (4 * step + 4))⌝)
             -∗ K ⟨k0_pay1005 m5, k0_pay1006 m6, k0_pay1007 m7, s2, s3, s4, s5, s6, s7, k0_pay1019 m1, k0_pay1020 s1⟩))
      ⊢ wp frame (wpE (defs₀ (F := Ideal)) Variants.none c none) Set.univ (k0_part92 i arg2 harg2 arg3 harg3 arg4 harg4 arg5 harg5 arg6 harg6 arg7 harg7 arg8 harg8 arg9 harg9 (BitVec.ofNat 32 (i 1).val) v9 v11 v16 v18 m6 m7 m0 m1 m2 m3 m4 m5) K := by
  rw [k0_part92_eq_skeleton]
  unfold k0_part92_skel
  iintro ⟨H3, H4, H8, Hk⟩
  sl_exec
  sl_for (fun n acc => iprop((arg3.view.loc (c : Thread nD τ) ↦[arg3.view.set]{fullShare} harg3.unread X3) ∗ (arg4.view.loc (c : Thread nD τ) ↦[arg4.view.set]{fullShare} harg4.unread X4) ∗ ⌜∀ a : Fin 8, SumIs kf qf sf step (mu a) (accF acc a) a.val (8 * n)⌝)) $$ [H3 H4]
  case region =>
    intro k acc
    iintro ⟨H3, H4, %hg⟩
    iapply (trip5 (kf := kf) (qf := qf) (sf := sf) (step := step) (mu := mu) c i arg2 harg2 arg3 harg3 arg4 harg4 arg5 harg5 arg6 harg6 arg7 harg7 arg8 harg8 arg9 harg9 X3 X4 v9 v11 v16 v18 m6 m7 m0 m1 m2 m3 m4 m5 k acc _ hstep hk hq h9 h11 h16 h18 hm hg)
    isplitl [H3]; · iexact H3
    isplitl [H4]; · iexact H4
    iintro %r ⟨H3, H4, %hr⟩
    isplitl [H3]; · iexact H3
    isplitl [H4]; · iexact H4
    ipureintro
    exact hr
  · isplitl [H3]; · iexact H3
    isplitl [H4]; · iexact H4
    ipureintro
    intro a sub l
    show _ = ∑ m ∈ Finset.range (8 * 0), Ideal.exp2 (TA kf qf sf step a.val l.val (8 * m + sub.val) - mu a l.val)
    have hz : ∀ v : V8, v = (broadcast S8x128 (Scalar.ofBits (F := Ideal) .f32 0x00000000#32) : V8) → ∀ f : ℕ → EReal, v (ix2 sub l) = ∑ m ∈ Finset.range (8 * 0), f m := by
      intro v hv f
      rw [hv]
      exact Ideal.ofBits_zero_f32.trans (by simp)
    fin_cases a <;> exact hz _ rfl _
  iintro %acc ⟨H3, H4, %hg⟩
  rw [show Scf.trips (k0_t5_loop i).lb (k0_t5_loop i).ub (k0_t5_loop i).st = 4 * step + 4 from (t5_trips i).trans (by rw [hstep])] at hg
  obtain ⟨a0, a1, a2, a3, a4, a5, a6, a7⟩ := acc
  sl_exec
  sl_for0 (t6_trips i)
  sl_exec
  sl_step
  iapply Hk
  isplitl [H3]; · iexact H3
  isplitl [H4]; · iexact H4
  isplitl [H8]; · iexact H8
  ipureintro
  exact hg

end Cert.KernelIdeal.Hand

end
-- ==== Proof.LseRun.lean ====
/-
  The log sums of a step, in the scratch that holds them.
-/
module

public import proofs.«01_k».proof.Proof.Gen.KernelIdeal.Frame
public import proofs.«01_k».proof.Proof.Gen.KernelIdeal.Skeleton
public import proofs.«01_k».proof.Proof.Second
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem rows8 {arg8 : Memref sig .tc .vmem S8x128 .f32} (f8 : arg8.view.ty.Contents (Elt Ideal)) (P : Fin 8 → FVec Ideal S1x128 .f32)
    (L : List (View.Piece (Elt Ideal) S8x128 .f32)) (a : Fin 8) (l : Fin 128) :
    arg8.view.read (Elt Ideal) (arg8.view.writes (Elt Ideal) f8 ((⟨Rect.unit (s := S8x128) ![7, 0] S1x128.size inb_S8x128_S1x128_7_0, P 7⟩ : View.Piece (Elt Ideal) S8x128 .f32) :: (⟨Rect.unit (s := S8x128) ![6, 0] S1x128.size inb_S8x128_S1x128_6_0, P 6⟩ : View.Piece (Elt Ideal) S8x128 .f32) :: (⟨Rect.unit (s := S8x128) ![5, 0] S1x128.size inb_S8x128_S1x128_5_0, P 5⟩ : View.Piece (Elt Ideal) S8x128 .f32) :: (⟨Rect.unit (s := S8x128) ![4, 0] S1x128.size inb_S8x128_S1x128_4_0, P 4⟩ : View.Piece (Elt Ideal) S8x128 .f32) :: (⟨Rect.unit (s := S8x128) ![3, 0] S1x128.size inb_S8x128_S1x128_3_0, P 3⟩ : View.Piece (Elt Ideal) S8x128 .f32) :: (⟨Rect.unit (s := S8x128) ![2, 0] S1x128.size inb_S8x128_S1x128_2_0, P 2⟩ : View.Piece (Elt Ideal) S8x128 .f32) :: (⟨Rect.unit (s := S8x128) ![1, 0] S1x128.size inb_S8x128_S1x128_1_0, P 1⟩ : View.Piece (Elt Ideal) S8x128 .f32) :: (⟨Rect.unit (s := S8x128) ![0, 0] S1x128.size inb_S8x128_S1x128_0_0, P 0⟩ : View.Piece (Elt Ideal) S8x128 .f32) :: L)) (ix2 a l) = P a (ix2 0 l) := by
  have hit : ∀ (b : Fin 8) (o : ℕ) (inb) (M : List (View.Piece (Elt Ideal) S8x128 .f32)), a = b → o = b.val →
      arg8.view.read (Elt Ideal) (arg8.view.writes (Elt Ideal) f8 ((⟨Rect.unit (s := S8x128) ![o, 0] S1x128.size inb, P b⟩ : View.Piece (Elt Ideal) S8x128 .f32) :: M)) (ix2 a l) = P a (ix2 0 l) := by
    intro b o inb M h ho
    subst h ho
    exact View.read_writes_cons_rows_of_mem (size := S1x128.size) arg8.view f8 inb _ M (ix2 a l) (ix2 0 l) rfl rfl rfl
  have miss : ∀ (b : Fin 8) (o : ℕ) (inb) (M : List (View.Piece (Elt Ideal) S8x128 .f32)), a.val ≠ o →
      arg8.view.read (Elt Ideal) (arg8.view.writes (Elt Ideal) f8 M) (ix2 a l) = P a (ix2 0 l) →
      arg8.view.read (Elt Ideal) (arg8.view.writes (Elt Ideal) f8 ((⟨Rect.unit (s := S8x128) ![o, 0] S1x128.size inb, P b⟩ : View.Piece (Elt Ideal) S8x128 .f32) :: M)) (ix2 a l) = P a (ix2 0 l) := by
    intro b o inb M h hM
    rw [View.read_writes_cons_rows_of_not_mem (size := S1x128.size) arg8.view f8 inb _ M (ix2 a l) (W := 1) rfl rfl (by show a.val < o ∨ o + 1 ≤ a.val; omega)]
    exact hM
  by_cases h7 : a.val = 7
  · exact hit 7 7 _ _ (Fin.ext h7) rfl
  refine miss 7 7 _ _ h7 ?_
  by_cases h6 : a.val = 6
  · exact hit 6 6 _ _ (Fin.ext h6) rfl
  refine miss 6 6 _ _ h6 ?_
  by_cases h5 : a.val = 5
  · exact hit 5 5 _ _ (Fin.ext h5) rfl
  refine miss 5 5 _ _ h5 ?_
  by_cases h4 : a.val = 4
  · exact hit 4 4 _ _ (Fin.ext h4) rfl
  refine miss 4 4 _ _ h4 ?_
  by_cases h3 : a.val = 3
  · exact hit 3 3 _ _ (Fin.ext h3) rfl
  refine miss 3 3 _ _ h3 ?_
  by_cases h2 : a.val = 2
  · exact hit 2 2 _ _ (Fin.ext h2) rfl
  refine miss 2 2 _ _ h2 ?_
  by_cases h1 : a.val = 1
  · exact hit 1 1 _ _ (Fin.ext h1) rfl
  refine miss 1 1 _ _ h1 ?_
  by_cases h0 : a.val = 0
  · exact hit 0 0 _ _ (Fin.ext h0) rfl
  refine miss 0 0 _ _ h0 ?_
  exact absurd a.isLt (by omega)

theorem word_ne (b : BitVec 1) : (Scalar.cmpi .ne (Scalar.extui b : BitVec 32) 0#32) = b := by
  revert b; decide

theorem lse_run (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (X3 : S1x1024x96.Idx → Elt Ideal .fp8e4m3) (X4 : S1x10240x96.Idx → Elt Ideal .fp8e4m3)
    (v9 v11 : V8) (v16 v18 : IVec S8x128 32) (s0 s1 s2 s3 s4 s5 s6 s7 : V8)
    (f7 : arg7.view.ty.Contents (Elt Ideal)) (f8 : arg8.view.ty.Contents (Elt Ideal)) (K : _ → sProp 𝕄)
    {kf qf : ℕ → Fin 96 → EReal} {sf : ℕ → EReal} {step : ℕ} (hstep : step = (i 1).val)
    (hk : ∀ (key : Fin 10240) d, X4 (ix3 0 key d) = kf key.val d) (hq : ∀ (row : Fin 1024) d, X3 (ix3 0 row d) = qf row.val d)
    (h9 : ∀ (sub : Fin 8) (l : Fin 128), v9 (ix2 sub l) = sf (0 * 128 + l.val) * kap) (h11 : ∀ (sub : Fin 8) (l : Fin 128), v11 (ix2 sub l) = sf (1 * 128 + l.val) * kap)
    (h16 : ∀ (sub : Fin 8) (l : Fin 128), v16 (ix2 sub l) = BitVec.ofNat 32 sub.val)
    (h18 : ∀ (sub : Fin 8) (l : Fin 128), v18 (ix2 sub l) = BitVec.ofNat 32 (l.val % 64))
    (hacc : ∀ a : Fin 8, AccIs kf qf sf step (accF (s0, s1, s2, s3, s4, s5, s6, s7) a) a.val (8 * (4 * step + a.val / 2 + 1)))
    (hf : Good kf qf sf step arg7 (fun a kb => kb ≤ 4 * step + a / 2) f7) :
    iprop((arg3.view.loc (c : Thread nD τ) ↦[arg3.view.set]{fullShare} harg3.unread X3) ∗ (arg4.view.loc (c : Thread nD τ) ↦[arg4.view.set]{fullShare} harg4.unread X4) ∗ (arg7.view.loc (c : Thread nD τ) ↦[arg7.view.set]{fullShare} f7) ∗ (arg8.view.loc (c : Thread nD τ) ↦[arg8.view.set]{fullShare} f8)
        ∗ (∀ g8, iprop((arg3.view.loc (c : Thread nD τ) ↦[arg3.view.set]{fullShare} harg3.unread X3) ∗ (arg4.view.loc (c : Thread nD τ) ↦[arg4.view.set]{fullShare} harg4.unread X4) ∗ (arg7.view.loc (c : Thread nD τ) ↦[arg7.view.set]{fullShare} f7) ∗ (arg8.view.loc (c : Thread nD τ) ↦[arg8.view.set]{fullShare} g8)
              ∗ ⌜∀ (a : Fin 8) (l : Fin 128), arg8.view.read (Elt Ideal) g8 (ix2 a l) = Lk kf qf sf step a.val l.val⌝) -∗ K (k0_pay1370 (BitVec.ofNat 32 (i 1).val))))
      ⊢ wp frame (wpE (defs₀ (F := Ideal)) Variants.none c none) Set.univ (k0_part142 i arg2 harg2 arg3 harg3 arg4 harg4 arg5 harg5 arg6 harg6 arg7 harg7 arg8 harg8 arg9 harg9 (BitVec.ofNat 32 (i 1).val) v9 v11 v16 v18 s3 s4 s5 s6 s7 (k0_pay1361 s0) (k0_pay1362 s1) (k0_pay1363 s2)) K := by
  rw [k0_part142_eq_skeleton]
  unfold k0_part142_skel
  iintro ⟨H3, H4, H7, H8, Hk⟩
  by_cases hw : (Scalar.cmpi .ne (Scalar.extui (Scalar.cmpf .ogt (k0_pay1366 s3 s4 s5 s6 s7 (k0_pay1361 s0) (k0_pay1362 s1) (k0_pay1363 s2)) (Scalar.ofBits (F := Ideal) .f32 0x00000000#32)) : BitVec 32) 0#32) = 1#1
  · set_option sl_exec.stopBefore "k0_part91" in sl_exec
    rw [wp_bind]
    iapply (max_run (kf := kf) (qf := qf) (sf := sf) (step := step) c i arg2 harg2 arg3 harg3 arg4 harg4 arg5 harg5 arg6 harg6 arg7 harg7 arg8 harg8 arg9 harg9 f7 _ hstep hf)
    isplitl [H7]; · iexact H7
    iintro %m6 %m7 %m0 %m1 %m2 %m3 %m4 %m5 ⟨H7, %hm⟩
    set_option sl_exec.stopBefore "k0_part92" in sl_exec
    rw [wp_bind]
    iapply (sum_run (kf := kf) (qf := qf) (sf := sf) (step := step) (mu := fun a l => MU kf qf sf step a.val l) c i arg2 harg2 arg3 harg3 arg4 harg4 arg5 harg5 arg6 harg6 arg7 harg7 arg8 harg8 arg9 harg9 X3 X4 v9 v11 v16 v18 m6 m7 m0 m1 m2 m3 m4 m5 _ _ hstep hk hq h9 h11 h16 h18 hm)
    isplitl [H3]; · iexact H3
    isplitl [H4]; · iexact H4
    isplitl [H8]; · iexact H8
    iintro %t0 %t1 %t2 %t3 %t4 %t5 %t6 %t7 ⟨H3, H4, H8, %ht⟩
    sl_exec_parts
    sl_step
    iapply Hk
    isplitl [H3]; · iexact H3
    isplitl [H4]; · iexact H4
    isplitl [H7]; · iexact H7
    isplitl [H8]; · iexact H8
    ipureintro
    intro a l
    refine (rows8 _ (fun a => k0_pay1018 ((![m0, m1, m2, m3, m4, k0_pay1005 m5, k0_pay1006 m6, k0_pay1007 m7] : Fin 8 → V8) a) (accF (t0, t1, t2, t3, t4, t5, t6, t7) a)) [] a l).trans ?_
    rw [row_val, hm a 0 l, Finset.sum_congr rfl fun sub _ => ht a sub l,
      regroup_sum (fun key => Ideal.exp2 (TA kf qf sf step a.val l.val key - MU kf qf sf step a.val l.val)),
      show 8 * (8 * (4 * step + 4)) = 256 * (step + 1) by ring]
    exact shifted_eq kf qf sf step a.val l.val
  · sl_exec
    sl_step
    iapply Hk
    isplitl [H3]; · iexact H3
    isplitl [H4]; · iexact H4
    isplitl [H7]; · iexact H7
    isplitl [H8]; · iexact H8
    ipureintro
    intro a l
    rw [View.read_writes_cons_rows_of_mem (size := S8x128.size) arg8.view f8 inb_S8x128_S8x128_0_0 _ [] (ix2 a l) (ix2 a l) rfl (Nat.zero_add _).symm rfl]
    have hr := range_val (accF (s0, s1, s2, s3, s4, s5, s6, s7)) hw a l
    refine (plain_val (accF (s0, s1, s2, s3, s4, s5, s6, s7)) a l).trans ?_
    rw [L8_val, acc_total kf qf sf step a.isLt (hacc a) l] at hr ⊢
    exact plain_eq kf qf sf step a.val l.val hr.1 hr.2

end Cert.KernelIdeal.Hand

end
-- ==== Proof.Words.lean ====
/-
  Words and offsets of the pooling loop, decided over the grid.
-/
module

public import proofs.«01_k».proof.Proof.Gen.KernelIdeal.Frame
public import proofs.«01_k».proof.Proof.Gen.KernelIdeal.Skeleton
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem hit_col : ∀ (l : Fin 128) (s : Fin 40) (t : Fin 4),
    IntOp.cmpi CmpIPredicate.eq (IntOp.addi (BitVec.ofNat 32 l.val) (BitVec.ofNat 32 (4 * s.val / 128 * 128)))
        (Scalar.addi (Scalar.muli (BitVec.ofNat 32 s.val) 4#32) (BitVec.ofNat 32 t.val))
      = if l.val + 4 * s.val / 128 * 128 = 4 * s.val + t.val then 1#1 else 0#1 := by decide +kernel

theorem hit_row : ∀ (sub : Fin 8) (g : Fin 20) (s : Fin 40) (t : Fin 4),
    IntOp.cmpi CmpIPredicate.sle (IntOp.addi (BitVec.ofNat 32 sub.val) (Scalar.muli (Scf.iv 0#32 1#32 g.val) 8#32))
        (Scalar.addi (Scalar.muli (BitVec.ofNat 32 s.val) 4#32) (BitVec.ofNat 32 t.val))
      = if sub.val + 8 * g.val ≤ 4 * s.val + t.val then 1#1 else 0#1 := by decide +kernel

theorem k0_off14_eq : ∀ (i : grid0.Coords) (g : Fin (k0_t7_loop i).trips), k0_off14 i g = ![8 * g.val, 4 * (i 1).val / 128 * 128] := by
  decide +kernel

theorem t7_trips : ∀ i : grid0.Coords, (k0_t7_loop i).trips = (4 * (i 1).val + 11) / 8 := by
  decide +kernel

end Cert.KernelIdeal.Hand

end
-- ==== Proof.Pool.lean ====
/-
  One trip of the pooling of block maxima into the gate scratch.
-/
module

public import proofs.«01_k».proof.Proof.Gen.KernelIdeal.Frame
public import proofs.«01_k».proof.Proof.Gen.KernelIdeal.Skeleton
public import proofs.«01_k».proof.Proof.Fall
public import proofs.«01_k».proof.Proof.Words
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The best of two halves over a row of lanes. -/
def poolB (L0 L1 : V8) (x0 x1 : Fin 8 → V8) : FVec Ideal S8x1 .f32 :=
  shapeCast S8x1 (multiReduction .maximumf [1] S8 (maximumf (subf (tmax x0) L0) (subf (tmax x1) L1)) 0xFF800000#32 reduces_S8x128_S8 (.inl rfl) rfl) shapeCasts_S8_S8x1

/-- One query block's column, pooled. -/
def poolT (out : V8) (v15 v16 : IVec S8x128 32) (col grow qb : BitVec 32) (L0 L1 : V8) (x0 x1 : Fin 8 → V8) : V8 :=
  select (andi (cmpi .eq (addi v15 (broadcast S8x128 col)) (broadcast S8x128 qb)) (cmpi .sle (addi v16 (broadcast S8x128 grow)) (broadcast S8x128 qb)))
    (broadcastTo S8x128 (shapeCast S8x1 (poolB L0 L1 x0 x1) shapeCasts_S8x1_S8x1) broadcasts_S8x1_S8x128) out

theorem poolT_val (out : V8) (v15 v16 : IVec S8x128 32) (s : Fin 40) (g : Fin 20) (t : Fin 4) (L0 L1 : V8) (x0 x1 : Fin 8 → V8)
    (h15 : ∀ (sub : Fin 8) (l : Fin 128), v15 (ix2 sub l) = BitVec.ofNat 32 l.val)
    (h16 : ∀ (sub : Fin 8) (l : Fin 128), v16 (ix2 sub l) = BitVec.ofNat 32 sub.val) (sub : Fin 8) (l : Fin 128) :
    poolT out v15 v16 (BitVec.ofNat 32 (4 * s.val / 128 * 128)) (Scalar.muli (Scf.iv 0#32 1#32 g.val) 8#32)
        (Scalar.addi (Scalar.muli (BitVec.ofNat 32 s.val) 4#32) (BitVec.ofNat 32 t.val)) L0 L1 x0 x1 (ix2 sub l)
      = if l.val + 4 * s.val / 128 * 128 = 4 * s.val + t.val ∧ sub.val + 8 * g.val ≤ 4 * s.val + t.val
        then Finset.univ.sup fun l' : Fin 128 => (tmax x0 (ix2 sub l') - L0 (ix2 sub l')) ⊔ (tmax x1 (ix2 sub l') - L1 (ix2 sub l')) else out (ix2 sub l) := by
  unfold poolT poolB
  pointwise [h15 sub l, h16 sub l]
  rw [hit_col l s t, hit_row sub g s t]
  rw [show Ideal.ofBits FTy.f32 4286578688#32 = (⊥ : EReal) from f32_neg_inf]
  by_cases h1 : l.val + 4 * s.val / 128 * 128 = 4 * s.val + t.val
  · by_cases h2 : sub.val + 8 * g.val ≤ 4 * s.val + t.val
    · simp only [h1, h2, and_self, if_true]; rfl
    · simp only [h1, h2, and_false, if_true, if_false]; rfl
  · by_cases h2 : sub.val + 8 * g.val ≤ 4 * s.val + t.val
    · simp only [h1, h2, false_and, if_true, if_false]; rfl
    · simp only [h1, h2, false_and, if_false]; rfl

section
variable {kf qf : ℕ → Fin 96 → EReal} {sf : ℕ → EReal} {step : ℕ}

/-- The best score of a block of keys over a block of queries, less the log sums. -/
def GB (kf qf : ℕ → Fin 96 → EReal) (sf : ℕ → EReal) (step : ℕ) (Lv : ℕ → ℕ → EReal) (tile kb : ℕ) : EReal :=
  Finset.univ.sup fun l : Fin 128 =>
    ((Finset.univ.sup fun s : Fin 8 => BA kf qf sf step (2 * tile) kb s.val l.val) - Lv (2 * tile) l.val)
      ⊔ ((Finset.univ.sup fun s : Fin 8 => BA kf qf sf step (2 * tile + 1) kb s.val l.val) - Lv (2 * tile + 1) l.val)

/-- Eight blocks' maxima, read back a sublane at a time. -/
theorem load15 {arg7 : Memref sig .tc .vmem S10240x128 .f32} {p : ℕ → ℕ → Prop} {f : arg7.view.ty.Contents (Elt Ideal)}
    (hf : Good kf qf sf step arg7 p f) {off : Fin 2 → ℕ} (inb : ∀ a, S8x128.size a = 0 ∨ off a + (![8, 1] : Fin 2 → Nat) a * (S8x128.size a - 1) < S10240x128.size a)
    (a g s : ℕ) (ha : a < 8) (hs : s < 8) (hoff : off = ![1280 * a + 64 * g + s, 0]) (sub : Fin 8) (hg : 8 * g + sub.val < 160) (hp : p a (8 * g + sub.val)) (l : Fin 128) :
    View.readAt (Elt Ideal) arg7.view (⟨off, S8x128.size, ![8, 1], inb⟩ : LoadRect S10240x128) f (ix2 sub l) = BA kf qf sf step a (8 * g + sub.val) s l.val := by
  subst hoff
  rw [← hf a (8 * g + sub.val) ⟨s, hs⟩ l ha hg hp]
  refine congrArg (arg7.view.read (Elt Ideal) f) (funext fun x => Fin.ext ?_)
  match x with
  | 0 => show 1280 * a + 64 * g + s + 8 * sub.val = (a * 160 + (8 * g + sub.val)) * 8 + s; ring
  | 1 => show 0 + 1 * l.val = l.val; omega

/-- The four query blocks of a step, pooled one after another over a block of eight key blocks. -/
theorem pool4 (old : V8) (v15 v16 : IVec S8x128 32) (s : Fin 40) (g : Fin 20) (L : Fin 8 → V8) (x : Fin 8 → Fin 8 → V8)
    {Lv : ℕ → ℕ → EReal} (hstep : step = s.val)
    (h15 : ∀ (sub : Fin 8) (l : Fin 128), v15 (ix2 sub l) = BitVec.ofNat 32 l.val)
    (h16 : ∀ (sub : Fin 8) (l : Fin 128), v16 (ix2 sub l) = BitVec.ofNat 32 sub.val)
    (hL : ∀ (a : Fin 8) (sub : Fin 8) (l : Fin 128), L a (ix2 sub l) = Lv a l.val)
    (hx : ∀ (a e sub : Fin 8) (l : Fin 128), 8 * g.val + sub.val ≤ 4 * step + a.val / 2 →
      x a e (ix2 sub l) = BA kf qf sf step a.val (8 * g.val + sub.val) e.val l.val) (sub : Fin 8) (l : Fin 128) (r cc : ℕ)
    (hr : r = 8 * g.val + sub.val) (hcc : cc = l.val + 4 * s.val / 128 * 128) :
    shapeCast S8x128
      (poolT (poolT (poolT (poolT old v15 v16 (BitVec.ofNat 32 (4 * s.val / 128 * 128)) (Scalar.muli (Scf.iv 0#32 1#32 g.val) 8#32)
        (Scalar.addi (Scalar.muli (BitVec.ofNat 32 s.val) 4#32) 0#32) (L 0) (L 1) (x 0) (x 1))
        v15 v16 (BitVec.ofNat 32 (4 * s.val / 128 * 128)) (Scalar.muli (Scf.iv 0#32 1#32 g.val) 8#32)
        (Scalar.addi (Scalar.muli (BitVec.ofNat 32 s.val) 4#32) 1#32) (L 2) (L 3) (x 2) (x 3))
        v15 v16 (BitVec.ofNat 32 (4 * s.val / 128 * 128)) (Scalar.muli (Scf.iv 0#32 1#32 g.val) 8#32)
        (Scalar.addi (Scalar.muli (BitVec.ofNat 32 s.val) 4#32) 2#32) (L 4) (L 5) (x 4) (x 5))
        v15 v16 (BitVec.ofNat 32 (4 * s.val / 128 * 128)) (Scalar.muli (Scf.iv 0#32 1#32 g.val) 8#32)
        (Scalar.addi (Scalar.muli (BitVec.ofNat 32 s.val) 4#32) 3#32) (L 6) (L 7) (x 6) (x 7)) shapeCasts_S8x128_S8x128 (ix2 sub l)
      = if r ≤ cc ∧ cc / 4 = step then GB kf qf sf step Lv (cc % 4) r else old (ix2 sub l) := by
  rw [show ∀ y : V8, shapeCast S8x128 y shapeCasts_S8x128_S8x128 = y from fun y => funext fun j => by pointwise]
  have key : ∀ (t : Fin 4) (w : BitVec 32) (hw : w = BitVec.ofNat 32 t.val) (a0 a1 : Fin 8) (out : V8), a0.val = 2 * t.val → a1.val = 2 * t.val + 1 →
      poolT out v15 v16 (BitVec.ofNat 32 (4 * s.val / 128 * 128)) (Scalar.muli (Scf.iv 0#32 1#32 g.val) 8#32)
        (Scalar.addi (Scalar.muli (BitVec.ofNat 32 s.val) 4#32) w) (L a0) (L a1) (x a0) (x a1) (ix2 sub l)
      = if cc = 4 * step + t.val ∧ r ≤ cc then GB kf qf sf step Lv t.val r else out (ix2 sub l) := by
    intro t w hw a0 a1 out e0 e1
    subst hw
    rw [poolT_val out v15 v16 s g t _ _ _ _ h15 h16 sub l]
    by_cases h : cc = 4 * step + t.val ∧ r ≤ cc
    · rw [if_pos h, if_pos (by omega)]
      subst hr
      refine Finset.sup_congr rfl fun l' _ => ?_
      rw [tmax_val, tmax_val, hL, hL, e0, e1]
      congr 2
      · refine Finset.sup_congr rfl fun e _ => ?_
        rw [hx a0 e sub l' (by omega), e0]
      · refine Finset.sup_congr rfl fun e _ => ?_
        rw [hx a1 e sub l' (by omega), e1]
    · rw [if_neg h, if_neg (by omega)]
  refine (key 3 3#32 rfl 6 7 _ rfl rfl).trans ?_
  rw [key 2 2#32 rfl 4 5 _ rfl rfl, key 1 1#32 rfl 2 3 _ rfl rfl, key 0 0#32 rfl 0 1 _ rfl rfl]
  by_cases h : r ≤ cc ∧ cc / 4 = step
  · rw [if_pos h]
    have h4 : cc % 4 = 0 ∨ cc % 4 = 1 ∨ cc % 4 = 2 ∨ cc % 4 = 3 := by omega
    rcases h4 with e | e | e | e <;> rw [e]
    · rw [if_neg (by show ¬ (cc = 4 * step + 3 ∧ _); omega), if_neg (by show ¬ (cc = 4 * step + 2 ∧ _); omega), if_neg (by show ¬ (cc = 4 * step + 1 ∧ _); omega), if_pos (by show cc = 4 * step + 0 ∧ _; omega)]; rfl
    · rw [if_neg (by show ¬ (cc = 4 * step + 3 ∧ _); omega), if_neg (by show ¬ (cc = 4 * step + 2 ∧ _); omega), if_pos (by show cc = 4 * step + 1 ∧ _; omega)]; rfl
    · rw [if_neg (by show ¬ (cc = 4 * step + 3 ∧ _); omega), if_pos (by show cc = 4 * step + 2 ∧ _; omega)]; rfl
    · rw [if_pos (by show cc = 4 * step + 3 ∧ _; omega)]; rfl
  · rw [if_neg h, if_neg (by show ¬ (cc = 4 * step + 3 ∧ _); omega), if_neg (by show ¬ (cc = 4 * step + 2 ∧ _); omega), if_neg (by show ¬ (cc = 4 * step + 1 ∧ _); omega), if_neg (by show ¬ (cc = 4 * step + 0 ∧ _); omega)]

end

theorem trip7 (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (f7 : arg7.view.ty.Contents (Elt Ideal)) (f9 : arg9.view.ty.Contents (Elt Ideal)) (v15 v16 : IVec S8x128 32)
    (L0 L1 L2 L3 L4 L5 L6 L7 : V8) (v1495 : BitVec 32) (k : Fin (k0_t7_loop i).trips) (acc : Unit) (K : Unit → sProp 𝕄)
    {kf qf : ℕ → Fin 96 → EReal} {sf : ℕ → EReal} {step : ℕ} {Lv : ℕ → ℕ → EReal} (hstep : step = (i 1).val)
    (h15 : ∀ (sub : Fin 8) (l : Fin 128), v15 (ix2 sub l) = BitVec.ofNat 32 l.val)
    (h16 : ∀ (sub : Fin 8) (l : Fin 128), v16 (ix2 sub l) = BitVec.ofNat 32 sub.val)
    (hL : ∀ (a : Fin 8) (sub : Fin 8) (l : Fin 128), accF (L0, L1, L2, L3, L4, L5, L6, L7) a (ix2 sub l) = Lv a l.val)
    (hcol : v1495 = BitVec.ofNat 32 (4 * (i 1).val / 128 * 128))
    (hf : Good kf qf sf step arg7 (fun a kb => kb ≤ 4 * step + a / 2) f7) :
    iprop((arg7.view.loc (c : Thread nD τ) ↦[arg7.view.set]{fullShare} f7) ∗ (arg9.view.loc (c : Thread nD τ) ↦[arg9.view.set]{fullShare} f9)
        ∗ (∀ r f, iprop((arg7.view.loc (c : Thread nD τ) ↦[arg7.view.set]{fullShare} f7) ∗ (arg9.view.loc (c : Thread nD τ) ↦[arg9.view.set]{fullShare} f)
              ∗ ⌜∀ (r cc : Fin 256), arg9.view.read (Elt Ideal) f (ix2 r cc) = if r.val / 8 = k.val ∧ r.val ≤ cc.val ∧ cc.val / 4 = step
                  then GB kf qf sf step Lv (cc.val % 4) r.val else arg9.view.read (Elt Ideal) f9 (ix2 r cc)⌝) -∗ K r))
      ⊢ wp frame (wpE (defs₀ (F := Ideal)) Variants.none c none) Set.univ
          (k0_t7_body i arg2 harg2 arg3 harg3 arg4 harg4 arg5 harg5 arg6 harg6 arg7 harg7 arg8 harg8 arg9 harg9 (BitVec.ofNat 32 (i 1).val) v15 v16 L0 L1 L2 L3 L4 L5 L6 L7 v1495 k acc) K := by
  have hk : k.val < 20 := Nat.lt_of_lt_of_le k.isLt (k0_t7_abs i).2.1
  subst hcol
  unfold k0_t7_body
  iintro ⟨H7, H9, Hk⟩
  sl_exec_parts
  sl_step
  iapply Hk
  isplitl [H7]; · iexact H7
  isplitl [H9]; · iexact H9
  ipureintro
  have hs : (i 1).val < 40 := (i 1).isLt
  intro r cc
  have hr := r.isLt
  have hc := cc.isLt
  by_cases hm : (8 * k.val ≤ r.val ∧ r.val < 8 * k.val + 8) ∧ (4 * (i 1).val / 128 * 128 ≤ cc.val ∧ cc.val < 4 * (i 1).val / 128 * 128 + 128)
  · rw [View.read_writes_cons_unit_of_mem (size := S8x128.size) arg9.view f9 (k0_off14_inb i k) _ _ (ix2 r cc)
      (ix2 ⟨r.val - 8 * k.val, by omega⟩ ⟨cc.val - 4 * (i 1).val / 128 * 128, by omega⟩) (k0_off14_eq i k)
      (Fin.forall_fin_two.mpr ⟨by show r.val = 8 * k.val + (r.val - 8 * k.val); omega, by show cc.val = 4 * (i 1).val / 128 * 128 + (cc.val - 4 * (i 1).val / 128 * 128); omega⟩)]
    refine (pool4 (kf := kf) (qf := qf) (sf := sf) (step := step) (Lv := Lv)
      (View.readAt (Elt Ideal) arg9.view (Rect.unit (s := S256x256) (k0_off14 i k) S8x128.size (k0_off14_inb i k)).toLoadRect f9) v15 v16 (i 1) ⟨k.val, hk⟩ (accF (L0, L1, L2, L3, L4, L5, L6, L7))
      (fun a e => View.readAt (Elt Ideal) arg7.view (⟨k0_off15 i k (BitVec.ofNat 32 (1280 * a.val)) (BitVec.ofNat 32 e.val), S8x128.size, ![8, 1], k0_off15_inb i k a e⟩ : LoadRect S10240x128) f7)
      hstep h15 h16 hL ?_ _ _ r.val cc.val (by show r.val = 8 * k.val + (r.val - 8 * k.val); omega) (by show cc.val = (cc.val - 4 * (i 1).val / 128 * 128) + 4 * (i 1).val / 128 * 128; omega)).trans ?_
    · intro a e sub l hle
      exact load15 hf (k0_off15_inb i k a e) a.val k.val e.val a.isLt e.isLt (k0_off15_eq i k a e) sub (by have := a.isLt; omega) hle l
    · by_cases h : r.val ≤ cc.val ∧ cc.val / 4 = step
      · rw [if_pos h, if_pos ⟨by omega, h⟩]
      · rw [if_neg h, if_neg (fun h' => h h'.2)]
        refine congrArg (arg9.view.read (Elt Ideal) f9) (funext fun x => Fin.ext ((Rect.idx_unit_val _ _ (k0_off14_inb i k) _ x).trans ((congrArg (· + _) (congrFun (k0_off14_eq i k) x)).trans ?_)))
        match x with
        | 0 => show 8 * k.val + (r.val - 8 * k.val) = r.val; omega
        | 1 => show 4 * (i 1).val / 128 * 128 + (cc.val - 4 * (i 1).val / 128 * 128) = cc.val; omega
  · rw [if_neg (by omega)]
    by_cases hm0 : 8 * k.val ≤ r.val ∧ r.val < 8 * k.val + 8
    · exact View.read_writes_cons_unit_of_not_mem arg9.view f9 _ _ _ (ix2 r cc) (k0_off14_eq i k) 1 (by show cc.val < 4 * (i 1).val / 128 * 128 ∨ 4 * (i 1).val / 128 * 128 + 128 ≤ cc.val; omega)
    · exact View.read_writes_cons_unit_of_not_mem arg9.view f9 _ _ _ (ix2 r cc) (k0_off14_eq i k) 0 (by show r.val < 8 * k.val ∨ 8 * k.val + 8 ≤ r.val; omega)

end Cert.KernelIdeal.Hand

end
-- ==== Proof.Diag.lean ====
/-
  The diagonal blocks of a step: their scores, block maxima and running sums.
-/
module

public import proofs.«01_k».proof.Proof.Gen.KernelIdeal.Frame
public import proofs.«01_k».proof.Proof.Gen.KernelIdeal.Skeleton
public import proofs.«01_k».proof.Proof.LseRun
public import proofs.«01_k».proof.Proof.Pool
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem sc128_val (kb : Vec Ideal S1x128x96 .fp8e4m3) (qt : Vec Ideal S1x256x96 .fp8e4m3) (r : Fin 128) (l : Fin 256) :
    k0_pay1105 kb qt (ix2 r l) = ∑ d : Fin 96, kb (ix3 0 r d) * qt (ix3 0 l d) := by
  unfold_payloads
  pointwise
  rw [f8_zero]; simp

theorem sc192_val (kb : Vec Ideal S1x192x96 .fp8e4m3) (qt : Vec Ideal S1x256x96 .fp8e4m3) (r : Fin 192) (l : Fin 256) :
    k0_pay1162 (k0_pay1161 kb) qt (ix2 r l) = ∑ d : Fin 96, kb (ix3 0 r d) * qt (ix3 0 l d) := by
  unfold_payloads
  pointwise
  rw [f8_zero]; simp

theorem sc256d_val (kb qt : Vec Ideal S1x256x96 .fp8e4m3) (r l : Fin 256) :
    k0_pay1252 kb qt (ix2 r l) = ∑ d : Fin 96, kb (ix3 0 r d) * qt (ix3 0 l d) := by
  unfold_payloads
  pointwise
  rw [f8_zero]; simp

section
variable {kf qf : ℕ → Fin 96 → EReal} {sf : ℕ → EReal} {step : ℕ}

/-- A store of a full block beside the diagonal. -/
theorem diag_store_s {arg7 : Memref sig .tc .vmem S10240x128 .f32} {p : ℕ → ℕ → Prop} {f : arg7.view.ty.Contents (Elt Ideal)}
    {L : List (View.Piece (Elt Ideal) S10240x128 .f32)} {off : Fin 2 → ℕ} (inb : ∀ a : Fin 2, off a + S8x128.size a ≤ S10240x128.size a)
    (b tile half n s : ℕ) (hs : step < 40) (hstep : step = s) (hoff : off = ![32 * s + n, 0]) {R : ℕ} {S : FVec Ideal ⟨2, ![R, 256]⟩ .f32} {c : V8}
    (hS : IsScore kf qf S (256 * step) tile) (hc : ∀ (sub : Fin 8) (l : Fin 128), c (ix2 sub l) = sf (half * 128 + l.val) * kap)
    (h0 : 64 * b + 64 ≤ R) (h1 : 128 * half ≤ 128) (ht : tile < 4) (hb : b < tile) (hn : n = 8 * b + 1280 * (2 * tile + half))
    (hL : Good kf qf sf step arg7 p (arg7.view.writes (Elt Ideal) f L)) :
    Good kf qf sf step arg7 (fun a' kb => p a' kb ∨ (a' = 2 * tile + half ∧ kb = 4 * step + b))
      (arg7.view.writes (Elt Ideal) f ((⟨Rect.unit (s := S10240x128) off S8x128.size inb,
        shapeCast S8x128 (tmax (xs S c (64 * b) (128 * half) h0 h1)) shapeCasts_S8x128_S8x128⟩ : View.Piece (Elt Ideal) S10240x128 .f32) :: L)) := by
  refine Good.store inb _ L (2 * tile + half) (4 * step + b) (by omega) (by omega) ?_ ?_ hL
  · rw [hoff]; congr 1; subst hstep; omega
  · exact xs_TA S c b half tile (256 * step) (4 * step + b) h0 h1 hS hc (by ring) (by omega)

/-- A store of the diagonal block. -/
theorem diag_store_m {arg7 : Memref sig .tc .vmem S10240x128 .f32} {p : ℕ → ℕ → Prop} {f : arg7.view.ty.Contents (Elt Ideal)}
    {L : List (View.Piece (Elt Ideal) S10240x128 .f32)} {off : Fin 2 → ℕ} (inb : ∀ a : Fin 2, off a + S8x128.size a ≤ S10240x128.size a)
    (tile half n s : ℕ) (hs : step < 40) (hstep : step = s) (hoff : off = ![32 * s + n, 0]) {R : ℕ} {S : FVec Ideal ⟨2, ![R, 256]⟩ .f32} {c : V8} {v16 v18 : IVec S8x128 32}
    (hS : IsScore kf qf S (256 * step) tile) (hc : ∀ (sub : Fin 8) (l : Fin 128), c (ix2 sub l) = sf (half * 128 + l.val) * kap)
    (h16 : ∀ (sub : Fin 8) (l : Fin 128), v16 (ix2 sub l) = BitVec.ofNat 32 sub.val)
    (h18 : ∀ (sub : Fin 8) (l : Fin 128), v18 (ix2 sub l) = BitVec.ofNat 32 (l.val % 64))
    (h0 : 64 * tile + 64 ≤ R) (h1 : 128 * half ≤ 128) (ht : tile < 4) (hn : n = 8 * tile + 1280 * (2 * tile + half))
    (hL : Good kf qf sf step arg7 p (arg7.view.writes (Elt Ideal) f L)) :
    Good kf qf sf step arg7 (fun a' kb => p a' kb ∨ (a' = 2 * tile + half ∧ kb = 4 * step + tile))
      (arg7.view.writes (Elt Ideal) f ((⟨Rect.unit (s := S10240x128) off S8x128.size inb,
        shapeCast S8x128 (tmax (xm S c (64 * tile) (128 * half) h0 h1 v16 v18)) shapeCasts_S8x128_S8x128⟩ : View.Piece (Elt Ideal) S10240x128 .f32) :: L)) := by
  refine Good.store inb _ L (2 * tile + half) (4 * step + tile) (by omega) (by omega) ?_ ?_ hL
  · rw [hoff]; congr 1; subst hstep; omega
  · exact xm_TA S c v16 v18 tile half tile (256 * step) (4 * step + tile) h0 h1 hS hc h16 h18 (by ring) rfl

/-- The running sum over `n` full blocks beside the diagonal. -/
def fulls {R : ℕ} (acc : V8) (S : FVec Ideal ⟨2, ![R, 256]⟩ .f32) (c : V8) (o1 : ℕ) (h1 : o1 ≤ 128) : ∀ n, 64 * n ≤ R → V8
  | 0, _ => acc
  | n + 1, h => tacc (fulls acc S c o1 h1 n (by omega)) (xs S c (64 * n) o1 (by omega) h1)

theorem fulls_is (tile half : ℕ) {R : ℕ} {acc : V8} {S : FVec Ideal ⟨2, ![R, 256]⟩ .f32} {c : V8} (hS : IsScore kf qf S (256 * step) tile)
    (hc : ∀ (sub : Fin 8) (l : Fin 128), c (ix2 sub l) = sf (half * 128 + l.val) * kap) (h1 : 128 * half ≤ 128)
    (hacc : AccIs kf qf sf step acc (2 * tile + half) (8 * (4 * step))) :
    ∀ (n : ℕ) (h : 64 * n ≤ R), n ≤ tile → AccIs kf qf sf step (fulls acc S c (128 * half) h1 n h) (2 * tile + half) (8 * (4 * step + n))
  | 0, _, _ => hacc
  | n + 1, h, hn => AccIs.next (fulls_is tile half hS hc h1 hacc n (by omega) (by omega))
      (xs_TA S c n half tile (256 * step) (4 * step + n) (by omega) h1 hS hc (by ring) (by omega))

/-- The running sum over the diagonal chunk. -/
theorem diag_acc (tile half : ℕ) {R : ℕ} {acc : V8} {S : FVec Ideal ⟨2, ![R, 256]⟩ .f32} {c : V8} {v16 v18 : IVec S8x128 32} (hS : IsScore kf qf S (256 * step) tile)
    (hc : ∀ (sub : Fin 8) (l : Fin 128), c (ix2 sub l) = sf (half * 128 + l.val) * kap)
    (h16 : ∀ (sub : Fin 8) (l : Fin 128), v16 (ix2 sub l) = BitVec.ofNat 32 sub.val)
    (h18 : ∀ (sub : Fin 8) (l : Fin 128), v18 (ix2 sub l) = BitVec.ofNat 32 (l.val % 64))
    (h0 : 64 * tile + 64 ≤ R) (h1 : 128 * half ≤ 128)
    (hacc : AccIs kf qf sf step acc (2 * tile + half) (8 * (4 * step))) :
    AccIs kf qf sf step (tacc (fulls acc S c (128 * half) h1 tile (by omega)) (xm S c (64 * tile) (128 * half) h0 h1 v16 v18)) (2 * tile + half) (8 * (4 * step + tile + 1)) :=
  AccIs.next (fulls_is tile half hS hc h1 hacc tile (by omega) le_rfl)
    (xm_TA S c v16 v18 tile half tile (256 * step) (4 * step + tile) h0 h1 hS hc h16 h18 (by ring) rfl)

theorem diag_sc0 {arg3 : Memref sig .tc .vmem S1x1024x96 .fp8e4m3} (harg3 : arg3.IsWhole) {arg4 : Memref sig .tc .vmem S1x10240x96 .fp8e4m3} (harg4 : arg4.IsWhole)
    (X3 : S1x1024x96.Idx → Elt Ideal .fp8e4m3) (X4 : S1x10240x96.Idx → Elt Ideal .fp8e4m3)
    (hk : ∀ (key : Fin 10240) d, X4 (ix3 0 key d) = kf key.val d) (hq : ∀ (row : Fin 1024) d, X3 (ix3 0 row d) = qf row.val d)
    (i : grid0.Coords) (hstep : step = (i 1).val) :
    IsScore kf qf (k0_pay1067 (View.readAt (Elt Ideal) arg4.view (Rect.unit (s := S1x10240x96) (k0_off5 i) S1x64x96.size (k0_off5_inb i)).toLoadRect (harg4.unread X4))
      (View.readAt (Elt Ideal) arg3.view (Rect.unit (s := S1x1024x96) ![0, 0, 0] S1x256x96.size inb_S1x1024x96_S1x256x96_0_0_0).toLoadRect (harg3.unread X3)))
      (256 * step) 0 := by
  intro r l
  rw [sc64_val]
  refine Finset.sum_congr rfl fun d _ => ?_
  rw [load4 harg4 X4 hk (k0_off5_inb i) (k0_off5_eq i) (by norm_num) r d, load3 harg3 X3 hq _ (by norm_num : _ = 0 * 256) (by norm_num) l d, hstep]

theorem diag_sc1 {arg3 : Memref sig .tc .vmem S1x1024x96 .fp8e4m3} (harg3 : arg3.IsWhole) {arg4 : Memref sig .tc .vmem S1x10240x96 .fp8e4m3} (harg4 : arg4.IsWhole)
    (X3 : S1x1024x96.Idx → Elt Ideal .fp8e4m3) (X4 : S1x10240x96.Idx → Elt Ideal .fp8e4m3)
    (hk : ∀ (key : Fin 10240) d, X4 (ix3 0 key d) = kf key.val d) (hq : ∀ (row : Fin 1024) d, X3 (ix3 0 row d) = qf row.val d)
    (i : grid0.Coords) (hstep : step = (i 1).val) :
    IsScore kf qf (k0_pay1105 (View.readAt (Elt Ideal) arg4.view (Rect.unit (s := S1x10240x96) (k0_off7 i) S1x128x96.size (k0_off7_inb i)).toLoadRect (harg4.unread X4))
      (View.readAt (Elt Ideal) arg3.view (Rect.unit (s := S1x1024x96) ![0, 256, 0] S1x256x96.size inb_S1x1024x96_S1x256x96_0_256_0).toLoadRect (harg3.unread X3)))
      (256 * step) 1 := by
  intro r l
  rw [sc128_val]
  refine Finset.sum_congr rfl fun d _ => ?_
  rw [load4 harg4 X4 hk (k0_off7_inb i) (k0_off7_eq i) (by norm_num) r d, load3 harg3 X3 hq _ (by norm_num : _ = 1 * 256) (by norm_num) l d, hstep]

theorem diag_sc2 {arg3 : Memref sig .tc .vmem S1x1024x96 .fp8e4m3} (harg3 : arg3.IsWhole) {arg4 : Memref sig .tc .vmem S1x10240x96 .fp8e4m3} (harg4 : arg4.IsWhole)
    (X3 : S1x1024x96.Idx → Elt Ideal .fp8e4m3) (X4 : S1x10240x96.Idx → Elt Ideal .fp8e4m3)
    (hk : ∀ (key : Fin 10240) d, X4 (ix3 0 key d) = kf key.val d) (hq : ∀ (row : Fin 1024) d, X3 (ix3 0 row d) = qf row.val d)
    (i : grid0.Coords) (hstep : step = (i 1).val) :
    IsScore kf qf (k0_pay1162 (k0_pay1161 (View.readAt (Elt Ideal) arg4.view (Rect.unit (s := S1x10240x96) (k0_off8 i) S1x192x96.size (k0_off8_inb i)).toLoadRect (harg4.unread X4)))
      (View.readAt (Elt Ideal) arg3.view (Rect.unit (s := S1x1024x96) ![0, 512, 0] S1x256x96.size inb_S1x1024x96_S1x256x96_0_512_0).toLoadRect (harg3.unread X3)))
      (256 * step) 2 := by
  intro r l
  rw [sc192_val]
  refine Finset.sum_congr rfl fun d _ => ?_
  rw [load4 harg4 X4 hk (k0_off8_inb i) (k0_off8_eq i) (by norm_num) r d, load3 harg3 X3 hq _ (by norm_num : _ = 2 * 256) (by norm_num) l d, hstep]

theorem diag_sc3 {arg3 : Memref sig .tc .vmem S1x1024x96 .fp8e4m3} (harg3 : arg3.IsWhole) {arg4 : Memref sig .tc .vmem S1x10240x96 .fp8e4m3} (harg4 : arg4.IsWhole)
    (X3 : S1x1024x96.Idx → Elt Ideal .fp8e4m3) (X4 : S1x10240x96.Idx → Elt Ideal .fp8e4m3)
    (hk : ∀ (key : Fin 10240) d, X4 (ix3 0 key d) = kf key.val d) (hq : ∀ (row : Fin 1024) d, X3 (ix3 0 row d) = qf row.val d)
    (i : grid0.Coords) (hstep : step = (i 1).val) :
    IsScore kf qf (k0_pay1252 (View.readAt (Elt Ideal) arg4.view (Rect.unit (s := S1x10240x96) (k0_off9 i) S1x256x96.size (k0_off9_inb i)).toLoadRect (harg4.unread X4))
      (View.readAt (Elt Ideal) arg3.view (Rect.unit (s := S1x1024x96) ![0, 768, 0] S1x256x96.size inb_S1x1024x96_S1x256x96_0_768_0).toLoadRect (harg3.unread X3)))
      (256 * step) 3 := by
  intro r l
  rw [sc256d_val]
  refine Finset.sum_congr rfl fun d _ => ?_
  rw [load4 harg4 X4 hk (k0_off9_inb i) (k0_off9_eq i) (by norm_num) r d, load3 harg3 X3 hq _ (by norm_num : _ = 3 * 256) (by norm_num) l d, hstep]

end

/-- The log sums of a step, with the three accumulators the walk names itself. -/
theorem lse_run_at (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (X3 : S1x1024x96.Idx → Elt Ideal .fp8e4m3) (X4 : S1x10240x96.Idx → Elt Ideal .fp8e4m3)
    (v9 v11 : V8) (v16 v18 : IVec S8x128 32) (s0 s1 s2 s3 s4 s5 s6 s7 : V8) {r0 r1 : FVec Ideal S1x128 .f32} {r2 : FVec Ideal S128 .f32}
    (f7 : arg7.view.ty.Contents (Elt Ideal)) (f8 : arg8.view.ty.Contents (Elt Ideal)) (K : _ → sProp 𝕄)
    {kf qf : ℕ → Fin 96 → EReal} {sf : ℕ → EReal} {step : ℕ} (hstep : step = (i 1).val)
    (hk : ∀ (key : Fin 10240) d, X4 (ix3 0 key d) = kf key.val d) (hq : ∀ (row : Fin 1024) d, X3 (ix3 0 row d) = qf row.val d)
    (h9 : ∀ (sub : Fin 8) (l : Fin 128), v9 (ix2 sub l) = sf (0 * 128 + l.val) * kap) (h11 : ∀ (sub : Fin 8) (l : Fin 128), v11 (ix2 sub l) = sf (1 * 128 + l.val) * kap)
    (h16 : ∀ (sub : Fin 8) (l : Fin 128), v16 (ix2 sub l) = BitVec.ofNat 32 sub.val)
    (h18 : ∀ (sub : Fin 8) (l : Fin 128), v18 (ix2 sub l) = BitVec.ofNat 32 (l.val % 64))
    (hacc : ∀ a : Fin 8, AccIs kf qf sf step (accF (s0, s1, s2, s3, s4, s5, s6, s7) a) a.val (8 * (4 * step + a.val / 2 + 1)))
    (h0 : r0 = k0_pay1361 s0) (h1 : r1 = k0_pay1362 s1) (h2 : r2 = k0_pay1363 s2)
    (hf : Good kf qf sf step arg7 (fun a kb => kb ≤ 4 * step + a / 2) f7) :
    iprop((arg3.view.loc (c : Thread nD τ) ↦[arg3.view.set]{fullShare} harg3.unread X3) ∗ (arg4.view.loc (c : Thread nD τ) ↦[arg4.view.set]{fullShare} harg4.unread X4) ∗ (arg7.view.loc (c : Thread nD τ) ↦[arg7.view.set]{fullShare} f7) ∗ (arg8.view.loc (c : Thread nD τ) ↦[arg8.view.set]{fullShare} f8)
        ∗ (∀ g8, iprop((arg3.view.loc (c : Thread nD τ) ↦[arg3.view.set]{fullShare} harg3.unread X3) ∗ (arg4.view.loc (c : Thread nD τ) ↦[arg4.view.set]{fullShare} harg4.unread X4) ∗ (arg7.view.loc (c : Thread nD τ) ↦[arg7.view.set]{fullShare} f7) ∗ (arg8.view.loc (c : Thread nD τ) ↦[arg8.view.set]{fullShare} g8)
              ∗ ⌜∀ (a : Fin 8) (l : Fin 128), arg8.view.read (Elt Ideal) g8 (ix2 a l) = Lk kf qf sf step a.val l.val⌝) -∗ K (k0_pay1370 (BitVec.ofNat 32 (i 1).val))))
      ⊢ wp frame (wpE (defs₀ (F := Ideal)) Variants.none c none) Set.univ (k0_part142 i arg2 harg2 arg3 harg3 arg4 harg4 arg5 harg5 arg6 harg6 arg7 harg7 arg8 harg8 arg9 harg9 (BitVec.ofNat 32 (i 1).val) v9 v11 v16 v18 s3 s4 s5 s6 s7 r0 r1 r2) K := by
  subst h0 h1 h2
  exact lse_run c i arg2 harg2 arg3 harg3 arg4 harg4 arg5 harg5 arg6 harg6 arg7 harg7 arg8 harg8 arg9 harg9 X3 X4 v9 v11 v16 v18 s0 s1 s2 s3 s4 s5 s6 s7 f7 f8 K hstep hk hq h9 h11 h16 h18 hacc hf

end Cert.KernelIdeal.Hand

end
-- ==== Proof.Rows.lean ====
/-
  What a step stores of its log sums, and how the pooling reads them.
-/
module

public import proofs.«01_k».proof.Proof.Gen.KernelIdeal.Frame
public import proofs.«01_k».proof.Proof.Gen.KernelIdeal.Skeleton
public import proofs.«01_k».proof.Proof.LseRun
public import proofs.«01_k».proof.Proof.Pool
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem pos_word : ∀ (s : Fin 40) (r : Fin 256), (IntOp.addi (IntOp.addi (Scalar.muli (BitVec.ofNat 32 s.val) 256#32) (BitVec.ofNat 32 r.val)) 1#32).toInt
    = ((s.val * 256 + r.val + 1 : ℕ) : ℤ) := by decide +kernel

theorem pos_val (i : grid0.Coords) (r : Fin 256) :
    k0_pay1370 (F := Ideal) (BitVec.ofNat 32 (i 1).val) (ix2 0 r) = Ideal.log (((i 1).val * 256 + r.val + 1 : ℕ) : EReal) := by
  unfold k0_pay1370
  pointwise
  congr 1
  show ((((_ : BitVec 32).toInt : ℤ) : ℝ) : EReal) = _
  rw [pos_word (i 1) r]
  push_cast
  norm_cast

theorem row0_val (v : FVec Ideal S1x256 .f32) (x : Fin 4 → Vec Ideal S1x64 .f32) (r : Fin 256) :
    k0_pay1371 v (x 0) (x 1) (x 2) (x 3) (ix3 0 0 r) = x ⟨r.val / 64, by omega⟩ (ix2 0 ⟨r.val % 64, by omega⟩) * lnt - v (ix2 0 r) := by
  unfold k0_pay1371
  pointwise
  have hr := r.isLt
  have key : ∀ (k : Fin 4) (m : Fin 64), r.val = 64 * k.val + m.val → x k (ix2 0 m) = x ⟨r.val / 64, by omega⟩ (ix2 0 ⟨r.val % 64, by omega⟩) := by
    intro k m h
    have hm := m.isLt
    rw [show (⟨r.val / 64, by omega⟩ : Fin 4) = k from Fin.ext (by show r.val / 64 = k.val; omega),
      show (⟨r.val % 64, by omega⟩ : Fin 64) = m from Fin.ext (by show r.val % 64 = m.val; omega)]
  refine congrArg (· - v (ix2 0 r)) (congrArg₂ (· * ·) ?_ rfl)
  split_ifs
  all_goals first
    | (refine key 0 _ ?_; show r.val = 64 * 0 + r.val; omega)
    | (refine key 1 _ ?_; show r.val = 64 * 1 + (r.val - 64); omega)
    | (refine key 2 _ ?_; show r.val = 64 * 2 + (r.val - 64 - 64); omega)
    | (refine key 3 _ ?_; show r.val = 64 * 3 + (r.val - 64 - 64 - 64); omega)

theorem bcast_val (x : Vec Ideal S1x128 .f32) (sub : Fin 8) (l : Fin 128) : k0_pay1375 x (ix2 sub l) = x (ix2 0 l) := by
  unfold k0_pay1375
  pointwise

theorem load8 {arg8 : Memref sig .tc .vmem S8x128 .f32} (g8 : arg8.view.ty.Contents (Elt Ideal)) {a o W : ℕ}
    (inb : ∀ x, (![a, o] : Fin 2 → ℕ) x + (![1, W] : Fin 2 → ℕ) x ≤ S8x128.size x) (l : Fin W) (a' : Fin 8) (l' : Fin 128) (ha : a = a'.val) (hl : l'.val = o + l.val) :
    View.readAt (Elt Ideal) arg8.view (Rect.unit (s := S8x128) ![a, o] ![1, W] inb).toLoadRect g8 (ix2 0 l) = arg8.view.read (Elt Ideal) g8 (ix2 a' l') := by
  refine congrArg (arg8.view.read (Elt Ideal) g8) (funext fun x => Fin.ext ((Rect.idx_unit_val _ _ inb _ x).trans ?_))
  match x with
  | 0 => exact ha
  | 1 => exact hl.symm

/-- Four rows, stored one after the other. -/
theorem rows6 {arg6 : Memref sig .tc .vmem S1x4x256 .f32} (f6 : arg6.view.ty.Contents (Elt Ideal)) (P : Fin 4 → FVec Ideal S1x1x256 .f32) (h : Fin 4) (r : Fin 256) :
    arg6.view.read (Elt Ideal) (arg6.view.writes (Elt Ideal) f6
      [⟨Rect.unit (s := S1x4x256) ![0, 3, 0] S1x1x256.size inb_S1x4x256_S1x1x256_0_3_0, P 3⟩, ⟨Rect.unit (s := S1x4x256) ![0, 2, 0] S1x1x256.size inb_S1x4x256_S1x1x256_0_2_0, P 2⟩,
       ⟨Rect.unit (s := S1x4x256) ![0, 1, 0] S1x1x256.size inb_S1x4x256_S1x1x256_0_1_0, P 1⟩, ⟨Rect.unit (s := S1x4x256) ![0, 0, 0] S1x1x256.size inb_S1x4x256_S1x1x256_0_0_0, P 0⟩]) (ix3 0 h r)
      = P h (ix3 0 0 r) := by
  have hit : ∀ (o : Fin 4) (w : ℕ) (hw : w = o.val) (inb) (L : List (View.Piece (Elt Ideal) S1x4x256 .f32)) (p : FVec Ideal S1x1x256 .f32), arg6.view.read (Elt Ideal) (arg6.view.writes (Elt Ideal) f6
      ((⟨Rect.unit (s := S1x4x256) ![0, w, 0] S1x1x256.size inb, p⟩ : View.Piece (Elt Ideal) S1x4x256 .f32) :: L)) (ix3 0 o r) = p (ix3 0 0 r) := by
    intro o w hw inb L p
    refine View.read_writes_cons_unit_of_mem (size := S1x1x256.size) arg6.view f6 inb p L (ix3 0 o r) (ix3 0 0 r) rfl ?_
    intro a
    match a with
    | 0 => rfl
    | 1 => exact hw.symm
    | 2 => exact (Nat.zero_add _).symm
  have miss : ∀ (o : Fin 4) (w : ℕ) (hw : w ≠ o.val) (inb) (L : List (View.Piece (Elt Ideal) S1x4x256 .f32)) (p : FVec Ideal S1x1x256 .f32), arg6.view.read (Elt Ideal) (arg6.view.writes (Elt Ideal) f6
      ((⟨Rect.unit (s := S1x4x256) ![0, w, 0] S1x1x256.size inb, p⟩ : View.Piece (Elt Ideal) S1x4x256 .f32) :: L)) (ix3 0 o r)
        = arg6.view.read (Elt Ideal) (arg6.view.writes (Elt Ideal) f6 L) (ix3 0 o r) := by
    intro o w hw inb L p
    refine View.read_writes_cons_unit_of_not_mem (size := S1x1x256.size) arg6.view f6 inb p L (ix3 0 o r) rfl 1 ?_
    show o.val < w ∨ w + 1 ≤ o.val
    omega
  match h with
  | 0 => exact (miss 0 3 (by decide) _ _ _).trans ((miss 0 2 (by decide) _ _ _).trans ((miss 0 1 (by decide) _ _ _).trans (hit 0 0 rfl _ _ _)))
  | 1 => exact (miss 1 3 (by decide) _ _ _).trans ((miss 1 2 (by decide) _ _ _).trans (hit 1 1 rfl _ _ _))
  | 2 => exact (miss 2 3 (by decide) _ _ _).trans (hit 2 2 rfl _ _ _)
  | 3 => exact hit 3 3 rfl _ _ _

end Cert.KernelIdeal.Hand

end
-- ==== Proof.Walk.lean ====
/-
  A step up to its gate: the walk, the diagonal blocks, the log sums and the pooled maxima.
-/
module

public import proofs.«01_k».proof.Proof.Gen.KernelIdeal.Frame
public import proofs.«01_k».proof.Proof.Gen.KernelIdeal.Skeleton
public import proofs.«01_k».proof.Proof.Diag
public import proofs.«01_k».proof.Proof.Rows
public import proofs.«01_k».proof.Proof.Pool
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem col_word : ∀ s : Fin 40, Scalar.muli (Scalar.select (Scalar.andi (Scalar.cmpi .ne (Scalar.subi (Scalar.extui (Scalar.cmpi .sgt (Scalar.muli (BitVec.ofNat 32 s.val) 4#32) 0#32)) (Scalar.extui (Scalar.cmpi .slt (Scalar.muli (BitVec.ofNat 32 s.val) 4#32) 0#32)))
      (Scalar.subi (Scalar.extui (Scalar.cmpi .sgt 128#32 0#32)) (Scalar.extui (Scalar.cmpi .slt 128#32 0#32) : BitVec 32)))
      (Scalar.cmpi .ne (Scalar.remsi (Scalar.muli (BitVec.ofNat 32 s.val) 4#32) 128#32) 0#32)) (Scalar.subi (Scalar.divsi (Scalar.muli (BitVec.ofNat 32 s.val) 4#32) 128#32) 1#32)
      (Scalar.divsi (Scalar.muli (BitVec.ofNat 32 s.val) 4#32) 128#32)) 128#32 = BitVec.ofNat 32 (4 * s.val / 128 * 128) := by decide +kernel

theorem part_inb (t h : Fin 4) : ∀ x, (![2 * t.val + h.val / 2, 64 * (h.val % 2)] : Fin 2 → ℕ) x + (![1, 64] : Fin 2 → ℕ) x ≤ S8x128.size x := by
  revert t h; decide

theorem walk_run (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (X2 : S1x1x256.Idx → Elt Ideal .f32) (X3 : S1x1024x96.Idx → Elt Ideal .fp8e4m3) (X4 : S1x10240x96.Idx → Elt Ideal .fp8e4m3)
    (f6 : arg6.view.ty.Contents (Elt Ideal)) (f7 : arg7.view.ty.Contents (Elt Ideal)) (f8 : arg8.view.ty.Contents (Elt Ideal)) (f9 : arg9.view.ty.Contents (Elt Ideal)) (K : _ → sProp 𝕄)
    {kf qf : ℕ → Fin 96 → EReal} {sf : ℕ → EReal} {step : ℕ} (hstep : step = (i 1).val)
    (hsc : ∀ l : Fin 256, X2 (ix3 0 0 l) = sf l.val)
    (hk : ∀ (key : Fin 10240) d, X4 (ix3 0 key d) = kf key.val d) (hq : ∀ (row : Fin 1024) d, X3 (ix3 0 row d) = qf row.val d)
    :
    iprop((arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (∀ r g6 g7 g8 g9, iprop((arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
              ∗ ⌜(∀ (h : Fin 4) (r : Fin 256), arg6.view.read (Elt Ideal) g6 (ix3 0 h r) = Lk kf qf sf step (2 * (r.val / 64) + h.val / 2) (h.val % 2 * 64 + r.val % 64) * lnt - Ideal.log ((step * 256 + r.val + 1 : ℕ) : EReal))
                ∧ (∀ r cc : Fin 256, arg9.view.read (Elt Ideal) g9 (ix2 r cc) = if r.val ≤ cc.val ∧ cc.val / 4 = step then GB kf qf sf step (Lk kf qf sf step) (cc.val % 4) r.val
                    else if step = 0 then (⊥ : EReal) else arg9.view.read (Elt Ideal) f9 (ix2 r cc))⌝)
            -∗ K r))
      ⊢ wp frame (wpE (defs₀ (F := Ideal)) Variants.none c none) Set.univ (k0_part146 i arg2 harg2 arg3 harg3 arg4 harg4 arg5 harg5 arg6 harg6 arg7 harg7 arg8 harg8 arg9 harg9) K := by
  have hs : step < 40 := by rw [hstep]; exact (i 1).isLt
  rw [k0_part146_eq_skeleton]
  unfold k0_part146_skel
  iintro ⟨H2, H3, H4, H6, H7, H8, H9, Hk⟩
  rw [wp_bind]
  iapply (head_run (kf := kf) (qf := qf) (sf := sf) (step := step) c i arg2 harg2 arg3 harg3 arg4 harg4 arg5 harg5 arg6 harg6 arg7 harg7 arg8 harg8 arg9 harg9 X2 X3 X4 f7 f9 _ hstep hsc hk hq)
  isplitl [H2]; · iexact H2
  isplitl [H3]; · iexact H3
  isplitl [H4]; · iexact H4
  isplitl [H7]; · iexact H7
  isplitl [H9]; · iexact H9
  iintro %v9 %v11 %a0 %a1 %a2 %a3 %a4 %a5 %a6 %a7 %v15 %v16 %v18 %g7 %g9 ⟨H2, H3, H4, H7, H9, %hg⟩
  obtain ⟨h15, h16, h18, h9, h11, hacc, hgood, hg9⟩ := hg
  set_option sl_exec.stopBefore "k0_part142" in sl_exec_parts
  have hS0 : IsScore kf qf _ (256 * step) 0 := diag_sc0 harg3 harg4 X3 X4 hk hq i hstep
  have hS1 : IsScore kf qf _ (256 * step) 1 := diag_sc1 harg3 harg4 X3 X4 hk hq i hstep
  have hS2 : IsScore kf qf _ (256 * step) 2 := diag_sc2 harg3 harg4 X3 X4 hk hq i hstep
  have hS3 : IsScore kf qf _ (256 * step) 3 := diag_sc3 harg3 harg4 X3 X4 hk hq i hstep
  have hgood2 : Good kf qf sf step arg7 (fun a kb => kb ≤ 4 * step + a / 2) (arg7.view.writes (Elt Ideal) g7
      ((⟨Rect.unit (s := S10240x128) (k0_off6 i 3#32 8960#32) S8x128.size (k0_off6_inb i 19), walk_run.sl.v1345 i arg3 harg3 arg4 harg4 X3 X4 v11 v16 v18⟩ : View.Piece (Elt Ideal) S10240x128 .f32) :: walk_run.sl.H7_19 i arg3 harg3 arg4 harg4 X3 X4 v9 v11 v16 v18)) := by
    apply Good.mono
    · apply diag_store_m (k0_off6_inb i 19) 3 1 8984 _ hs hstep (k0_off6_eq i 19) hS3 h11 h16 h18 (by norm_num) (by norm_num) (by norm_num) (by norm_num)
      apply diag_store_m (k0_off6_inb i 18) 3 0 7704 _ hs hstep (k0_off6_eq i 18) hS3 h9 h16 h18 (by norm_num) (by norm_num) (by norm_num) (by norm_num)
      apply diag_store_s (k0_off6_inb i 17) 2 3 1 8976 _ hs hstep (k0_off6_eq i 17) hS3 h11 (by norm_num) (by norm_num) (by norm_num) (by norm_num) (by norm_num)
      apply diag_store_s (k0_off6_inb i 16) 2 3 0 7696 _ hs hstep (k0_off6_eq i 16) hS3 h9 (by norm_num) (by norm_num) (by norm_num) (by norm_num) (by norm_num)
      apply diag_store_s (k0_off6_inb i 15) 1 3 1 8968 _ hs hstep (k0_off6_eq i 15) hS3 h11 (by norm_num) (by norm_num) (by norm_num) (by norm_num) (by norm_num)
      apply diag_store_s (k0_off6_inb i 14) 1 3 0 7688 _ hs hstep (k0_off6_eq i 14) hS3 h9 (by norm_num) (by norm_num) (by norm_num) (by norm_num) (by norm_num)
      apply diag_store_s (k0_off6_inb i 13) 0 3 1 8960 _ hs hstep (k0_off6_eq i 13) hS3 h11 (by norm_num) (by norm_num) (by norm_num) (by norm_num) (by norm_num)
      apply diag_store_s (k0_off6_inb i 12) 0 3 0 7680 _ hs hstep (k0_off6_eq i 12) hS3 h9 (by norm_num) (by norm_num) (by norm_num) (by norm_num) (by norm_num)
      apply diag_store_m (k0_off6_inb i 11) 2 1 6416 _ hs hstep (k0_off6_eq i 11) hS2 h11 h16 h18 (by norm_num) (by norm_num) (by norm_num) (by norm_num)
      apply diag_store_m (k0_off6_inb i 10) 2 0 5136 _ hs hstep (k0_off6_eq i 10) hS2 h9 h16 h18 (by norm_num) (by norm_num) (by norm_num) (by norm_num)
      apply diag_store_s (k0_off6_inb i 9) 1 2 1 6408 _ hs hstep (k0_off6_eq i 9) hS2 h11 (by norm_num) (by norm_num) (by norm_num) (by norm_num) (by norm_num)
      apply diag_store_s (k0_off6_inb i 8) 1 2 0 5128 _ hs hstep (k0_off6_eq i 8) hS2 h9 (by norm_num) (by norm_num) (by norm_num) (by norm_num) (by norm_num)
      apply diag_store_s (k0_off6_inb i 7) 0 2 1 6400 _ hs hstep (k0_off6_eq i 7) hS2 h11 (by norm_num) (by norm_num) (by norm_num) (by norm_num) (by norm_num)
      apply diag_store_s (k0_off6_inb i 6) 0 2 0 5120 _ hs hstep (k0_off6_eq i 6) hS2 h9 (by norm_num) (by norm_num) (by norm_num) (by norm_num) (by norm_num)
      apply diag_store_m (k0_off6_inb i 5) 1 1 3848 _ hs hstep (k0_off6_eq i 5) hS1 h11 h16 h18 (by norm_num) (by norm_num) (by norm_num) (by norm_num)
      apply diag_store_m (k0_off6_inb i 4) 1 0 2568 _ hs hstep (k0_off6_eq i 4) hS1 h9 h16 h18 (by norm_num) (by norm_num) (by norm_num) (by norm_num)
      apply diag_store_s (k0_off6_inb i 3) 0 1 1 3840 _ hs hstep (k0_off6_eq i 3) hS1 h11 (by norm_num) (by norm_num) (by norm_num) (by norm_num) (by norm_num)
      apply diag_store_s (k0_off6_inb i 2) 0 1 0 2560 _ hs hstep (k0_off6_eq i 2) hS1 h9 (by norm_num) (by norm_num) (by norm_num) (by norm_num) (by norm_num)
      apply diag_store_m (k0_off6_inb i 1) 0 1 1280 _ hs hstep (k0_off6_eq i 1) hS0 h11 h16 h18 (by norm_num) (by norm_num) (by norm_num) (by norm_num)
      apply diag_store_m (k0_off6_inb i 0) 0 0 0 _ hs hstep (k0_off6_eq i 0) hS0 h9 h16 h18 (by norm_num) (by norm_num) (by norm_num) (by norm_num)
      exact hgood
    · intro a kb ha hkb h
      interval_cases a <;> simp <;> omega
  have hacc2 : ∀ a : Fin 8, AccIs kf qf sf step (accF ((walk_run.sl.v133 i arg3 harg3 arg4 harg4 X3 X4 v9 a0 v16 v18), (walk_run.sl.v221 i arg3 harg3 arg4 harg4 X3 X4 v11 a1 v16 v18), (walk_run.sl.v417 i arg3 harg3 arg4 harg4 X3 X4 v9 a2 v16 v18), (walk_run.sl.v505 i arg3 harg3 arg4 harg4 X3 X4 v11 a3 v16 v18), (walk_run.sl.v797 i arg3 harg3 arg4 harg4 X3 X4 v9 a4 v16 v18), (walk_run.sl.v885 i arg3 harg3 arg4 harg4 X3 X4 v11 a5 v16 v18), (walk_run.sl.v1273 i arg3 harg3 arg4 harg4 X3 X4 v9 a6 v16 v18), (walk_run.sl.v1361 i arg3 harg3 arg4 harg4 X3 X4 v11 a7 v16 v18)) a) a.val (8 * (4 * step + a.val / 2 + 1)) := by
    intro a
    fin_cases a
    · exact diag_acc 0 0 hS0 h9 h16 h18 (by norm_num) (by norm_num) (hacc 0)
    · exact diag_acc 0 1 hS0 h11 h16 h18 (by norm_num) (by norm_num) (hacc 1)
    · exact diag_acc 1 0 hS1 h9 h16 h18 (by norm_num) (by norm_num) (hacc 2)
    · exact diag_acc 1 1 hS1 h11 h16 h18 (by norm_num) (by norm_num) (hacc 3)
    · exact diag_acc 2 0 hS2 h9 h16 h18 (by norm_num) (by norm_num) (hacc 4)
    · exact diag_acc 2 1 hS2 h11 h16 h18 (by norm_num) (by norm_num) (hacc 5)
    · exact diag_acc 3 0 hS3 h9 h16 h18 (by norm_num) (by norm_num) (hacc 6)
    · exact diag_acc 3 1 hS3 h11 h16 h18 (by norm_num) (by norm_num) (hacc 7)
  rw [wp_bind]
  iapply (lse_run_at (kf := kf) (qf := qf) (sf := sf) (step := step) c i arg2 harg2 arg3 harg3 arg4 harg4 arg5 harg5 arg6 harg6 arg7 harg7 arg8 harg8 arg9 harg9 X3 X4 v9 v11 v16 v18 (walk_run.sl.v133 i arg3 harg3 arg4 harg4 X3 X4 v9 a0 v16 v18) (walk_run.sl.v221 i arg3 harg3 arg4 harg4 X3 X4 v11 a1 v16 v18) (walk_run.sl.v417 i arg3 harg3 arg4 harg4 X3 X4 v9 a2 v16 v18) (walk_run.sl.v505 i arg3 harg3 arg4 harg4 X3 X4 v11 a3 v16 v18) (walk_run.sl.v797 i arg3 harg3 arg4 harg4 X3 X4 v9 a4 v16 v18) (walk_run.sl.v885 i arg3 harg3 arg4 harg4 X3 X4 v11 a5 v16 v18) (walk_run.sl.v1273 i arg3 harg3 arg4 harg4 X3 X4 v9 a6 v16 v18) (walk_run.sl.v1361 i arg3 harg3 arg4 harg4 X3 X4 v11 a7 v16 v18) _ f8 _ hstep hk hq h9 h11 h16 h18 hacc2 rfl rfl rfl hgood2)
  isplitl [H3]; · iexact H3
  isplitl [H4]; · iexact H4
  isplitl [H7]; · iexact H7
  isplitl [H8]; · iexact H8
  iintro %g8 ⟨H3, H4, H7, H8, %hlse⟩
  sl_exec_parts
  have hL : ∀ (a : Fin 8) (sub : Fin 8) (l : Fin 128), accF ((walk_run.sl.r_4 c arg8 g8), (walk_run.sl.r_5 c arg8 g8), (walk_run.sl.r_6 c arg8 g8), (walk_run.sl.r_7 c arg8 g8), (walk_run.sl.v1466 c arg8 g8), (walk_run.sl.v1469 c arg8 g8), (walk_run.sl.v1472 c arg8 g8), (walk_run.sl.v1475 c arg8 g8)) a (ix2 sub l) = Lk kf qf sf step a l.val := by
    intro a sub l
    rw [← hlse a l]
    fin_cases a
    · exact (bcast_val _ sub l).trans (load8 g8 (W := 128) (a := 0) (o := 0) _ l 0 l rfl (Nat.zero_add _).symm)
    · exact (bcast_val _ sub l).trans (load8 g8 (W := 128) (a := 1) (o := 0) _ l 1 l rfl (Nat.zero_add _).symm)
    · exact (bcast_val _ sub l).trans (load8 g8 (W := 128) (a := 2) (o := 0) _ l 2 l rfl (Nat.zero_add _).symm)
    · exact (bcast_val _ sub l).trans (load8 g8 (W := 128) (a := 3) (o := 0) _ l 3 l rfl (Nat.zero_add _).symm)
    · exact (bcast_val _ sub l).trans (load8 g8 (W := 128) (a := 4) (o := 0) _ l 4 l rfl (Nat.zero_add _).symm)
    · exact (bcast_val _ sub l).trans (load8 g8 (W := 128) (a := 5) (o := 0) _ l 5 l rfl (Nat.zero_add _).symm)
    · exact (bcast_val _ sub l).trans (load8 g8 (W := 128) (a := 6) (o := 0) _ l 6 l rfl (Nat.zero_add _).symm)
    · exact (bcast_val _ sub l).trans (load8 g8 (W := 128) (a := 7) (o := 0) _ l 7 l rfl (Nat.zero_add _).symm)
  sl_for (fun n acc => iprop((arg7.view.loc (c : Thread nD τ) ↦[arg7.view.set]{fullShare} (arg7.view.writes (Elt Ideal) g7
      ((⟨Rect.unit (s := S10240x128) (k0_off6 i 3#32 8960#32) S8x128.size (k0_off6_inb i 19), walk_run.sl.v1345 i arg3 harg3 arg4 harg4 X3 X4 v11 v16 v18⟩ : View.Piece (Elt Ideal) S10240x128 .f32) :: walk_run.sl.H7_19 i arg3 harg3 arg4 harg4 X3 X4 v9 v11 v16 v18))) ∗ (∃ f, (arg9.view.loc (c : Thread nD τ) ↦[arg9.view.set]{fullShare} f) ∗ ⌜∀ r cc : Fin 256, arg9.view.read (Elt Ideal) f (ix2 r cc) = if r.val / 8 < n ∧ r.val ≤ cc.val ∧ cc.val / 4 = step then GB kf qf sf step (Lk kf qf sf step) (cc.val % 4) r.val else arg9.view.read (Elt Ideal) g9 (ix2 r cc)⌝))) $$ [H7 H9]
  case region =>
    intro k acc
    iintro ⟨H7, %g, H9, %hg⟩
    iapply (trip7 (kf := kf) (qf := qf) (sf := sf) (step := step) (Lv := Lk kf qf sf step) c i arg2 harg2 arg3 harg3 arg4 harg4 arg5 harg5 arg6 harg6 arg7 harg7 arg8 harg8 arg9 harg9 _ g v15 v16 (walk_run.sl.r_4 c arg8 g8) (walk_run.sl.r_5 c arg8 g8) (walk_run.sl.r_6 c arg8 g8) (walk_run.sl.r_7 c arg8 g8) (walk_run.sl.v1466 c arg8 g8) (walk_run.sl.v1469 c arg8 g8) (walk_run.sl.v1472 c arg8 g8) (walk_run.sl.v1475 c arg8 g8) _ k acc _ hstep h15 h16 hL (col_word (i 1)) hgood2)
    isplitl [H7]; · iexact H7
    isplitl [H9]; · iexact H9
    iintro %r %f ⟨H7, H9, %hr⟩
    isplitl [H7]; · iexact H7
    iexists f
    isplitl [H9]; · iexact H9
    ipureintro
    intro r cc
    rw [hr r cc, hg r cc]
    by_cases h1 : r.val / 8 = k.val ∧ r.val ≤ cc.val ∧ cc.val / 4 = step
    · rw [if_pos h1, if_pos ⟨by omega, h1.2⟩]
    · rw [if_neg h1]
      by_cases h2 : r.val / 8 < k.val ∧ r.val ≤ cc.val ∧ cc.val / 4 = step
      · rw [if_pos h2, if_pos ⟨by omega, h2.2⟩]
      · rw [if_neg h2, if_neg (fun h => by
          rcases Nat.lt_succ_iff_lt_or_eq.1 h.1 with h3 | h3
          · exact h2 ⟨h3, h.2⟩
          · exact h1 ⟨h3, h.2⟩)]
  · isplitl [H7]; · iexact H7
    iexists g9
    isplitl [H9]; · iexact H9
    ipureintro
    intro r cc
    rw [if_neg (fun h => absurd h.1 (Nat.not_lt_zero _))]
  iintro %acc ⟨H7, %g, H9, %hg⟩
  sl_step
  iapply Hk
  isplitl [H2]; · iexact H2
  isplitl [H3]; · iexact H3
  isplitl [H4]; · iexact H4
  isplitl [H6]; · iexact H6
  isplitl [H7]; · iexact H7
  isplitl [H8]; · iexact H8
  isplitl [H9]; · iexact H9
  ipureintro
  constructor
  · intro h r
    refine (rows6 _ (fun h => k0_pay1371 (k0_pay1370 (BitVec.ofNat 32 (i 1).val)) (View.readAt (Elt Ideal) arg8.view (Rect.unit (s := S8x128) _ ![1, 64] (part_inb 0 h)).toLoadRect g8)
      (View.readAt (Elt Ideal) arg8.view (Rect.unit (s := S8x128) _ ![1, 64] (part_inb 1 h)).toLoadRect g8) (View.readAt (Elt Ideal) arg8.view (Rect.unit (s := S8x128) _ ![1, 64] (part_inb 2 h)).toLoadRect g8)
      (View.readAt (Elt Ideal) arg8.view (Rect.unit (s := S8x128) _ ![1, 64] (part_inb 3 h)).toLoadRect g8)) h r).trans ?_
    refine (row0_val _ (fun t => View.readAt (Elt Ideal) arg8.view (Rect.unit (s := S8x128) _ ![1, 64] (part_inb t h)).toLoadRect g8) r).trans ?_
    rw [pos_val, hstep]
    refine congrArg (· - _) (congrArg (· * lnt) ?_)
    have hr := r.isLt; have hh := h.isLt
    refine (load8 g8 (part_inb _ h) _ ⟨2 * (r.val / 64) + h.val / 2, by omega⟩ ⟨h.val % 2 * 64 + r.val % 64, by omega⟩ rfl (by show h.val % 2 * 64 + r.val % 64 = 64 * (h.val % 2) + r.val % 64; omega)).trans ?_
    rw [hlse, hstep]
  · intro r cc
    rw [hg r cc, hg9, show Scf.trips (k0_t7_loop i).lb (k0_t7_loop i).ub (k0_t7_loop i).st = (4 * step + 11) / 8 from (t7_trips i).trans (by rw [hstep])]
    have hr := r.isLt; have hc := cc.isLt
    by_cases h1 : r.val ≤ cc.val ∧ cc.val / 4 = step
    · rw [if_pos h1, if_pos ⟨by omega, h1⟩]
    · rw [if_neg h1, if_neg (fun h => h1 h.2)]

end Cert.KernelIdeal.Hand

end
-- ==== Proof.Body.lean ====
/-
  The whole body of the kernel at a point.
-/
module

public import proofs.«01_k».proof.Proof.Gen.KernelIdeal.Frame
public import proofs.«01_k».proof.Proof.Gen.KernelIdeal.Skeleton
public import proofs.«01_k».proof.Proof.Walk
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The gate of query block `qb` on key block `kb`, from the pooled scores of the head. -/
def gateOf (X : Fin 256 → Fin 256 → EReal) (qb kb : Fin 160) : EReal :=
  Ideal.div (Ideal.exp2 (X ⟨kb.val, by omega⟩ ⟨qb.val, by omega⟩)) (∑ j : Fin 256, Ideal.exp2 (X j ⟨qb.val, by omega⟩))

theorem gate_val (x : Vec Ideal S256x256 .f32) (qb kb : Fin 160) :
    k0_pay2 x (ix3 0 qb kb) = gateOf (fun r cc => x (ix2 r cc)) qb kb := by
  unfold k0_pay2
  pointwise
  rfl

theorem body_run (c : Dev nD) (i : grid0.Coords)
    (arg2 : Memref sig .tc .vmem S1x1x256 .f32) (harg2 : arg2.IsWhole)
    (arg3 : Memref sig .tc .vmem S1x1024x96 .fp8e4m3) (harg3 : arg3.IsWhole)
    (arg4 : Memref sig .tc .vmem S1x10240x96 .fp8e4m3) (harg4 : arg4.IsWhole)
    (arg5 : Memref sig .tc .vmem S1x160x160 .f32) (harg5 : arg5.IsWhole)
    (arg6 : Memref sig .tc .vmem S1x4x256 .f32) (harg6 : arg6.IsWhole)
    (arg7 : Memref sig .tc .vmem S10240x128 .f32) (harg7 : arg7.IsWhole)
    (arg8 : Memref sig .tc .vmem S8x128 .f32) (harg8 : arg8.IsWhole)
    (arg9 : Memref sig .tc .vmem S256x256 .f32) (harg9 : arg9.IsWhole)
    (X2 : S1x1x256.Idx → Elt Ideal .f32) (X3 : S1x1024x96.Idx → Elt Ideal .fp8e4m3) (X4 : S1x10240x96.Idx → Elt Ideal .fp8e4m3)
    (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (K : PUnit → sProp 𝕄)
    {kf qf : ℕ → Fin 96 → EReal} {sf : ℕ → EReal} {step : ℕ} (hstep : step = (i 1).val)
    (hsc : ∀ l : Fin 256, X2 (ix3 0 0 l) = sf l.val)
    (hk : ∀ (key : Fin 10240) d, X4 (ix3 0 key d) = kf key.val d) (hq : ∀ (row : Fin 1024) d, X3 (ix3 0 row d) = qf row.val d)
    :
    iprop((arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (∀ g5 g6 g7 g8 g9, iprop((arg2.view.loc (c : Thread nD τ) ↦[arg2.view.set]{fullShare} harg2.unread X2) ∗ (arg3.view.loc (c : Thread nD τ) ↦[arg3.view.set]{fullShare} harg3.unread X3) ∗ (arg4.view.loc (c : Thread nD τ) ↦[arg4.view.set]{fullShare} harg4.unread X4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
              ∗ ⌜(∀ (h : Fin 4) (r : Fin 256), arg6.view.read (Elt Ideal) g6 (ix3 0 h r) = Lk kf qf sf step (2 * (r.val / 64) + h.val / 2) (h.val % 2 * 64 + r.val % 64) * lnt - Ideal.log ((step * 256 + r.val + 1 : ℕ) : EReal))
                ∧ (∀ r cc : Fin 256, arg9.view.read (Elt Ideal) g9 (ix2 r cc) = if r.val ≤ cc.val ∧ cc.val / 4 = step then GB kf qf sf step (Lk kf qf sf step) (cc.val % 4) r.val
                    else if step = 0 then (⊥ : EReal) else arg9.view.read (Elt Ideal) f9 (ix2 r cc))
                ∧ (k0_cond3 i = 1#1 → ∀ qb kb : Fin 160, arg5.view.read (Elt Ideal) g5 (ix3 0 qb kb) = gateOf (fun r cc => arg9.view.read (Elt Ideal) g9 (ix2 r cc)) qb kb)
                ∧ (¬ k0_cond3 i = 1#1 → g5 = f5)⌝)
            -∗ K ⟨⟩))
      ⊢ wp frame (wpE (defs₀ (F := Ideal)) Variants.none c none) Set.univ (cc0_gate_target i arg2 harg2 arg3 harg3 arg4 harg4 arg5 harg5 arg6 harg6 arg7 harg7 arg8 harg8 arg9 harg9) K := by
  simp only [cc0_gate_target_eq_skeleton]; unfold cc0_gate_target_skel
  iintro ⟨H2, H3, H4, H5, H6, H7, H8, H9, Hk⟩
  rw [wp_bind]
  iapply (walk_run (kf := kf) (qf := qf) (sf := sf) (step := step) c i arg2 harg2 arg3 harg3 arg4 harg4 arg5 harg5 arg6 harg6 arg7 harg7 arg8 harg8 arg9 harg9 X2 X3 X4 f6 f7 f8 f9 _ hstep hsc hk hq)
  isplitl [H2]; · iexact H2
  isplitl [H3]; · iexact H3
  isplitl [H4]; · iexact H4
  isplitl [H6]; · iexact H6
  isplitl [H7]; · iexact H7
  isplitl [H8]; · iexact H8
  isplitl [H9]; · iexact H9
  iintro %r %g6 %g7 %g8 %g9 ⟨H2, H3, H4, H6, H7, H8, H9, %hg⟩
  obtain ⟨r0, r1, r2, r3, r4, r5, r6, r7, r8, r9, r10, r11, r12, r13⟩ := r
  sl_exec
  sl_for0 (t8_trips i)
  by_cases hC : k0_cond3 i = 1#1
  · sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    ipureintro
    refine ⟨hg.1, hg.2, fun _ qb kb => ?_, fun h => absurd hC h⟩
    refine (View.read_writes_cons_unit_of_mem (size := S1x160x160.size) arg5.view f5 inb_S1x160x160_S1x160x160_0_0_0 _ [] (ix3 0 qb kb) (ix3 0 qb kb) rfl ?_).trans ?_
    · intro a
      match a with
      | 0 => rfl
      | 1 => exact (Nat.zero_add _).symm
      | 2 => exact (Nat.zero_add _).symm
    · refine (gate_val _ qb kb).trans ?_
      refine congrArg (fun X => gateOf X qb kb) (funext fun r => funext fun cc => ?_)
      refine congrArg (arg9.view.read (Elt Ideal) g9) (funext fun x => Fin.ext ((Rect.idx_unit_val _ _ inb_S256x256_S256x256_0_0 _ x).trans ?_))
      match x with
      | 0 => exact Nat.zero_add _
      | 1 => exact Nat.zero_add _
  · sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    ipureintro
    exact ⟨hg.1, hg.2, fun h => absurd h hC, fun _ => rfl⟩

end Cert.KernelIdeal.Hand

end
-- ==== Proof.Launch.lean ====
/-
  The launch, with what it leaves in the two result arrays: the pooled scores of a head grow over its forty points,
  every point writes its rows' log-sum-exp, and the last point of a head writes its gates.
-/
module

public import proofs.«01_k».proof.Proof.Gen.KernelIdeal.Frame
public import proofs.«01_k».proof.Proof.Gen.KernelIdeal.Skeleton
public import proofs.«01_k».proof.Proof.Body
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-! ## What the kernel computes, from the three arrays it is given -/

section Spec

variable (S : S32x1x256.Idx → EReal) (Q : S32x40960x96.Idx → EReal) (Kk : S32x10240x96.Idx → EReal)

/-- The key rows of head `n`. -/
def KF (n key : ℕ) (d : Fin 96) : EReal := if h : n < 32 ∧ key < 10240 then Kk (ix3 ⟨n, h.1⟩ ⟨key, h.2⟩ d) else 0

/-- The query rows of head `n` at step `s`. -/
def QF (n s row : ℕ) (d : Fin 96) : EReal :=
  if h : n < 32 ∧ 1024 * s + row < 40960 then Q (ix3 ⟨n, h.1⟩ ⟨1024 * s + row, h.2⟩ d) else 0

/-- The row scales of head `n`. -/
def SF (n l : ℕ) : EReal := if h : n < 32 ∧ l < 256 then S (ix3 ⟨n, h.1⟩ 0 ⟨l, h.2⟩) else 0

/-- The pooled scores of head `n` once the first `bound` steps are done. -/
def GT (n bound : ℕ) (r cc : Fin 256) : EReal :=
  if r.val ≤ cc.val ∧ cc.val / 4 < bound then
    GB (KF Kk n) (QF Q n (cc.val / 4)) (SF S n) (cc.val / 4) (Lk (KF Kk n) (QF Q n (cc.val / 4)) (SF S n) (cc.val / 4)) (cc.val % 4) r.val
  else ⊥

/-- The log-sum-exp the kernel writes for head `n`, step `s`, at place `h, r` of its block. -/
def LV (n s h r : ℕ) : EReal :=
  Lk (KF Kk n) (QF Q n s) (SF S n) s (2 * (r / 64) + h / 2) (h % 2 * 64 + r % 64) * lnt - Ideal.log ((s * 256 + r + 1 : ℕ) : EReal)

theorem GT_step (n s : ℕ) (old : Fin 256 → Fin 256 → EReal) (hold : s ≠ 0 → ∀ r cc, old r cc = GT S Q Kk n s r cc) (r cc : Fin 256) :
    (if r.val ≤ cc.val ∧ cc.val / 4 = s then
        GB (KF Kk n) (QF Q n s) (SF S n) s (Lk (KF Kk n) (QF Q n s) (SF S n) s) (cc.val % 4) r.val
      else if s = 0 then ⊥ else old r cc) = GT S Q Kk n (s + 1) r cc := by
  unfold GT
  by_cases h : r.val ≤ cc.val ∧ cc.val / 4 = s
  · rw [if_pos h, if_pos ⟨h.1, by omega⟩, h.2]
  · rw [if_neg h]
    by_cases h0 : s = 0
    · rw [if_pos h0, if_neg (by omega)]
    · rw [if_neg h0, hold h0]
      unfold GT
      by_cases h1 : r.val ≤ cc.val ∧ cc.val / 4 < s
      · rw [if_pos h1, if_pos ⟨h1.1, by omega⟩]
      · rw [if_neg h1, if_neg (by omega)]

end Spec

/-! ## The launch -/

variable (m : (ℓ : Loc nD τ sig) → Buf (Elt Ideal) ℓ) (ρ : Dev nD → PrngReg)

/-- The scales, the queries and the keys as the region finds them. -/
abbrev S' (c : Dev nD) : S32x1x256.Idx → EReal := V m c main_v8
abbrev Q' (c : Dev nD) : S32x40960x96.Idx → EReal := V m c main_v11
abbrev K' (c : Dev nD) : S32x10240x96.Idx → EReal := V m c main_v13

theorem tN (t : Fin cfg0.N) : t.val < 1280 := lt_of_lt_of_eq t.isLt N_0

theorem coords_val : ∀ t : Fin cfg0.N, (grid0.coords t 0).val = t.val / 40 ∧ (grid0.coords t 1).val = t.val % 40 :=
  (by decide +kernel : ∀ t : Fin grid0.N, (grid0.coords t 0).val = t.val / 40 ∧ (grid0.coords t 1).val = t.val % 40)

theorem cond3_iff (t : Fin cfg0.N) : k0_cond3 (grid0.coords t) = 1#1 ↔ t.val % 40 = 39 := by
  have h : ∀ t : Fin grid0.N, k0_cond3 (grid0.coords t) = 1#1 ↔ t.val % 40 = 39 := by decide +kernel
  exact h t

theorem index_of : ∀ t : Fin cfg0.N, win0_0.index t = ![t.val / 40, 0, 0] ∧ win0_1.index t = ![t.val / 40, t.val % 40, 0]
    ∧ win0_2.index t = ![t.val / 40, 0, 0] ∧ win0_3.index t = ![t.val / 40, 0, 0] ∧ win0_4.index t = ![t.val / 40, 0, t.val % 40] :=
  (by decide +kernel : ∀ t : Fin grid0.N, win0_0.index t = ![t.val / 40, 0, 0] ∧ win0_1.index t = ![t.val / 40, t.val % 40, 0]
    ∧ win0_2.index t = ![t.val / 40, 0, 0] ∧ win0_3.index t = ![t.val / 40, 0, 0] ∧ win0_4.index t = ![t.val / 40, 0, t.val % 40])

theorem iblk0_at (c : Dev nD) (t : Fin cfg0.N) (l : Fin 256) :
    (iblk m c 0 t : Vec Ideal S1x1x256 .f32) (ix3 0 0 l) = SF (S' m c) (t.val / 40) l.val := by
  have ht := tN t
  unfold SF
  rw [dif_pos ⟨by omega, l.isLt⟩]
  unfold iblk
  rw [View.read_apply]
  show V m c main_v8 _ = V m c main_v8 _
  congr 1
  funext a
  apply Fin.ext
  have hi := (index_of t).1
  match a with
  | ⟨0, _⟩ => show win0_0.index t 0 * 1 + 1 * 0 = t.val / 40; rw [hi]; show t.val / 40 * 1 + 1 * 0 = _; omega
  | ⟨1, _⟩ => show win0_0.index t 1 * 1 + 1 * 0 = 0; rw [hi]; rfl
  | ⟨2, _⟩ => show win0_0.index t 2 * 256 + 1 * l.val = l.val; rw [hi]; show 0 * 256 + 1 * l.val = _; omega

theorem iblk1_at (c : Dev nD) (t : Fin cfg0.N) (row : Fin 1024) (d : Fin 96) :
    (iblk m c 1 t : Vec Ideal S1x1024x96 .fp8e4m3) (ix3 0 row d) = QF (Q' m c) (t.val / 40) (t.val % 40) row.val d := by
  have ht := tN t
  unfold QF
  rw [dif_pos ⟨by omega, by omega⟩]
  unfold iblk
  rw [View.read_apply]
  show V m c main_v11 _ = V m c main_v11 _
  congr 1
  funext a
  apply Fin.ext
  have hi := (index_of t).2.1
  match a with
  | ⟨0, _⟩ => show win0_1.index t 0 * 1 + 1 * 0 = t.val / 40; rw [hi]; show t.val / 40 * 1 + 1 * 0 = _; omega
  | ⟨1, _⟩ => show win0_1.index t 1 * 1024 + 1 * row.val = 1024 * (t.val % 40) + row.val; rw [hi]; show t.val % 40 * 1024 + 1 * row.val = _; omega
  | ⟨2, _⟩ => show win0_1.index t 2 * 96 + 1 * d.val = d.val; rw [hi]; show 0 * 96 + 1 * d.val = _; omega

theorem iblk2_at (c : Dev nD) (t : Fin cfg0.N) (key : Fin 10240) (d : Fin 96) :
    (iblk m c 2 t : Vec Ideal S1x10240x96 .fp8e4m3) (ix3 0 key d) = KF (K' m c) (t.val / 40) key.val d := by
  have ht := tN t
  unfold KF
  rw [dif_pos ⟨by omega, key.isLt⟩]
  unfold iblk
  rw [View.read_apply]
  show V m c main_v13 _ = V m c main_v13 _
  congr 1
  funext a
  apply Fin.ext
  have hi := (index_of t).2.2.1
  match a with
  | ⟨0, _⟩ => show win0_2.index t 0 * 1 + 1 * 0 = t.val / 40; rw [hi]; show t.val / 40 * 1 + 1 * 0 = _; omega
  | ⟨1, _⟩ => show win0_2.index t 1 * 10240 + 1 * key.val = key.val; rw [hi]; show 0 * 10240 + 1 * key.val = _; omega
  | ⟨2, _⟩ => show win0_2.index t 2 * 96 + 1 * d.val = d.val; rw [hi]; show 0 * 96 + 1 * d.val = _; omega

/-- What window 3 holds after the last point of a head. -/
def out3 (c : Dev nD) (t : Fin cfg0.N) : Vec Ideal S1x160x160 .f32 := fun y =>
  gateOf (fun r cc => GT (S' m c) (Q' m c) (K' m c) (t.val / 40) 40 r cc) (y 1) (y 2)

/-- What window 4 holds after a point. -/
def out4 (c : Dev nD) (t : Fin cfg0.N) : Vec Ideal S1x4x256 .f32 := fun y =>
  LV (S' m c) (Q' m c) (K' m c) (t.val / 40) (t.val % 40) (y 1).val (y 2).val

/-- The scratch and the generator register before point `n`: the pooled scores hold what the head's steps so far made. -/
def Phi (c : Dev nD) (n : ℕ) : sProp 𝕄 :=
  iprop(iprop((∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d
          ∗ ⌜n % 40 ≠ 0 → ∀ r cc : Fin 256, d (ix2 r cc) = GT (S' m c) (Q' m c) (K' m c) (n / 40) (n % 40) r cc⌝)) ∗ (∃ r, prngReg c r))

def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => out3 m c t
    | 4 => out4 m c t
    | ⟨_ + 5, h⟩ => absurd h (Nat.not_lt.2 (Nat.le_add_left _ _))
  Φ n := Phi m c n.val
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d

theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]; simp only [owns_whole]; try rfl

theorem Phi_in (c : Dev nD) : (Pipeline.ΦA spec0 c : sProp 𝕄) ⊢ Phi m c 0 := by
  rw [PhiA_eq]; unfold Phi
  iintro ⟨⟨H7, H8, ⟨%d9, H9⟩⟩, Hg⟩
  isplitl [H7 H8 H9]
  · isplitl [H7]; · iexact H7
    isplitl [H8]; · iexact H8
    iexists d9
    isplitl [H9]; · iexact H9
    ipureintro; intro h; exact absurd rfl h
  iexact Hg

theorem Phi_out (c : Dev nD) (n : ℕ) : Phi m c n ⊢ (Pipeline.ΦA spec0 c : sProp 𝕄) := by
  rw [PhiA_eq]; unfold Phi
  iintro ⟨⟨H7, H8, ⟨%d9, H9, %h9⟩⟩, Hg⟩
  isplitl [H7 H8 H9]
  · isplitl [H7]; · iexact H7
    isplitl [H8]; · iexact H8
    iexists d9; iexact H9
  iexact Hg

/-- The body's first window buffer and the others, as the body is called with them. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (if t.val % 40 = 39 then owns (c : Thread nD τ) (st0_3 t) fullShare (out3 m c t)
        else iprop(∃ d, owns (c : Thread nD τ) (st0_3 t) fullShare ((dats m 0 c).before 3 t d)))
    ∗ owns (c : Thread nD τ) (st0_4 t) fullShare (out4 m c t))

/-- The body at the point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = Phi m c (t.val + 1) from rfl,
    show (dats m 0 c).owesAt () t.succ = (dats m 0 c).owesAt () t.castSucc from rfl,
    show (dats m 0 c).Φ t.castSucc = Phi m c t.val from rfl]
  simp only [before_0, before_1, before_2]
  unfold Phi
  iintro ⟨⟨⟨⟨%d7, H7⟩, ⟨%d8, H8⟩, ⟨%d9, H9, %hd9⟩⟩, Hg⟩, HO, ⟨%d2, H2⟩, ⟨%d3, H3⟩, ⟨%d4, H4⟩, ⟨%d5, H5⟩, ⟨%d6, H6⟩⟩
  unfold owns
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H7 with ⟨%f7, %h7, H7⟩
  icases H8 with ⟨%f8, %h8, H8⟩
  icases H9 with ⟨%f9, %h9, H9⟩
  have hc := coords_val t
  have w2 : (st0_0 t).IsWhole := hstage0_0 ((cfg0.slots t 0).cast nbuf0_0)
  have w3 : (st0_1 t).IsWhole := hstage0_1 ((cfg0.slots t 1).cast nbuf0_1)
  have w4 : (st0_2 t).IsWhole := hstage0_2 ((cfg0.slots t 2).cast nbuf0_2)
  obtain rfl := w2.eq_unread h2
  obtain rfl := w3.eq_unread h3
  obtain rfl := w4.eq_unread h4
  iapply (body_run c (grid0.coords t) _ _ _ _ _ _ _ _ _ _ _ _ _ _ _ _ (iblk m c 0 t) (iblk m c 1 t) (iblk m c 2 t) f5 f6 f7 f8 f9 _
    (kf := KF (K' m c) (t.val / 40)) (qf := QF (Q' m c) (t.val / 40) (t.val % 40)) (sf := SF (S' m c) (t.val / 40)) (step := t.val % 40)
    hc.2.symm (iblk0_at m c t) (iblk2_at m c t) (iblk1_at m c t))
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %g5 %g6 %g7 %g8 %g9 ⟨H2, H3, H4, H5, H6, H7, H8, H9, %hp⟩
  obtain ⟨p6, p9, pg, pn⟩ := hp
  have p9' : ∀ r cc : Fin 256, (Memref.whole cc0_scratch2).view.read (Elt Ideal) g9 (ix2 r cc)
      = GT (S' m c) (Q' m c) (K' m c) (t.val / 40) (t.val % 40 + 1) r cc := by
    intro r cc
    rw [← GT_step (S' m c) (Q' m c) (K' m c) (t.val / 40) (t.val % 40) (fun r cc => (Memref.whole cc0_scratch2).view.read (Elt Ideal) f9 (ix2 r cc))
      (fun h0 r cc => by rw [h9]; exact hd9 h0 r cc) r cc]
    exact p9 r cc
  isplitl [H7 H8 H9 Hg]
  · isplitl [H7 H8 H9]
    · isplitl [H7]
      · iexists _, _; isplitr; swap; · iexact H7
        ipureintro; rfl
      isplitl [H8]
      · iexists _, _; isplitr; swap; · iexact H8
        ipureintro; rfl
      iexists _
      isplitl [H9]
      · iexists _; isplitr; swap; · iexact H9
        ipureintro; rfl
      ipureintro
      intro hne r cc
      rw [p9' r cc, show (t.val + 1) / 40 = t.val / 40 by omega, show (t.val + 1) % 40 = t.val % 40 + 1 by omega]
    iexact Hg
  isplitl [HO]; · iexact HO
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · by_cases hl : t.val % 40 = 39
    · rw [if_pos hl]
      iexists _; isplitr; swap; · iexact H5
      ipureintro
      funext y
      obtain ⟨y0, qb, kb, rfl⟩ : ∃ (a : Fin 1) (b cc : Fin 160), y = ix3 a b cc := ⟨_, _, _, eq_ix3 y⟩
      obtain rfl : y0 = 0 := Subsingleton.elim _ _
      refine (pg ((cond3_iff t).2 hl) qb kb).trans ?_
      unfold out3
      show gateOf _ qb kb = gateOf _ qb kb
      congr 1
      funext r cc
      rw [p9' r cc, hl]
    · rw [if_neg hl]
      have := pn (fun h => hl ((cond3_iff t).1 h))
      subst this
      iexists _, _; isplitr; swap; · iexact H5
      ipureintro; exact h5
  iexists _; isplitr; swap; · iexact H6
  ipureintro
  funext y
  obtain ⟨y0, h, r, rfl⟩ : ∃ (a : Fin 1) (b : Fin 4) (cc : Fin 256), y = ix3 a b cc := ⟨_, _, _, eq_ix3 y⟩
  obtain rfl : y0 = 0 := Subsingleton.elim _ _
  exact p6 h r

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

end Cert.KernelIdeal.Hand

end
-- ==== Proof.Run.lean ====
/-
  The kernel's run: what its two results hold at the end.
-/
module

public import proofs.«01_k».proof.Proof.Gen.KernelIdeal.Frame
public import proofs.«01_k».proof.Proof.Gen.KernelIdeal.Skeleton
public import proofs.«01_k».proof.Proof.Launch
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

theorem post3 (c : Dev nD) (t : Fin cfg0.N) :
    (match cfg0.idle 3 (cfg0.grid.coords t) with
      | true =>
        match (cfg0.win 3).flush t with
        | false => iprop(∃ d, owns (c : Thread nD τ) (st0_3 t) fullShare ((dats m 0 c).before 3 t d))
        | true => owns (c : Thread nD τ) (st0_3 t) fullShare ((dats m 0 c).after 3 t)
      | false => owns (c : Thread nD τ) (st0_3 t) fullShare ((dats m 0 c).after 3 t) : sProp 𝕄)
      = if t.val % 40 = 39 then owns (c : Thread nD τ) (st0_3 t) fullShare (out3 m c t)
        else iprop(∃ d, owns (c : Thread nD τ) (st0_3 t) fullShare ((dats m 0 c).before 3 t d)) := by
  have hidle : cfg0.idle 3 (cfg0.grid.coords t) = !(k0_cond3 (grid0.coords t) == 1#1) := rfl
  by_cases h : t.val % 40 = 39
  · have : cfg0.idle 3 (cfg0.grid.coords t) = false := by rw [hidle, (cond3_iff t).2 h]; rfl
    rw [this, if_pos h]; rfl
  · have h1 : cfg0.idle 3 (cfg0.grid.coords t) = true := by
      rw [hidle, beq_eq_false_iff_ne.2 fun e => h ((cond3_iff t).1 e)]; rfl
    have h2 : (cfg0.win 3).flush t = false := by
      rw [Bool.eq_false_iff]; exact fun e => h ((flush0_3 t).1 e)
    rw [h1, h2, if_neg h]

theorem body_obligation (c : Dev nD) : BodyObligation (dats m 0 c) (defs₀ (F := Ideal)) Variants.none () Set.univ := fun t => by
  rw [bigSep_W0, bigSep_W0, defs₀_row]
  refine triple_restated (sound_body m c t) rfl .rfl fun _ => ?_
  unfold bodyPost
  rw [← post3]
  exact .rfl

set_option backward.isDefEq.respectTransparency.types false in
/-- The launch. -/
theorem run_main :
    θ_run defs (onTc (τ := τ) (main (F := Ideal))) (s₀ m ρ)
      (Pipeline.FramePost cfgs (dats m) 0 (Pipeline.afterTail₀ cfgs (dats m) 0 (V0 m) [hostOps1])) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => Phi_in m c) (hout := fun c => Phi_out m c _)
    (hQ' := fun _ h => h.1)

/-- The gates of every head, as the launch leaves them. -/
def G3 (c : Dev nD) : S32x160x160.Idx → EReal := fun y =>
  gateOf (fun r cc => GT (S' m c) (Q' m c) (K' m c) (y 0).val 40 r cc) (y 1) (y 2)

/-- The log-sum-exps of every head, as the launch leaves them. -/
def G4 (c : Dev nD) : S32x4x10240.Idx → EReal := fun y =>
  LV (S' m c) (Q' m c) (K' m c) (y 0).val ((y 2).val / 256) (y 1).val ((y 2).val % 256)

theorem emb3 (t : Fin cfg0.N) (y : S1x160x160.Idx) :
    ((cfg0.win 3).blk t).view.emb y = (ix3 ⟨t.val / 40, by have := tN t; omega⟩ (y 1) (y 2) : S32x160x160.Idx) := by
  have ht := tN t
  have hi := (index_of t).2.2.2.1
  funext a
  apply Fin.ext
  have h0 : (y 0).val = 0 := by have : (y 0).val < 1 := (y 0).isLt; omega
  match a with
  | ⟨0, _⟩ => show win0_3.index t 0 * 1 + 1 * (y 0).val = t.val / 40; rw [hi, h0]; show t.val / 40 * 1 + 1 * 0 = _; omega
  | ⟨1, _⟩ => show win0_3.index t 1 * 160 + 1 * (y 1).val = (y 1).val; rw [hi]; show 0 * 160 + 1 * (y 1).val = _; omega
  | ⟨2, _⟩ => show win0_3.index t 2 * 160 + 1 * (y 2).val = (y 2).val; rw [hi]; show 0 * 160 + 1 * (y 2).val = _; omega

theorem emb4 (t : Fin cfg0.N) (y : S1x4x256.Idx) :
    ((cfg0.win 4).blk t).view.emb y = (ix3 ⟨t.val / 40, by have := tN t; omega⟩ (y 1)
      ⟨t.val % 40 * 256 + (y 2).val, by have : (y 2).val < 256 := (y 2).isLt; show t.val % 40 * 256 + (y 2).val < 10240; omega⟩ : S32x4x10240.Idx) := by
  have ht := tN t
  have hi := (index_of t).2.2.2.2
  funext a
  apply Fin.ext
  have h0 : (y 0).val = 0 := by have : (y 0).val < 1 := (y 0).isLt; omega
  match a with
  | ⟨0, _⟩ => show win0_4.index t 0 * 1 + 1 * (y 0).val = t.val / 40; rw [hi, h0]; show t.val / 40 * 1 + 1 * 0 = _; omega
  | ⟨1, _⟩ => show win0_4.index t 1 * 4 + 1 * (y 1).val = (y 1).val; rw [hi]; show 0 * 4 + 1 * (y 1).val = _; omega
  | ⟨2, _⟩ => show win0_4.index t 2 * 256 + 1 * (y 2).val = t.val % 40 * 256 + (y 2).val; rw [hi]; show t.val % 40 * 256 + 1 * (y 2).val = _; omega

theorem final3 (c : Dev nD) : (dats m 0 c).arrAt 3 cfg0.N = (G3 m c : Buf (Elt Ideal) ((c : Thread nD τ).loc main_v14_0)) := by
  refine (dats m 0 c).arrAt_eq_of_covers 3 _ (by decide +kernel) fun t hf y => ?_
  rw [emb3]
  rfl

theorem final4 (c : Dev nD) : (dats m 0 c).arrAt 4 cfg0.N = (G4 m c : Buf (Elt Ideal) ((c : Thread nD τ).loc main_v14_1)) := by
  refine (dats m 0 c).arrAt_eq_of_covers 4 _ (by decide +kernel) fun t hf y => ?_
  rw [emb4]
  show LV _ _ _ (t.val / 40) (t.val % 40) (y 1).val (y 2).val = LV _ _ _ (t.val / 40) ((t.val % 40 * 256 + (y 2).val) / 256) (y 1).val ((t.val % 40 * 256 + (y 2).val) % 256)
  have : (y 2).val < 256 := (y 2).isLt
  rw [show (t.val % 40 * 256 + (y 2).val) / 256 = t.val % 40 by omega, show (t.val % 40 * 256 + (y 2).val) % 256 = (y 2).val by omega]

/-- The run, read: the two results and the arguments. -/
theorem run : θ_run defs (onTc (τ := τ) (main (F := Ideal))) ⟨m, fun _ => 0, ρ⟩ fun r => ∀ c : Dev nD,
      r.2.mem ((c.tc : Thread nD τ).loc main_v15) = shapeCast S4x8x160x160 (G3 m c) shapeCasts_S32x160x160_S4x8x160x160
      ∧ r.2.mem ((c.tc : Thread nD τ).loc main_v16) = shapeCast S4x32x10240 (G4 m c) shapeCasts_S32x4x10240_S4x32x10240
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, ?_, ?_, ?_, ?_, ?_⟩) (run_main m ρ)
  · refine ((h c).2 main_v15 (Pipeline.mem_restRefs_of main_v15 (by decide) (by decide))).trans ?_
    have e := Pipeline.withArrays_arr spec0 (by decide) c (V0 m c) (fun w => (dats m 0 c).arrAt w cfg0.N) 3
    unfold Pipeline.afterTail₀
    after_results
    rw [← final3]
    exact congrArg (fun x => shapeCast S4x8x160x160 x shapeCasts_S32x160x160_S4x8x160x160) e
  · refine ((h c).2 main_v16 (Pipeline.mem_restRefs_of main_v16 (by decide) (by decide))).trans ?_
    have e := Pipeline.withArrays_arr spec0 (by decide) c (V0 m c) (fun w => (dats m 0 c).arrAt w cfg0.N) 4
    unfold Pipeline.afterTail₀
    after_results
    rw [← final4]
    exact congrArg (fun x => shapeCast S4x32x10240 x shapeCasts_S32x4x10240_S4x32x10240) e
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

end Cert.KernelIdeal.Hand

end
-- ==== Proof.RefRun.lean ====
/-
  The reference's run: what its two results hold at the end, as functions of the arguments.
-/
module

public import proofs.«01_k».proof.Proof.Gen.ReferenceIdeal.Frame
public import Idealize.ShloMosaic.Lib.Pipeline.ValueKit
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384
set_option maxHeartbeats 4000000

noncomputable section

namespace Cert.ReferenceIdeal.Hand

open Cert.ReferenceIdeal Cert.ReferenceIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ## The widening region: its arrays are the codes -/

theorem iblk0_eq (c : Dev nD) (t : Fin cfg0.N) : (iblk m c 0 t : Vec Ideal S4x10240x32x96 .fp8e4m3) = m ((c : Thread nD τ).loc main_arg0) := by
  obtain rfl := fin_N0 t
  funext y
  unfold iblk
  rw [View.read_apply]
  refine Eq.trans ?_ (congrFun (V_main_arg0 m c) y)
  show V m c main_arg0 _ = V m c main_arg0 _
  congr 1
  funext a
  apply Fin.ext
  have hi : win0_0.index t0_0 = ![0, 0, 0, 0] := by decide
  match a with
  | ⟨0, _⟩ => show win0_0.index t0_0 0 * 4 + 1 * (y 0).val = (y 0).val; rw [hi]; show 0 * 4 + 1 * (y 0).val = _; omega
  | ⟨1, _⟩ => show win0_0.index t0_0 1 * 10240 + 1 * (y 1).val = (y 1).val; rw [hi]; show 0 * 10240 + 1 * (y 1).val = _; omega
  | ⟨2, _⟩ => show win0_0.index t0_0 2 * 32 + 1 * (y 2).val = (y 2).val; rw [hi]; show 0 * 32 + 1 * (y 2).val = _; omega
  | ⟨3, _⟩ => show win0_0.index t0_0 3 * 96 + 1 * (y 3).val = (y 3).val; rw [hi]; show 0 * 96 + 1 * (y 3).val = _; omega

theorem iblk1_eq (c : Dev nD) (t : Fin cfg0.N) : (iblk m c 1 t : Vec Ideal S4x10240x8x96 .fp8e4m3) = m ((c : Thread nD τ).loc main_arg2) := by
  obtain rfl := fin_N0 t
  funext y
  unfold iblk
  rw [View.read_apply]
  refine Eq.trans ?_ (congrFun (V_main_arg2 m c) y)
  show V m c main_arg2 _ = V m c main_arg2 _
  congr 1
  funext a
  apply Fin.ext
  have hi : win0_1.index t0_0 = ![0, 0, 0, 0] := by decide
  match a with
  | ⟨0, _⟩ => show win0_1.index t0_0 0 * 4 + 1 * (y 0).val = (y 0).val; rw [hi]; show 0 * 4 + 1 * (y 0).val = _; omega
  | ⟨1, _⟩ => show win0_1.index t0_0 1 * 10240 + 1 * (y 1).val = (y 1).val; rw [hi]; show 0 * 10240 + 1 * (y 1).val = _; omega
  | ⟨2, _⟩ => show win0_1.index t0_0 2 * 8 + 1 * (y 2).val = (y 2).val; rw [hi]; show 0 * 8 + 1 * (y 2).val = _; omega
  | ⟨3, _⟩ => show win0_1.index t0_0 3 * 96 + 1 * (y 3).val = (y 3).val; rw [hi]; show 0 * 96 + 1 * (y 3).val = _; omega

theorem hz : (![0, 0, 0, 0] : Fin 4 → Nat) = fun _ => 0 := funext fun a => by fin_cases a <;> rfl

theorem out2_eq (x0 : Vec Ideal S4x10240x32x96 .fp8e4m3) (x1 : Vec Ideal S4x10240x8x96 .fp8e4m3) : out0_2 x0 x1 = (x0 : S4x10240x32x96.Idx → EReal) := by
  unfold out0_2
  rw [View.canon_unit_zero hz, View.ld_unit_zero hz]
  rfl

theorem out3_eq (x0 : Vec Ideal S4x10240x32x96 .fp8e4m3) (x1 : Vec Ideal S4x10240x8x96 .fp8e4m3) : out0_3 x0 x1 = (x1 : S4x10240x8x96.Idx → EReal) := by
  unfold out0_3
  rw [View.canon_unit_zero hz, View.ld_unit_zero hz]
  rfl

theorem final2 (c : Dev nD) : (dats m 0 c).arrAt 2 cfg0.N = (m ((c : Thread nD τ).loc main_arg0) : Buf (Elt Ideal) ((c : Thread nD τ).loc main_v6_0)) := by
  refine (dats m 0 c).arrAt_eq_of_covers 2 _ (by decide +kernel) fun t hf y => ?_
  rw [after0_2, out2_eq, iblk0_eq]
  obtain rfl := fin_N0 t
  show m ((c : Thread nD τ).loc main_arg0) _ = m ((c : Thread nD τ).loc main_arg0) _
  congr 1
  funext a
  apply Fin.ext
  have hi : win0_2.index t0_0 = ![0, 0, 0, 0] := by decide
  match a with
  | ⟨0, _⟩ => show (y 0).val = win0_2.index t0_0 0 * 4 + 1 * (y 0).val; rw [hi]; show _ = 0 * 4 + 1 * (y 0).val; omega
  | ⟨1, _⟩ => show (y 1).val = win0_2.index t0_0 1 * 10240 + 1 * (y 1).val; rw [hi]; show _ = 0 * 10240 + 1 * (y 1).val; omega
  | ⟨2, _⟩ => show (y 2).val = win0_2.index t0_0 2 * 32 + 1 * (y 2).val; rw [hi]; show _ = 0 * 32 + 1 * (y 2).val; omega
  | ⟨3, _⟩ => show (y 3).val = win0_2.index t0_0 3 * 96 + 1 * (y 3).val; rw [hi]; show _ = 0 * 96 + 1 * (y 3).val; omega

theorem final3 (c : Dev nD) : (dats m 0 c).arrAt 3 cfg0.N = (m ((c : Thread nD τ).loc main_arg2) : Buf (Elt Ideal) ((c : Thread nD τ).loc main_v6_1)) := by
  refine (dats m 0 c).arrAt_eq_of_covers 3 _ (by decide +kernel) fun t hf y => ?_
  rw [after0_3, out3_eq, iblk1_eq]
  obtain rfl := fin_N0 t
  show m ((c : Thread nD τ).loc main_arg2) _ = m ((c : Thread nD τ).loc main_arg2) _
  congr 1
  funext a
  apply Fin.ext
  have hi : win0_3.index t0_0 = ![0, 0, 0, 0] := by decide
  match a with
  | ⟨0, _⟩ => show (y 0).val = win0_3.index t0_0 0 * 4 + 1 * (y 0).val; rw [hi]; show _ = 0 * 4 + 1 * (y 0).val; omega
  | ⟨1, _⟩ => show (y 1).val = win0_3.index t0_0 1 * 10240 + 1 * (y 1).val; rw [hi]; show _ = 0 * 10240 + 1 * (y 1).val; omega
  | ⟨2, _⟩ => show (y 2).val = win0_3.index t0_0 2 * 8 + 1 * (y 2).val; rw [hi]; show _ = 0 * 8 + 1 * (y 2).val; omega
  | ⟨3, _⟩ => show (y 3).val = win0_3.index t0_0 3 * 96 + 1 * (y 3).val; rw [hi]; show _ = 0 * 96 + 1 * (y 3).val; omega

/-! ## The host lines, named -/

section Lines

variable (a0 : FVec Ideal S4x10240x32x96 .f32) (a1 : FVec Ideal S4x32 .f32) (a2 : FVec Ideal S4x10240x8x96 .f32) (a3 : FVec Ideal S4x8 .f32)

/-- The score scales. -/
def r5 : FVec Ideal S4x8x4 .f32 :=
  mulf (mulf (shapeCast S4x8x4 a1 shapeCasts_S4x32_S4x8x4)
      (broadcastInDim S4x8x4 ![0, 1, 2] bcast_S4x8x1_S4x8x4_0_1_2 (broadcastInDim S4x8x1 ![0, 1] bcast_S4x8_S4x8x1_0_1 a3)))
    (broadcastInDim S4x8x4 ![] bcast_S_S4x8x4 (constant S_ .f32 0x3DD105EC#32))

/-- The scores, scaled. -/
def r12 : FVec Ideal S4x8x4x10240x10240 .f32 :=
  mulf (transpose S4x8x4x10240x10240 [0, 1, 4, 3, 2]
      (Host.dotGeneral (F := Ideal) (φ₁ := .f32) (φ₂ := .f32) dot_S4x10240x8x96_S4x10240x8x4x96_S4x8x10240x10240x4_3_4_1_13_02_02 none a2
        (shapeCast S4x10240x8x4x96 a0 shapeCasts_S4x10240x32x96_S4x10240x8x4x96))
      transposes_S4x8x10240x10240x4_S4x8x4x10240x10240_0_1_4_3_2)
    (broadcastInDim S4x8x4x10240x10240 ![0, 1, 2, 3, 4] bcast_S4x8x4x1x1_S4x8x4x10240x10240_0_1_2_3_4
      (broadcastInDim S4x8x4x1x1 ![0, 1, 2] bcast_S4x8x4_S4x8x4x1x1_0_1_2 (r5 a1 a3)))

/-- Which keys a row sees. -/
def r18 : IVec S10240x10240 1 :=
  cmpi .sle (broadcastInDim S10240x10240 ![0, 1] bcast_S1x10240_S10240x10240_0_1 (broadcastInDim S1x10240 ![1] bcast_S10240_S1x10240_1 (iotaInDim S10240 32 0)))
    (broadcastInDim S10240x10240 ![0, 1] bcast_S10240x1_S10240x10240_0_1 (broadcastInDim S10240x1 ![0] bcast_S10240_S10240x1_0 (iotaInDim S10240 32 0)))

/-- The scores, masked. -/
def r19 : FVec Ideal S4x8x4x10240x10240 .f32 :=
  select (broadcastInDim S4x8x4x10240x10240 ![3, 4] bcast_S10240x10240_S4x8x4x10240x10240_3_4 r18) (r12 a0 a1 a2 a3)
    (broadcastInDim S4x8x4x10240x10240 ![] bcast_S_S4x8x4x10240x10240 (id (constant S_ .f32 0xFF800000#32)))

section Soft
variable (s : FVec Ideal S4x8x4x10240x10240 .f32)

/-- The largest score of a row. -/
def r20 : FVec Ideal S4x8x4x10240 .f32 :=
  Host.reduce FloatOps.maximumf s (constant S_ .f32 0xFF800000#32) reducesTo_S4x8x4x10240x10240_S4x8x4x10240_d4 h_S_

def r21 : FVec Ideal S4x8x4x10240x1 .f32 := broadcastInDim S4x8x4x10240x1 ![0, 1, 2, 3] bcast_S4x8x4x10240_S4x8x4x10240x1_0_1_2_3 (r20 s)

def r24 : FVec Ideal S4x8x4x10240x10240 .f32 :=
  Host.exp (F := Ideal) (subf s (broadcastInDim S4x8x4x10240x10240 ![0, 1, 2, 3, 4] bcast_S4x8x4x10240x1_S4x8x4x10240x10240_0_1_2_3_4 (r21 s)))

def r25 : FVec Ideal S4x8x4x10240 .f32 :=
  Host.reduceAdd (F := Ideal) (r24 s) (constant S_ .f32 0x00000000#32) reducesTo_S4x8x4x10240x10240_S4x8x4x10240_d4 h_S_

/-- The log-sum-exps of the rows. -/
def r28 : FVec Ideal S4x8x4x10240x1 .f32 :=
  addf (r21 s) (Host.log (F := Ideal) (broadcastInDim S4x8x4x10240x1 ![0, 1, 2, 3] bcast_S4x8x4x10240_S4x8x4x10240x1_0_1_2_3 (r25 s)))

def r31 : FVec Ideal S4x8x4x10240x10240 .f32 :=
  Host.exp (F := Ideal) (subf s (broadcastInDim S4x8x4x10240x10240 ![0, 1, 2, 3, 4] bcast_S4x8x4x10240x1_S4x8x4x10240x10240_0_1_2_3_4 (r28 s)))

def r33 : FVec Ideal S4x8x4x10240x160 .f32 :=
  Host.reduce FloatOps.maximumf (shapeCast S4x8x4x10240x160x64 (r31 s) shapeCasts_S4x8x4x10240x10240_S4x8x4x10240x160x64) (constant S_ .f32 0xFF800000#32)
    reducesTo_S4x8x4x10240x160x64_S4x8x4x10240x160_d5 h_S_

def r35 : FVec Ideal S4x8x160x160 .f32 :=
  Host.reduce FloatOps.maximumf (shapeCast S4x8x4x160x64x160 (r33 s) shapeCasts_S4x8x4x10240x160_S4x8x4x160x64x160) (constant S_ .f32 0xFF800000#32)
    reducesTo_S4x8x4x160x64x160_S4x8x160x160_d2_4 h_S_

def r36 : FVec Ideal S4x8x160 .f32 :=
  Host.reduceAdd (F := Ideal) (r35 s) (constant S_ .f32 0x00000000#32) reducesTo_S4x8x160x160_S4x8x160_d3 h_S_

/-- The gates. -/
def r39 : FVec Ideal S4x8x160x160 .f32 :=
  Host.divf (F := Ideal) (r35 s) (broadcastInDim S4x8x160x160 ![0, 1, 2, 3] bcast_S4x8x160x1_S4x8x160x160_0_1_2_3 (broadcastInDim S4x8x160x1 ![0, 1, 2] bcast_S4x8x160_S4x8x160x1_0_1_2 (r36 s)))

def r46 : FVec Ideal S4x32x10240 .f32 :=
  broadcastInDim S4x32x10240 ![0, 1, 2] bcast_S1x1x10240_S4x32x10240_0_1_2 (broadcastInDim S1x1x10240 ![2] bcast_S10240_S1x1x10240_2
    (Host.log (F := Ideal) (sitofp .f32 (addi (iotaInDim S10240 32 0) (broadcastInDim S10240 ![] bcast_S_S10240 (constantI S_ 32 1#32))))))

/-- The log-sum-exps less the logarithm of the row's place. -/
def r47 : FVec Ideal S4x32x10240 .f32 := subf (shapeCast S4x32x10240 (r28 s) shapeCasts_S4x8x4x10240x1_S4x32x10240) r46

end Soft

end Lines

/-- The scores of the run. -/
abbrev sc (c : Dev nD) : FVec Ideal S4x8x4x10240x10240 .f32 :=
  r19 (m ((c : Thread nD τ).loc main_arg0)) (m ((c : Thread nD τ).loc main_arg1)) (m ((c : Thread nD τ).loc main_arg2)) (m ((c : Thread nD τ).loc main_arg3))

theorem tail_19 (W : Valuation τ sig (Elt Ideal)) {a0 : FVec Ideal S4x10240x32x96 .f32} {a2 : FVec Ideal S4x10240x8x96 .f32} {v5 : FVec Ideal S4x8x4 .f32}
    {a1 : FVec Ideal S4x32 .f32} {a3 : FVec Ideal S4x8 .f32}
    (e2 : W (Proc.devRef .tc main_v6_0) = a0) (e3 : W (Proc.devRef .tc main_v6_1) = a2) (e5 : W (Proc.devRef .tc main_v5) = r5 a1 a3) :
    StableHlo.after (hostOps1 ++ hostOps1_1) W (Proc.devRef .tc main_v19) = r19 a0 a1 a2 a3 := by
  subst e2 e3
  unfold r19 r12
  rw [← e5]
  after_results
  rfl

theorem tail_13 (W : Valuation τ sig (Elt Ideal)) :
    StableHlo.after (hostOps1 ++ hostOps1_1) W (Proc.devRef .tc main_v13) = iotaInDim S10240 32 0 := by
  rw [StableHlo.after_append]
  unfold hostOps1 hostOps1_1
  after_results

theorem tail_39 (W : Valuation τ sig (Elt Ideal)) {s : FVec Ideal S4x8x4x10240x10240 .f32} (e : W (Proc.devRef .tc main_v19) = s) :
    StableHlo.after hostOps1_2 W (Proc.devRef .tc main_v39) = r39 s := by
  subst e
  after_results
  rfl

theorem tail_47 (W : Valuation τ sig (Elt Ideal)) {s : FVec Ideal S4x8x4x10240x10240 .f32} (e : W (Proc.devRef .tc main_v19) = s)
    (e' : W (Proc.devRef .tc main_v13) = iotaInDim S10240 32 0) :
    StableHlo.after hostOps1_2 W (Proc.devRef .tc main_v47) = r47 s := by
  subst e
  unfold r47 r46
  rw [← e']
  after_results
  rfl

/-- The valuation the lines after the region start from. -/
abbrev W0 (c : Dev nD) : Valuation τ sig (Elt Ideal) := Pipeline.withArrays spec0 c (V0 m c) fun w => (dats m 0 c).arrAt w cfg0.N

theorem W0_5 (c : Dev nD) : W0 m c (Proc.devRef .tc main_v5) = r5 (m ((c : Thread nD τ).loc main_arg1)) (m ((c : Thread nD τ).loc main_arg3)) := by
  refine (Pipeline.withArrays_of_ne spec0 c (V0 m c) _ main_v5 (by decide)).trans ?_
  show StableHlo.after hostOps0 (fun b => m (c, b)) (Proc.devRef .tc main_v5) = _
  after_results
  rfl

theorem W0_19 (c : Dev nD) : StableHlo.after (hostOps1 ++ hostOps1_1) (W0 m c) (Proc.devRef .tc main_v19) = sc m c :=
  tail_19 (W0 m c)
    ((Pipeline.withArrays_arr spec0 (by decide) c (V0 m c) (fun w => (dats m 0 c).arrAt w cfg0.N) 2).trans (final2 m c))
    ((Pipeline.withArrays_arr spec0 (by decide) c (V0 m c) (fun w => (dats m 0 c).arrAt w cfg0.N) 3).trans (final3 m c))
    (W0_5 m c) (v5 := r5 (m ((c : Thread nD τ).loc main_arg1)) (m ((c : Thread nD τ).loc main_arg3)))

theorem flat : [hostOps1, hostOps1_1, hostOps1_2 (F := Ideal)].flatten = (hostOps1 ++ hostOps1_1) ++ hostOps1_2 := by
  simp only [List.flatten_cons, List.flatten_nil, List.append_nil, List.append_assoc]

/-- The run, read: the two results and the arguments. -/
theorem run : θ_run defs (onTc (τ := τ) (main (F := Ideal))) ⟨m, fun _ => 0, ρ⟩ fun r => ∀ c : Dev nD,
      r.2.mem ((c.tc : Thread nD τ).loc main_v39) = r39 (sc m c)
      ∧ r.2.mem ((c.tc : Thread nD τ).loc main_v47) = r47 (sc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, ?_, h.2 c⟩) (θ_run_and (run_main m ρ) (unchanged m ρ))
  · refine ((h.1 c).2 main_v39 (Pipeline.mem_restRefs_of main_v39 (by decide) (by decide))).trans ?_
    unfold Pipeline.afterTail₀
    rw [flat, StableHlo.after_append]
    exact tail_39 _ (W0_19 m c)
  · refine ((h.1 c).2 main_v47 (Pipeline.mem_restRefs_of main_v47 (by decide) (by decide))).trans ?_
    unfold Pipeline.afterTail₀
    rw [flat, StableHlo.after_append]
    exact tail_47 _ (W0_19 m c) (tail_13 _)

end Cert.ReferenceIdeal.Hand

end
-- ==== Proof.RefVal.lean ====
/-
  The reference's host lines, read at an index.
-/
module

public import proofs.«01_k».proof.Proof.RefRun
public import proofs.«01_k».proof.Proof.EMath
public import Idealize.ShloMosaic.Lib.Pipeline.ValueKit
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384
set_option maxHeartbeats 4000000

noncomputable section

namespace Cert.ReferenceIdeal.Hand

open Cert.EMath Cert.ReferenceIdeal Cert.ReferenceIdeal.Gen
open Idealize.ShloMosaic Idealize.ShloMosaic.TcCoe Idealize.ShloMosaic.Tactic Idealize.SL.Sem
open Idealize.ShloMosaic.Pipeline (Dat)

theorem addf_log {s : Shape} (x y : FVec Ideal s .f32) (j : s.Idx) : addf x (Host.log (F := Ideal) y) j = x j + Ideal.log (y j) := rfl

theorem subf_at {s : Shape} (x y : FVec Ideal s .f32) (j : s.Idx) : subf x y j = x j - y j := rfl

theorem fold_max {α : Type} (S : Finset α) (f : α → EReal) :
    S.fold max (Ideal.ofBits FTy.f32 4286578688#32) f = S.sup f := by
  rw [show Ideal.ofBits FTy.f32 4286578688#32 = ⊥ by simp [Ideal.ofBits, Ideal.ieee]]
  rfl

section Lines

variable (a0 : FVec Ideal S4x10240x32x96 .f32) (a1 : FVec Ideal S4x32 .f32) (a2 : FVec Ideal S4x10240x8x96 .f32) (a3 : FVec Ideal S4x8 .f32)

theorem r5_at (b : Fin 4) (kv : Fin 8) (g : Fin 4) : r5 a1 a3 (ix3 b kv g) = a1 (ix2 b ⟨kv.val * 4 + g.val, by omega⟩) * a3 (ix2 b kv) * Ideal.ofBits .f32 0x3DD105EC#32 := by
  unfold r5
  pointwise

theorem r12_at (b : Fin 4) (kv : Fin 8) (g : Fin 4) (row key : Fin 10240) : r12 a0 a1 a2 a3 (ix5 b kv g row key)
    = (∑ d : Fin 96, a2 (ix4 b key kv d) * a0 (ix4 b row ⟨kv.val * 4 + g.val, by omega⟩ d)) * r5 a1 a3 (ix3 b kv g) := by
  unfold r12
  pointwise

theorem r19_at (b : Fin 4) (kv : Fin 8) (g : Fin 4) (row key : Fin 10240) : r19 a0 a1 a2 a3 (ix5 b kv g row key)
    = if key.val ≤ row.val then r12 a0 a1 a2 a3 (ix5 b kv g row key) else ⊥ := by
  unfold r19 r18
  pointwise
  have e : (IntOp.cmpi CmpIPredicate.sle (BitVec.ofNat 32 key.val) (BitVec.ofNat 32 row.val)) = if key.val ≤ row.val then 1#1 else 0#1 := by
    have h : (BitVec.ofNat 32 key.val).sle (BitVec.ofNat 32 row.val) = decide (key.val ≤ row.val) := by
      rw [BitVec.sle, BitVec.toInt_ofNat', BitVec.toInt_ofNat']
      have := key.isLt
      have := row.isLt
      rw [Int.bmod_eq_of_le (by omega) (by omega), Int.bmod_eq_of_le (by omega) (by omega)]
      simp
    simp only [IntOp.cmpi, h]
    by_cases hk : key.val ≤ row.val <;> simp [hk]
  rw [e]
  by_cases hk : key.val ≤ row.val
  · rw [if_pos hk, if_pos hk]
    rfl
  · rw [if_neg hk, if_neg hk]
    show Ideal.ofBits FTy.f32 4286578688#32 = ⊥
    simp [Ideal.ofBits, Ideal.ieee]

section Soft
variable (s : FVec Ideal S4x8x4x10240x10240 .f32)

theorem r20_at (b : Fin 4) (kv : Fin 8) (g : Fin 4) (row : Fin 10240) : r20 s (ix4 b kv g row) = Finset.univ.sup fun key : Fin 10240 => s (ix5 b kv g row key) := by
  unfold r20
  pointwise
  exact fold_max _ _

theorem unit_at (x : FVec Ideal S4x8x4x10240 .f32) (b : Fin 4) (kv : Fin 8) (g : Fin 4) (row : Fin 10240) :
    broadcastInDim S4x8x4x10240x1 ![0, 1, 2, 3] bcast_S4x8x4x10240_S4x8x4x10240x1_0_1_2_3 x (ix5 b kv g row 0) = x (ix4 b kv g row) := by
  pointwise

theorem r21_at (b : Fin 4) (kv : Fin 8) (g : Fin 4) (row : Fin 10240) : r21 s (ix5 b kv g row 0) = r20 s (ix4 b kv g row) := by
  unfold r21
  exact unit_at _ b kv g row

theorem r24_at (b : Fin 4) (kv : Fin 8) (g : Fin 4) (row key : Fin 10240) : r24 s (ix5 b kv g row key) = Ideal.exp (s (ix5 b kv g row key) - r21 s (ix5 b kv g row 0)) := by
  unfold r24
  pointwise

theorem r25_at (b : Fin 4) (kv : Fin 8) (g : Fin 4) (row : Fin 10240) : r25 s (ix4 b kv g row) = ∑ key : Fin 10240, r24 s (ix5 b kv g row key) := by
  unfold r25
  pointwise

theorem r28_at (b : Fin 4) (kv : Fin 8) (g : Fin 4) (row : Fin 10240) : r28 s (ix5 b kv g row 0) = lse Finset.univ fun key : Fin 10240 => s (ix5 b kv g row key) := by
  unfold r28
  rw [addf_log, unit_at, r25_at, r21_at, r20_at]
  have e : ∀ key : Fin 10240, r24 s (ix5 b kv g row key) = Ideal.exp (s (ix5 b kv g row key) - Finset.univ.sup fun key : Fin 10240 => s (ix5 b kv g row key)) := fun key => by
    rw [r24_at, r21_at, r20_at]
  simp only [lse, e]

theorem r31_at (b : Fin 4) (kv : Fin 8) (g : Fin 4) (row key : Fin 10240) : r31 s (ix5 b kv g row key) = Ideal.exp (s (ix5 b kv g row key) - r28 s (ix5 b kv g row 0)) := by
  unfold r31
  pointwise

theorem blocks_at (x : FVec Ideal S4x8x4x10240x10240 .f32) (b : Fin 4) (kv : Fin 8) (g : Fin 4) (row : Fin 10240) (kb : Fin 160) (j : Fin 64) :
    shapeCast S4x8x4x10240x160x64 x shapeCasts_S4x8x4x10240x10240_S4x8x4x10240x160x64 (ix6 b kv g row kb j)
      = x (ix5 b kv g row ⟨kb.val * 64 + j.val, by omega⟩) := by
  pointwise

theorem r33_at (b : Fin 4) (kv : Fin 8) (g : Fin 4) (row : Fin 10240) (kb : Fin 160) : r33 s (ix5 b kv g row kb)
    = Finset.univ.sup fun j : Fin 64 => r31 s (ix5 b kv g row ⟨kb.val * 64 + j.val, by omega⟩) := by
  unfold r33
  rw [Host.reduce_eq_fold]
  refine (fold_max _ _).trans ?_
  apply le_antisymm
  · refine Finset.sup_le fun i hi => ?_
    rw [Finset.mem_filter] at hi
    have h0 := congrArg (fun y : S4x8x4x10240x160.Idx => (y 0).val) hi.2
    have h1 := congrArg (fun y : S4x8x4x10240x160.Idx => (y 1).val) hi.2
    have h2 := congrArg (fun y : S4x8x4x10240x160.Idx => (y 2).val) hi.2
    have h3 := congrArg (fun y : S4x8x4x10240x160.Idx => (y 3).val) hi.2
    have h4 := congrArg (fun y : S4x8x4x10240x160.Idx => (y 4).val) hi.2
    simp only [Shape.ReducesTo.drop_apply_val] at h0 h1 h2 h3 h4
    have e : i = ix6 b kv g row kb (i 5) := by
      funext a
      fin_cases a
      · exact Fin.ext h0
      · exact Fin.ext h1
      · exact Fin.ext h2
      · exact Fin.ext h3
      · exact Fin.ext h4
      · rfl
    rw [e]
    refine (blocks_at _ b kv g row kb (i 5)).le.trans ?_
    exact Finset.le_sup (f := fun j : Fin 64 => r31 s (ix5 b kv g row ⟨kb.val * 64 + j.val, by omega⟩)) (Finset.mem_univ _)
  · refine Finset.sup_le fun j _ => ?_
    refine (blocks_at _ b kv g row kb j).ge.trans ?_
    refine Finset.le_sup (f := shapeCast S4x8x4x10240x160x64 (r31 s) shapeCasts_S4x8x4x10240x10240_S4x8x4x10240x160x64) ?_
    rw [Finset.mem_filter]
    refine ⟨Finset.mem_univ _, ?_⟩
    funext a
    fin_cases a <;> rfl

theorem rows_at (x : FVec Ideal S4x8x4x10240x160 .f32) (b : Fin 4) (kv : Fin 8) (g : Fin 4) (qb : Fin 160) (j : Fin 64) (kb : Fin 160) :
    shapeCast S4x8x4x160x64x160 x shapeCasts_S4x8x4x10240x160_S4x8x4x160x64x160 (ix6 b kv g qb j kb)
      = x (ix5 b kv g ⟨qb.val * 64 + j.val, by omega⟩ kb) := by
  pointwise

theorem r35_at (b : Fin 4) (kv : Fin 8) (qb kb : Fin 160) : r35 s (ix4 b kv qb kb)
    = Finset.univ.sup fun g : Fin 4 => Finset.univ.sup fun j : Fin 64 => r33 s (ix5 b kv g ⟨qb.val * 64 + j.val, by omega⟩ kb) := by
  unfold r35
  rw [Host.reduce_eq_fold]
  refine (fold_max _ _).trans ?_
  apply le_antisymm
  · refine Finset.sup_le fun i hi => ?_
    rw [Finset.mem_filter] at hi
    have h0 := congrArg (fun y : S4x8x160x160.Idx => (y 0).val) hi.2
    have h1 := congrArg (fun y : S4x8x160x160.Idx => (y 1).val) hi.2
    have h2 := congrArg (fun y : S4x8x160x160.Idx => (y 2).val) hi.2
    have h3 := congrArg (fun y : S4x8x160x160.Idx => (y 3).val) hi.2
    simp only [Shape.ReducesTo.drop_apply_val] at h0 h1 h2 h3
    have e : i = ix6 b kv (i 2) qb (i 4) kb := by
      funext a
      fin_cases a
      · exact Fin.ext h0
      · exact Fin.ext h1
      · rfl
      · exact Fin.ext h2
      · rfl
      · exact Fin.ext h3
    rw [e]
    refine (rows_at _ b kv (i 2) qb (i 4) kb).le.trans ?_
    refine le_trans ?_ (Finset.le_sup (f := fun g : Fin 4 => Finset.univ.sup fun j : Fin 64 => r33 s (ix5 b kv g ⟨qb.val * 64 + j.val, by omega⟩ kb)) (Finset.mem_univ (i 2)))
    exact Finset.le_sup (f := fun j : Fin 64 => r33 s (ix5 b kv (i 2) ⟨qb.val * 64 + j.val, by omega⟩ kb)) (Finset.mem_univ (i 4))
  · refine Finset.sup_le fun g _ => Finset.sup_le fun j _ => ?_
    refine (rows_at _ b kv g qb j kb).ge.trans ?_
    refine Finset.le_sup (f := shapeCast S4x8x4x160x64x160 (r33 s) shapeCasts_S4x8x4x10240x160_S4x8x4x160x64x160) ?_
    rw [Finset.mem_filter]
    refine ⟨Finset.mem_univ _, ?_⟩
    funext a
    fin_cases a <;> rfl

theorem r39_at (b : Fin 4) (kv : Fin 8) (qb kb : Fin 160) : r39 s (ix4 b kv qb kb)
    = Ideal.div (r35 s (ix4 b kv qb kb)) (∑ j : Fin 160, r35 s (ix4 b kv qb j)) := by
  unfold r39 r36
  pointwise

theorem r46_at (b : Fin 4) (h : Fin 32) (row : Fin 10240) : (r46 (ix3 b h row) : EReal) = Ideal.log ((row.val + 1 : ℕ) : EReal) := by
  unfold r46
  pointwise
  have e : IntOp.addi (BitVec.ofNat 32 row.val) 1#32 = BitVec.ofNat 32 (row.val + 1) := by
    show BitVec.ofNat 32 row.val + BitVec.ofNat 32 1 = _
    rw [← BitVec.ofNat_add]
  have e' : (FloatOps.sitofp (F := Ideal) FTy.f32 (IntOp.addi (BitVec.ofNat 32 row.val) 1#32) : EReal) = ((row.val + 1 : ℕ) : EReal) := by
    rw [e]
    show (((BitVec.ofNat 32 (row.val + 1)).toInt : ℝ) : EReal) = _
    have := row.isLt
    rw [BitVec.toInt_ofNat', Int.bmod_eq_of_le (by omega) (by omega)]
    simp
  exact congrArg Ideal.log e'

theorem heads_at (x : FVec Ideal S4x8x4x10240x1 .f32) (b : Fin 4) (h : Fin 32) (row : Fin 10240) :
    shapeCast S4x32x10240 x shapeCasts_S4x8x4x10240x1_S4x32x10240 (ix3 b h row)
      = x (ix5 b ⟨h.val / 4, by omega⟩ ⟨h.val % 4, by omega⟩ row 0) := by
  pointwise

theorem r47_at (b : Fin 4) (h : Fin 32) (row : Fin 10240) : r47 s (ix3 b h row)
    = r28 s (ix5 b ⟨h.val / 4, by omega⟩ ⟨h.val % 4, by omega⟩ row 0) - Ideal.log ((row.val + 1 : ℕ) : EReal) := by
  unfold r47
  rw [subf_at, heads_at, r46_at]

end Soft

end Lines

end Cert.ReferenceIdeal.Hand

end
-- ==== Proof.HostRead.lean ====
/-
  The three arrays the host gives the kernel, read at an index of the arguments.
-/
module

public import proofs.«01_k».proof.Proof.Gen.KernelIdeal.Frame
public import proofs.«01_k».proof.Proof.Gen.KernelIdeal.Skeleton
public import proofs.«01_k».proof.Proof.Launch
public import proofs.«01_k».proof.Proof.Off
public import Idealize.ShloMosaic.Lib.Pipeline.Frame
public import Idealize.ShloMosaic.Lib.Pipeline.ValueKit
public import Idealize.ShloMosaic.Lib.Tactic
public import Idealize.ShloMosaic.Lib.WholeRead

@[expose] public section

set_option maxRecDepth 16384
set_option maxHeartbeats 4000000

noncomputable section

namespace Cert.KernelIdeal.Hand

open Cert.KernelIdeal Cert.KernelIdeal.Gen Cert.EMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

section Host

theorem scales_at (x : FVec Ideal S4x8x4 .f32) (n : Fin 32) (l : Fin 256) :
    shapeCast S32x1x256 (broadcastInDim S32x1x4x64 ![0, 1, 2] bcast_S32x1x4_S32x1x4x64_0_1_2 (shapeCast S32x1x4 x shapeCasts_S4x8x4_S32x1x4)) shapeCasts_S32x1x4x64_S32x1x256 (ix3 n 0 l)
      = x (ix3 ⟨n.val / 8, by omega⟩ ⟨n.val % 8, by omega⟩ ⟨l.val / 64, by omega⟩) := by
  pointwise

theorem score_scale_at (a1 : FVec Ideal S4x32 .f32) (a3 : FVec Ideal S4x8 .f32) (b : Fin 4) (kv : Fin 8) (g : Fin 4) :
    (mulf (mulf (shapeCast S4x8x4 a1 shapeCasts_S4x32_S4x8x4) (broadcastInDim S4x8x4 ![0, 1, 2] bcast_S4x8x1_S4x8x4_0_1_2 (broadcastInDim S4x8x1 ![0, 1] bcast_S4x8_S4x8x1_0_1 a3)))
      (broadcastInDim S4x8x4 ![] bcast_S_S4x8x4 (constant S_ .f32 0x3DD105EC#32)) : FVec Ideal S4x8x4 .f32) (ix3 b kv g)
      = a1 (ix2 b ⟨kv.val * 4 + g.val, by omega⟩) * a3 (ix2 b kv) * Ideal.ofBits .f32 0x3DD105EC#32 := by
  pointwise

theorem queries_at (x : Vec Ideal S4x10240x32x96 .fp8e4m3) (n : Fin 32) (R : Fin 40960) (d : Fin 96) :
    shapeCast S32x40960x96 (transpose S4x8x160x4x64x96 [0, 3, 1, 4, 2, 5] (shapeCast S4x160x64x8x4x96 x shapeCasts_S4x10240x32x96_S4x160x64x8x4x96) transposes_S4x160x64x8x4x96_S4x8x160x4x64x96_0_3_1_4_2_5) shapeCasts_S4x8x160x4x64x96_S32x40960x96 (ix3 n R d)
      = x (ix4 ⟨n.val / 8, by omega⟩ ⟨R.val / 256 * 64 + R.val % 64, by omega⟩ ⟨n.val % 8 * 4 + R.val / 64 % 4, by omega⟩ d) := by
  pointwise

theorem keys_at (x : Vec Ideal S4x10240x8x96 .fp8e4m3) (n : Fin 32) (key : Fin 10240) (d : Fin 96) :
    shapeCast S32x10240x96 (transpose S4x8x10240x96 [0, 2, 1, 3] x transposes_S4x10240x8x96_S4x8x10240x96_0_2_1_3) shapeCasts_S4x8x10240x96_S32x10240x96 (ix3 n key d)
      = x (ix4 ⟨n.val / 8, by omega⟩ key ⟨n.val % 8, by omega⟩ d) := by
  pointwise

variable (m : (ℓ : Loc nD τ sig) → Buf (Elt Ideal) ℓ) (c : Dev nD)

/-- The four arguments as functions of their places. -/
def qA (b : Fin 4) (r : Fin 10240) (h : Fin 32) (d : Fin 96) : EReal := (m ((c : Thread nD τ).loc main_arg0) : Vec Ideal S4x10240x32x96 .fp8e4m3) (ix4 b r h d)

@[inherit_doc qA] def wA (b : Fin 4) (h : Fin 32) : EReal := (m ((c : Thread nD τ).loc main_arg1) : FVec Ideal S4x32 .f32) (ix2 b h)

@[inherit_doc qA] def kA (b : Fin 4) (key : Fin 10240) (kv : Fin 8) (d : Fin 96) : EReal := (m ((c : Thread nD τ).loc main_arg2) : Vec Ideal S4x10240x8x96 .fp8e4m3) (ix4 b key kv d)

@[inherit_doc qA] def uA (b : Fin 4) (kv : Fin 8) : EReal := (m ((c : Thread nD τ).loc main_arg3) : FVec Ideal S4x8 .f32) (ix2 b kv)

/-- The product of the scales, of the arguments. -/
def k5 (a1 : FVec Ideal S4x32 .f32) (a3 : FVec Ideal S4x8 .f32) : FVec Ideal S4x8x4 .f32 :=
  mulf (mulf (shapeCast S4x8x4 a1 shapeCasts_S4x32_S4x8x4) (broadcastInDim S4x8x4 ![0, 1, 2] bcast_S4x8x1_S4x8x4_0_1_2 (broadcastInDim S4x8x1 ![0, 1] bcast_S4x8_S4x8x1_0_1 a3)))
    (broadcastInDim S4x8x4 ![] bcast_S_S4x8x4 (constant S_ .f32 0x3DD105EC#32))

/-- The row scales the kernel is given, of the product of the scales. -/
def k8 (x : FVec Ideal S4x8x4 .f32) : FVec Ideal S32x1x256 .f32 :=
  shapeCast S32x1x256 (broadcastInDim S32x1x4x64 ![0, 1, 2] bcast_S32x1x4_S32x1x4x64_0_1_2 (shapeCast S32x1x4 x shapeCasts_S4x8x4_S32x1x4)) shapeCasts_S32x1x4x64_S32x1x256

theorem V8_eq : V m c main_v8 = k8 (k5 (m ((c : Thread nD τ).loc main_arg1)) (m ((c : Thread nD τ).loc main_arg3))) := by
  show StableHlo.after hostOps0 (fun b => m (c, b)) (Proc.devRef .tc main_v8) = _
  after_results
  rfl

theorem S'_at (n : Fin 32) (l : Fin 256) : S' m c (ix3 n 0 l)
    = wA m c ⟨n.val / 8, by omega⟩ ⟨n.val % 8 * 4 + l.val / 64, by omega⟩ * uA m c ⟨n.val / 8, by omega⟩ ⟨n.val % 8, by omega⟩ * Ideal.ofBits .f32 0x3DD105EC#32 := by
  refine (congrFun (V8_eq m c) _).trans ((scales_at _ n l).trans ?_)
  exact score_scale_at _ _ ⟨n.val / 8, by omega⟩ ⟨n.val % 8, by omega⟩ ⟨l.val / 64, by omega⟩

theorem Q'_at (n : Fin 32) (R : Fin 40960) (d : Fin 96) : Q' m c (ix3 n R d)
    = qA m c ⟨n.val / 8, by omega⟩ ⟨R.val / 256 * 64 + R.val % 64, by omega⟩ ⟨n.val % 8 * 4 + R.val / 64 % 4, by omega⟩ d := by
  have e : Q' m c = shapeCast S32x40960x96 (transpose S4x8x160x4x64x96 [0, 3, 1, 4, 2, 5] (shapeCast S4x160x64x8x4x96 (m ((c : Thread nD τ).loc main_arg0) : Vec Ideal S4x10240x32x96 .fp8e4m3) shapeCasts_S4x10240x32x96_S4x160x64x8x4x96) transposes_S4x160x64x8x4x96_S4x8x160x4x64x96_0_3_1_4_2_5) shapeCasts_S4x8x160x4x64x96_S32x40960x96 := by
    show StableHlo.after hostOps0 (fun b => m (c, b)) (Proc.devRef .tc main_v11) = _
    after_results
    rfl
  exact (congrFun e _).trans (queries_at _ n R d)

theorem K'_at (n : Fin 32) (key : Fin 10240) (d : Fin 96) : K' m c (ix3 n key d)
    = kA m c ⟨n.val / 8, by omega⟩ key ⟨n.val % 8, by omega⟩ d := by
  have e : K' m c = shapeCast S32x10240x96 (transpose S4x8x10240x96 [0, 2, 1, 3] (m ((c : Thread nD τ).loc main_arg2) : Vec Ideal S4x10240x8x96 .fp8e4m3) transposes_S4x10240x8x96_S4x8x10240x96_0_2_1_3) shapeCasts_S4x8x10240x96_S32x10240x96 := by
    show StableHlo.after hostOps0 (fun b => m (c, b)) (Proc.devRef .tc main_v13) = _
    after_results
    rfl
  exact (congrFun e _).trans (keys_at _ n key d)

theorem gates_at (x : FVec Ideal S32x160x160 .f32) (b : Fin 4) (kv : Fin 8) (qb kb : Fin 160) :
    shapeCast S4x8x160x160 x shapeCasts_S32x160x160_S4x8x160x160 (ix4 b kv qb kb) = x (ix3 ⟨b.val * 8 + kv.val, by omega⟩ qb kb) := by
  pointwise

theorem lses_at (x : FVec Ideal S32x4x10240 .f32) (b : Fin 4) (h : Fin 32) (row : Fin 10240) :
    shapeCast S4x32x10240 x shapeCasts_S32x4x10240_S4x32x10240 (ix3 b h row) = x (ix3 ⟨b.val * 8 + h.val / 4, by omega⟩ ⟨h.val % 4, by omega⟩ row) := by
  pointwise

end Host

end Cert.KernelIdeal.Hand

end
-- ==== Proof.Score.lean ====
/-
  The kernel's results as the plain formula: what it writes for a head is the log-sum-exp of the masked scores, and the
  gates are the pooled probabilities over their sum.
-/
module

public import proofs.«01_k».proof.Proof.HostRead

@[expose] public section

set_option maxRecDepth 16384
set_option maxHeartbeats 1000000

noncomputable section

namespace Cert.EMath

open Idealize.ShloMosaic

/-- The masked score of a query row against a key row. -/
def core (q : Fin 4 → Fin 10240 → Fin 32 → Fin 96 → EReal) (w : Fin 4 → Fin 32 → EReal) (k : Fin 4 → Fin 10240 → Fin 8 → Fin 96 → EReal)
    (u : Fin 4 → Fin 8 → EReal) (b : Fin 4) (kv : Fin 8) (g : Fin 4) (row key : Fin 10240) : EReal :=
  if key.val ≤ row.val then
    (∑ d : Fin 96, k b key kv d * q b row ⟨kv.val * 4 + g.val, by omega⟩ d) * (w b ⟨kv.val * 4 + g.val, by omega⟩ * u b kv * Ideal.ofBits .f32 0x3DD105EC#32)
  else ⊥

/-- The logarithm of a probability. -/
def logp (C : Fin 4 → Fin 10240 → Fin 10240 → EReal) (g : Fin 4) (row key : Fin 10240) : EReal := C g row key - lse Finset.univ (C g row)

/-- The logarithm of the largest probability of a block of queries and a block of keys. -/
def pooled (C : Fin 4 → Fin 10240 → Fin 10240 → EReal) (qb kb : Fin 160) : EReal :=
  Finset.univ.sup fun g : Fin 4 => Finset.univ.sup fun j : Fin 64 => Finset.univ.sup fun j' : Fin 64 =>
    logp C g ⟨qb.val * 64 + j.val, by omega⟩ ⟨kb.val * 64 + j'.val, by omega⟩

theorem exp_pooled (C : Fin 4 → Fin 10240 → Fin 10240 → EReal) (qb kb : Fin 160) :
    Ideal.exp (pooled C qb kb) = Finset.univ.sup fun g : Fin 4 => Finset.univ.sup fun j : Fin 64 => Finset.univ.sup fun j' : Fin 64 =>
      Ideal.exp (logp C g ⟨qb.val * 64 + j.val, by omega⟩ ⟨kb.val * 64 + j'.val, by omega⟩) := by
  unfold pooled
  rw [exp_sup _ Finset.univ_nonempty]
  refine Finset.sup_congr rfl fun g _ => ?_
  rw [exp_sup _ Finset.univ_nonempty]
  refine Finset.sup_congr rfl fun j _ => ?_
  rw [exp_sup _ Finset.univ_nonempty]

/-- Keys whose scores are `⊥` add nothing to a log-sum-exp. -/
theorem lse_extend (f : ℕ → EReal) (N M : ℕ) (h : N ≤ M) (hf : ∀ k, N ≤ k → f k = ⊥) :
    lse (Finset.range N) f = lse Finset.univ fun k : Fin M => f k.val := by
  have hs : (Finset.range N).sup f = Finset.univ.sup fun k : Fin M => f k.val := by
    apply le_antisymm
    · refine Finset.sup_le fun k hk => ?_
      rw [Finset.mem_range] at hk
      exact Finset.le_sup (f := fun k : Fin M => f k.val) (Finset.mem_univ (⟨k, by omega⟩ : Fin M))
    · refine Finset.sup_le fun k _ => ?_
      by_cases hk : k.val < N
      · exact Finset.le_sup (Finset.mem_range.2 hk)
      · rw [hf k.val (by omega)]
        exact bot_le
  unfold lse
  rw [hs]
  congr 2
  rw [← Finset.sum_range fun k => Ideal.exp (f k - Finset.univ.sup fun k : Fin M => f k.val)]
  refine Finset.sum_subset (Finset.range_subset_range.2 h) fun k _ hk => ?_
  rw [Finset.mem_range] at hk
  rw [hf k (by omega), bot_sub, exp_bot]

theorem exp2_bot : Ideal.exp2 ⊥ = 0 := rfl

theorem mul_kap_sup (x y : EReal) : (x ⊔ y) * kap = x * kap ⊔ y * kap := mul_kap_mono.map_sup x y

end Cert.EMath

namespace Cert.KernelIdeal.Hand

open Cert.KernelIdeal Cert.KernelIdeal.Gen Cert.EMath
open Idealize.ShloMosaic Idealize.ShloMosaic.TcCoe Idealize.ShloMosaic.Tactic

variable (m : (ℓ : Loc nD τ sig) → Buf (Elt Ideal) ℓ) (c : Dev nD)

/-- The masked scores of one key/value head. -/
def CK (n : Fin 32) : Fin 4 → Fin 10240 → Fin 10240 → EReal :=
  core (qA m c) (wA m c) (kA m c) (uA m c) ⟨n.val / 8, by omega⟩ ⟨n.val % 8, by omega⟩

theorem CK_bot (n : Fin 32) (g : Fin 4) (row key : Fin 10240) (h : row.val < key.val) : CK m c n g row key = ⊥ := by
  unfold CK core
  rw [if_neg (by omega)]

theorem NT_core (n : Fin 32) (s a l key : ℕ) (hs : s < 40) (ha : a < 8) (hl : l < 128) (hk : key < 10240) (g : Fin 4) (row : Fin 10240)
    (hg : g.val = a % 2 * 2 + l / 64) (hr : row.val = s * 256 + a / 2 * 64 + l % 64) :
    NT (KF (K' m c) n.val) (QF (Q' m c) n.val s) (SF (S' m c) n.val) s a l key = CK m c n g row ⟨key, hk⟩ := by
  unfold NT CK core
  have hn := n.isLt
  rw [← hr]
  by_cases h : key ≤ row.val
  · rw [if_pos h, if_pos h]
    have eS : SF (S' m c) n.val (a % 2 * 128 + l) = wA m c ⟨n.val / 8, by omega⟩ ⟨n.val % 8 * 4 + g.val, by omega⟩ * uA m c ⟨n.val / 8, by omega⟩ ⟨n.val % 8, by omega⟩ * Ideal.ofBits .f32 0x3DD105EC#32 := by
      unfold SF
      rw [dif_pos ⟨hn, by omega⟩]
      refine (S'_at m c n ⟨a % 2 * 128 + l, by omega⟩).trans ?_
      have e : (⟨n.val % 8 * 4 + (a % 2 * 128 + l) / 64, by omega⟩ : Fin 32) = ⟨n.val % 8 * 4 + g.val, by omega⟩ := Fin.ext (by show n.val % 8 * 4 + (a % 2 * 128 + l) / 64 = n.val % 8 * 4 + g.val; omega)
      exact congrArg (fun i => wA m c ⟨n.val / 8, by omega⟩ i * uA m c ⟨n.val / 8, by omega⟩ ⟨n.val % 8, by omega⟩ * Ideal.ofBits .f32 0x3DD105EC#32) e
    have eQ : ∀ d : Fin 96, QF (Q' m c) n.val s (a / 2 * 256 + a % 2 * 128 + l) d = qA m c ⟨n.val / 8, by omega⟩ row ⟨n.val % 8 * 4 + g.val, by omega⟩ d := fun d => by
      have hR : 1024 * s + (a / 2 * 256 + a % 2 * 128 + l) < 40960 := by omega
      unfold QF
      rw [dif_pos ⟨hn, hR⟩]
      refine (Q'_at m c n ⟨1024 * s + (a / 2 * 256 + a % 2 * 128 + l), hR⟩ d).trans ?_
      have e1 : (⟨(1024 * s + (a / 2 * 256 + a % 2 * 128 + l)) / 256 * 64 + (1024 * s + (a / 2 * 256 + a % 2 * 128 + l)) % 64, by omega⟩ : Fin 10240) = row := Fin.ext (by show (1024 * s + (a / 2 * 256 + a % 2 * 128 + l)) / 256 * 64 + (1024 * s + (a / 2 * 256 + a % 2 * 128 + l)) % 64 = row.val; omega)
      have e2 : (⟨n.val % 8 * 4 + (1024 * s + (a / 2 * 256 + a % 2 * 128 + l)) / 64 % 4, by omega⟩ : Fin 32) = ⟨n.val % 8 * 4 + g.val, by omega⟩ := Fin.ext (by show n.val % 8 * 4 + (1024 * s + (a / 2 * 256 + a % 2 * 128 + l)) / 64 % 4 = n.val % 8 * 4 + g.val; omega)
      exact congrArg₂ (fun r i => qA m c ⟨n.val / 8, by omega⟩ r i d) e1 e2
    have eK : ∀ d : Fin 96, KF (K' m c) n.val key d = kA m c ⟨n.val / 8, by omega⟩ ⟨key, hk⟩ ⟨n.val % 8, by omega⟩ d := fun d => by
      unfold KF
      rw [dif_pos ⟨hn, hk⟩]
      exact K'_at m c n ⟨key, hk⟩ d
    rw [eS, Finset.sum_congr rfl fun d _ => congrArg₂ (fun x y => x * y) (eK d) (eQ d)]
  · rw [if_neg h, if_neg h]

theorem lse_core (n : Fin 32) (s a l : ℕ) (hs : s < 40) (ha : a < 8) (hl : l < 128) (g : Fin 4) (row : Fin 10240)
    (hg : g.val = a % 2 * 2 + l / 64) (hr : row.val = s * 256 + a / 2 * 64 + l % 64) :
    lse (Finset.range (256 * (s + 1))) (NT (KF (K' m c) n.val) (QF (Q' m c) n.val s) (SF (S' m c) n.val) s a l) = lse Finset.univ (CK m c n g row) := by
  rw [lse_extend _ (256 * (s + 1)) 10240 (by omega) fun k hk => ?_]
  · exact congrArg (lse Finset.univ) (funext fun key => NT_core m c n s a l key.val hs ha hl key.isLt g row hg hr)
  · unfold NT
    rw [if_neg (by omega)]

theorem LV_core (n : Fin 32) (g : Fin 4) (row : Fin 10240) :
    LV (S' m c) (Q' m c) (K' m c) n.val (row.val / 256) g.val (row.val % 256) = lse Finset.univ (CK m c n g row) - Ideal.log ((row.val + 1 : ℕ) : EReal) := by
  unfold LV Lk
  have h1 := g.isLt
  have h2 := row.isLt
  rw [mul_kap_lnt, lse_core m c n (row.val / 256) (2 * (row.val % 256 / 64) + g.val / 2) (g.val % 2 * 64 + row.val % 256 % 64) (by omega) (by omega) (by omega) g row (by omega) (by omega),
    show row.val / 256 * 256 + row.val % 256 + 1 = row.val + 1 by omega]

theorem logp_core (n : Fin 32) (r cc : Fin 160) (a l k : ℕ) (ha : a / 2 = cc.val % 4) (hl : l < 128) (hk : k < 64) (g : Fin 4) (j j' : Fin 64)
    (hg : g.val = a % 2 * 2 + l / 64) (hj : j.val = l % 64) (hj' : j'.val = k) :
    NT (KF (K' m c) n.val) (QF (Q' m c) n.val (cc.val / 4)) (SF (S' m c) n.val) (cc.val / 4) a l (64 * r.val + k)
      - lse (Finset.range (256 * (cc.val / 4 + 1))) (NT (KF (K' m c) n.val) (QF (Q' m c) n.val (cc.val / 4)) (SF (S' m c) n.val) (cc.val / 4) a l)
      = logp (CK m c n) g ⟨cc.val * 64 + j.val, by omega⟩ ⟨r.val * 64 + j'.val, by omega⟩ := by
  have hr : cc.val * 64 + j.val = cc.val / 4 * 256 + a / 2 * 64 + l % 64 := by omega
  rw [NT_core m c n (cc.val / 4) a l (64 * r.val + k) (by omega) (by omega) hl (by omega) g ⟨cc.val * 64 + j.val, by omega⟩ hg hr,
    lse_core m c n (cc.val / 4) a l (by omega) (by omega) hl g ⟨cc.val * 64 + j.val, by omega⟩ hg hr]
  unfold logp
  have e : (⟨64 * r.val + k, by omega⟩ : Fin 10240) = ⟨r.val * 64 + j'.val, by omega⟩ := Fin.ext (by show 64 * r.val + k = r.val * 64 + j'.val; omega)
  rw [e]

section Gate

variable (kf qf : ℕ → Fin 96 → EReal) (sf : ℕ → EReal) (step : ℕ)

/-- A score of one block of keys less the log-sum-exp of its row. -/
def ND (a l key : ℕ) : EReal := NT kf qf sf step a l key - lse (Finset.range (256 * (step + 1))) (NT kf qf sf step a l)

theorem BA_Lk (a kb l : ℕ) : (Finset.univ.sup fun s : Fin 8 => BA kf qf sf step a kb s.val l) - Lk kf qf sf step a l
    = (Finset.univ.sup fun s : Fin 8 => Finset.univ.sup fun i : Fin 8 => ND kf qf sf step a l (64 * kb + 8 * i.val + s.val)) * kap := by
  unfold BA Lk ND
  simp only [TA_NT, ← sup_mul_kap]
  rw [← sub_mul_kap, sup_sub]
  simp only [sup_sub]

theorem GB_ND (tile kb : ℕ) : GB kf qf sf step (Lk kf qf sf step) tile kb
    = (Finset.univ.sup fun l : Fin 128 => (Finset.univ.sup fun s : Fin 8 => Finset.univ.sup fun i : Fin 8 => ND kf qf sf step (2 * tile) l.val (64 * kb + 8 * i.val + s.val))
        ⊔ (Finset.univ.sup fun s : Fin 8 => Finset.univ.sup fun i : Fin 8 => ND kf qf sf step (2 * tile + 1) l.val (64 * kb + 8 * i.val + s.val))) * kap := by
  unfold GB
  rw [sup_mul_kap]
  refine Finset.sup_congr rfl fun l _ => ?_
  rw [BA_Lk, BA_Lk, mul_kap_sup]

end Gate

theorem GB_pooled (n : Fin 32) (r cc : Fin 160) :
    GB (KF (K' m c) n.val) (QF (Q' m c) n.val (cc.val / 4)) (SF (S' m c) n.val) (cc.val / 4) (Lk (KF (K' m c) n.val) (QF (Q' m c) n.val (cc.val / 4)) (SF (S' m c) n.val) (cc.val / 4)) (cc.val % 4) r.val
      = pooled (CK m c n) cc r * kap := by
  rw [GB_ND]
  congr 1
  have hN : ∀ (a l k : ℕ) (ha : a / 2 = cc.val % 4) (hl : l < 128) (hk : k < 64) (g : Fin 4) (j j' : Fin 64)
      (hg : g.val = a % 2 * 2 + l / 64) (hj : j.val = l % 64) (hj' : j'.val = k),
      ND (KF (K' m c) n.val) (QF (Q' m c) n.val (cc.val / 4)) (SF (S' m c) n.val) (cc.val / 4) a l (64 * r.val + k)
        = logp (CK m c n) g ⟨cc.val * 64 + j.val, by omega⟩ ⟨r.val * 64 + j'.val, by omega⟩ := fun a l k ha hl hk g j j' hg hj hj' =>
    logp_core m c n r cc a l k ha hl hk g j j' hg hj hj'
  have hle : ∀ (a : ℕ) (l : Fin 128) (s i : Fin 8), a / 2 = cc.val % 4 →
      ND (KF (K' m c) n.val) (QF (Q' m c) n.val (cc.val / 4)) (SF (S' m c) n.val) (cc.val / 4) a l.val (64 * r.val + 8 * i.val + s.val) ≤ pooled (CK m c n) cc r := fun a l s i ha => by
    rw [show 64 * r.val + 8 * i.val + s.val = 64 * r.val + (8 * i.val + s.val) by omega,
      hN a l.val (8 * i.val + s.val) ha l.isLt (by omega) ⟨a % 2 * 2 + l.val / 64, by omega⟩ ⟨l.val % 64, by omega⟩ ⟨8 * i.val + s.val, by omega⟩ rfl rfl rfl]
    unfold pooled
    refine le_trans ?_ (Finset.le_sup (Finset.mem_univ (⟨a % 2 * 2 + l.val / 64, by omega⟩ : Fin 4)))
    refine le_trans ?_ (Finset.le_sup (Finset.mem_univ (⟨l.val % 64, by omega⟩ : Fin 64)))
    exact Finset.le_sup (f := fun j' : Fin 64 => logp (CK m c n) ⟨a % 2 * 2 + l.val / 64, by omega⟩ ⟨cc.val * 64 + l.val % 64, by omega⟩ ⟨r.val * 64 + j'.val, by omega⟩) (Finset.mem_univ (⟨8 * i.val + s.val, by omega⟩ : Fin 64))
  apply le_antisymm
  · refine Finset.sup_le fun l _ => sup_le ?_ ?_
    · exact Finset.sup_le fun s _ => Finset.sup_le fun i _ => hle _ l s i (by omega)
    · exact Finset.sup_le fun s _ => Finset.sup_le fun i _ => hle _ l s i (by omega)
  · refine Finset.sup_le fun g _ => Finset.sup_le fun j _ => Finset.sup_le fun j' _ => ?_
    refine le_trans ?_ (Finset.le_sup (Finset.mem_univ (⟨g.val % 2 * 64 + j.val, by omega⟩ : Fin 128)))
    have hj' : 64 * r.val + 8 * (j'.val / 8) + j'.val % 8 = 64 * r.val + j'.val := by omega
    by_cases hg : g.val < 2
    · refine le_trans ?_ le_sup_left
      rw [← hN (2 * (cc.val % 4)) (g.val % 2 * 64 + j.val) j'.val (by omega) (by omega) (by omega) g j j' (by omega) (by omega) rfl, ← hj']
      refine le_trans ?_ (Finset.le_sup (Finset.mem_univ (⟨j'.val % 8, by omega⟩ : Fin 8)))
      exact Finset.le_sup (f := fun i : Fin 8 => ND (KF (K' m c) n.val) (QF (Q' m c) n.val (cc.val / 4)) (SF (S' m c) n.val) (cc.val / 4) (2 * (cc.val % 4)) (g.val % 2 * 64 + j.val) (64 * r.val + 8 * i.val + j'.val % 8)) (Finset.mem_univ (⟨j'.val / 8, by omega⟩ : Fin 8))
    · refine le_trans ?_ le_sup_right
      rw [← hN (2 * (cc.val % 4) + 1) (g.val % 2 * 64 + j.val) j'.val (by omega) (by omega) (by omega) g j j' (by omega) (by omega) rfl, ← hj']
      refine le_trans ?_ (Finset.le_sup (Finset.mem_univ (⟨j'.val % 8, by omega⟩ : Fin 8)))
      exact Finset.le_sup (f := fun i : Fin 8 => ND (KF (K' m c) n.val) (QF (Q' m c) n.val (cc.val / 4)) (SF (S' m c) n.val) (cc.val / 4) (2 * (cc.val % 4) + 1) (g.val % 2 * 64 + j.val) (64 * r.val + 8 * i.val + j'.val % 8)) (Finset.mem_univ (⟨j'.val / 8, by omega⟩ : Fin 8))

theorem pooled_bot (n : Fin 32) (r cc : Fin 160) (h : cc.val < r.val) : pooled (CK m c n) cc r = ⊥ := by
  refine le_antisymm ?_ bot_le
  refine Finset.sup_le fun g _ => Finset.sup_le fun j _ => Finset.sup_le fun j' _ => ?_
  unfold logp
  rw [CK_bot m c n g _ _ (show cc.val * 64 + j.val < r.val * 64 + j'.val by omega), bot_sub]

theorem GT_pooled (n : Fin 32) (r cc : Fin 160) :
    Ideal.exp2 (GT (S' m c) (Q' m c) (K' m c) n.val 40 ⟨r.val, by omega⟩ ⟨cc.val, by omega⟩) = Ideal.exp (pooled (CK m c n) cc r) := by
  unfold GT
  by_cases h : r.val ≤ cc.val
  · rw [if_pos ⟨h, show cc.val / 4 < 40 by omega⟩]
    show Ideal.exp2 (GB (KF (K' m c) n.val) (QF (Q' m c) n.val (cc.val / 4)) (SF (S' m c) n.val) (cc.val / 4) (Lk (KF (K' m c) n.val) (QF (Q' m c) n.val (cc.val / 4)) (SF (S' m c) n.val) (cc.val / 4)) (cc.val % 4) r.val) = _
    rw [GB_pooled, exp2_mul_kap]
  · rw [if_neg fun h' => h h'.1, pooled_bot m c n r cc (by omega), exp2_bot, exp_bot]

theorem gate_pooled (n : Fin 32) (qb kb : Fin 160) :
    gateOf (fun r cc => GT (S' m c) (Q' m c) (K' m c) n.val 40 r cc) qb kb
      = Ideal.div (Ideal.exp (pooled (CK m c n) qb kb)) (∑ j : Fin 160, Ideal.exp (pooled (CK m c n) qb j)) := by
  unfold gateOf
  have e : ∑ j : Fin 256, Ideal.exp2 (GT (S' m c) (Q' m c) (K' m c) n.val 40 j ⟨qb.val, by omega⟩) = ∑ j : Fin 160, Ideal.exp (pooled (CK m c n) qb j) := by
    refine (Fin.sum_univ_add (a := 160) (b := 96) (fun j : Fin (160 + 96) => Ideal.exp2 (GT (S' m c) (Q' m c) (K' m c) n.val 40 j ⟨qb.val, by omega⟩))).trans ?_
    have h0 : ∑ j : Fin 96, Ideal.exp2 (GT (S' m c) (Q' m c) (K' m c) n.val 40 (Fin.natAdd 160 j) ⟨qb.val, by omega⟩) = 0 := by
      refine Finset.sum_eq_zero fun j _ => ?_
      unfold GT
      rw [if_neg fun h => ?_]
      · exact exp2_bot
      · have h1 : 160 + j.val ≤ qb.val := h.1
        have := qb.isLt
        omega
    rw [h0, add_zero]
    exact Finset.sum_congr rfl fun j _ => GT_pooled m c n j qb
  exact congrArg₂ Ideal.div (GT_pooled m c n kb qb) e

end Cert.KernelIdeal.Hand

end
-- ==== Proof.Equal.lean ====
/-
  The two programs write the same arrays.
-/
module

public import proofs.«01_k».proof.Proof.Run
public import proofs.«01_k».proof.Proof.RefVal
public import proofs.«01_k».proof.Proof.Score

@[expose] public section

set_option maxRecDepth 16384
set_option maxHeartbeats 1000000

noncomputable section

namespace Cert.ReferenceIdeal.Hand

open Cert.EMath Cert.ReferenceIdeal
open Idealize.ShloMosaic Idealize.ShloMosaic.TcCoe Idealize.ShloMosaic.Tactic

/-- The reference's masked scores, of its arguments. -/
theorem r19_core (a0 : FVec Ideal S4x10240x32x96 .f32) (a1 : FVec Ideal S4x32 .f32) (a2 : FVec Ideal S4x10240x8x96 .f32) (a3 : FVec Ideal S4x8 .f32)
    (b : Fin 4) (kv : Fin 8) (g : Fin 4) (row key : Fin 10240) : r19 a0 a1 a2 a3 (ix5 b kv g row key)
      = core (fun b r h d => a0 (ix4 b r h d)) (fun b h => a1 (ix2 b h)) (fun b r kv d => a2 (ix4 b r kv d)) (fun b kv => a3 (ix2 b kv)) b kv g row key := by
  rw [r19_at, r12_at, r5_at]
  rfl

section Results

variable (s : FVec Ideal S4x8x4x10240x10240 .f32) (C : Fin 4 → Fin 8 → Fin 4 → Fin 10240 → Fin 10240 → EReal)
  (hs : ∀ b kv g row key, s (ix5 b kv g row key) = C b kv g row key)

include hs

theorem r28_core (b : Fin 4) (kv : Fin 8) (g : Fin 4) (row : Fin 10240) : r28 s (ix5 b kv g row 0) = lse Finset.univ (C b kv g row) := by
  rw [r28_at]
  exact congrArg (lse Finset.univ) (funext fun key => hs b kv g row key)

theorem r35_core (b : Fin 4) (kv : Fin 8) (qb kb : Fin 160) : r35 s (ix4 b kv qb kb) = Ideal.exp (pooled (C b kv) qb kb) := by
  rw [r35_at, exp_pooled]
  refine Finset.sup_congr rfl fun g _ => Finset.sup_congr rfl fun j _ => ?_
  rw [r33_at]
  refine Finset.sup_congr rfl fun j' _ => ?_
  rw [r31_at, r28_core s C hs, hs]
  rfl

theorem r39_core (b : Fin 4) (kv : Fin 8) (qb kb : Fin 160) : r39 s (ix4 b kv qb kb)
    = Ideal.div (Ideal.exp (pooled (C b kv) qb kb)) (∑ j : Fin 160, Ideal.exp (pooled (C b kv) qb j)) := by
  rw [r39_at, r35_core s C hs, Finset.sum_congr rfl fun j _ => r35_core s C hs b kv qb j]

theorem r47_core (b : Fin 4) (h : Fin 32) (row : Fin 10240) : r47 s (ix3 b h row)
    = lse Finset.univ (C b ⟨h.val / 4, by omega⟩ ⟨h.val % 4, by omega⟩ row) - Ideal.log ((row.val + 1 : ℕ) : EReal) := by
  rw [r47_at, r28_core s C hs]

end Results

end Cert.ReferenceIdeal.Hand

namespace Cert.KernelIdeal.Hand

open Cert.KernelIdeal Cert.KernelIdeal.Gen Cert.EMath
open Idealize.ShloMosaic Idealize.ShloMosaic.TcCoe Idealize.ShloMosaic.Tactic

variable (m : (ℓ : Loc nD τ sig) → Buf (Elt Ideal) ℓ) (c : Dev nD)

/-- The masked scores, of the arguments. -/
def CA (b : Fin 4) (kv : Fin 8) : Fin 4 → Fin 10240 → Fin 10240 → EReal := core (qA m c) (wA m c) (kA m c) (uA m c) b kv

theorem CK_CA (b : Fin 4) (kv : Fin 8) (n : Fin 32) (h : n.val = b.val * 8 + kv.val) : CK m c n = CA m c b kv := by
  unfold CK CA
  rw [show (⟨n.val / 8, by omega⟩ : Fin 4) = b from Fin.ext (by show n.val / 8 = b.val; omega),
    show (⟨n.val % 8, by omega⟩ : Fin 8) = kv from Fin.ext (by show n.val % 8 = kv.val; omega)]

theorem gates_val (b : Fin 4) (kv : Fin 8) (qb kb : Fin 160) :
    shapeCast S4x8x160x160 (G3 m c) shapeCasts_S32x160x160_S4x8x160x160 (ix4 b kv qb kb)
      = Ideal.div (Ideal.exp (pooled (CA m c b kv) qb kb)) (∑ j : Fin 160, Ideal.exp (pooled (CA m c b kv) qb j)) := by
  refine (gates_at _ b kv qb kb).trans ?_
  rw [← CK_CA m c b kv ⟨b.val * 8 + kv.val, by omega⟩ rfl]
  exact gate_pooled m c ⟨b.val * 8 + kv.val, by omega⟩ qb kb

theorem lses_val (b : Fin 4) (h : Fin 32) (row : Fin 10240) :
    shapeCast S4x32x10240 (G4 m c) shapeCasts_S32x4x10240_S4x32x10240 (ix3 b h row)
      = lse Finset.univ (CA m c b ⟨h.val / 4, by omega⟩ ⟨h.val % 4, by omega⟩ row) - Ideal.log ((row.val + 1 : ℕ) : EReal) := by
  refine (lses_at _ b h row).trans ?_
  rw [← CK_CA m c b ⟨h.val / 4, by omega⟩ ⟨b.val * 8 + h.val / 4, by omega⟩ rfl]
  exact LV_core m c ⟨b.val * 8 + h.val / 4, by omega⟩ ⟨h.val % 4, by omega⟩ row

end Cert.KernelIdeal.Hand

namespace Cert.Proof

open Idealize.ShloMosaic Idealize.SL.Sem

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h0 h1 h2 h3

theorem scores_agree (b : Fin 4) (kv : Fin 8) (g : Fin 4) (row key : Fin 10240) :
    Cert.ReferenceIdeal.Hand.sc m' c (ix5 b kv g row key) = Cert.KernelIdeal.Hand.CA m c b kv g row key := by
  unfold Cert.ReferenceIdeal.Hand.sc
  rw [Cert.ReferenceIdeal.Hand.r19_core]
  unfold Cert.KernelIdeal.Hand.CA Cert.KernelIdeal.Hand.qA Cert.KernelIdeal.Hand.wA Cert.KernelIdeal.Hand.kA Cert.KernelIdeal.Hand.uA
  rw [← h0, ← h1, ← h2, ← h3]

theorem gates_agree : Cert.ReferenceIdeal.Hand.r39 (Cert.ReferenceIdeal.Hand.sc m' c)
    = shapeCast Cert.KernelIdeal.S4x8x160x160 (Cert.KernelIdeal.Hand.G3 m c) Cert.KernelIdeal.Gen.facts.shapeCasts_S32x160x160_S4x8x160x160 := by
  funext y
  rw [eq_ix4 y]
  exact (Cert.ReferenceIdeal.Hand.r39_core _ _ (scores_agree m m' c h0 h1 h2 h3) (y 0) (y 1) (y 2) (y 3)).trans
    (Cert.KernelIdeal.Hand.gates_val m c (y 0) (y 1) (y 2) (y 3)).symm

theorem lses_agree : Cert.ReferenceIdeal.Hand.r47 (Cert.ReferenceIdeal.Hand.sc m' c)
    = shapeCast Cert.KernelIdeal.S4x32x10240 (Cert.KernelIdeal.Hand.G4 m c) Cert.KernelIdeal.Gen.facts.shapeCasts_S32x4x10240_S4x32x10240 := by
  funext y
  rw [eq_ix3 y]
  exact (Cert.ReferenceIdeal.Hand.r47_core _ _ (scores_agree m m' c h0 h1 h2 h3) (y 0) (y 1) (y 2)).trans
    (Cert.KernelIdeal.Hand.lses_val m c (y 0) (y 1) (y 2)).symm

end Agree

end Cert.Proof

end
-- ==== Proof.lean ====
/-
  The claims, put together: the three frames, the ledger of the named constants, and the equality of the two results.
-/
module

public import proofs.«01_k».proof.Defs
public import proofs.«01_k».proof.Proof.KFrame
public import proofs.«01_k».proof.Proof.KIFrame
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.SL.Sem

/-- The two named constants, each at the printed bits within its rule's statement. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

/-- On equal arguments the kernel and the reference write the same two arrays. -/
theorem algebraic : Cert.algebraic_KernelIdeal_ReferenceIdeal := fun m g m' g' _ hag =>
  ⟨fun c => shapeCast Cert.KernelIdeal.S4x8x160x160 (Cert.KernelIdeal.Hand.G3 m c) Cert.KernelIdeal.Gen.facts.shapeCasts_S32x160x160_S4x8x160x160,
    fun c => shapeCast Cert.KernelIdeal.S4x32x10240 (Cert.KernelIdeal.Hand.G4 m c) Cert.KernelIdeal.Gen.facts.shapeCasts_S32x4x10240_S4x32x10240,
    Cert.KernelIdeal.Hand.run m g,
    (θ_run _ _ _).mono (fun r h c => ⟨(h c).1.trans (gates_agree m m' c (hag c).1 (hag c).2.1 (hag c).2.2.1 (hag c).2.2.2),
      (h c).2.1.trans (lses_agree m m' c (hag c).1 (hag c).2.1 (hag c).2.2.1 (hag c).2.2.2), (h c).2.2⟩) (Cert.ReferenceIdeal.Hand.run m' g')⟩

theorem claim : Cert.Claim := ⟨Cert.Kernel.Gen.facts, Cert.KernelIdeal.Gen.facts, Cert.ReferenceIdeal.Gen.facts,
  fun m g _ => Cert.Kernel.Hand.frame m g,
  fun m g _ => Cert.KernelIdeal.FrameProof.frame m g,
  fun m g _ => Cert.ReferenceIdeal.Gen.frame m g,
  preserves, algebraic⟩

end Cert.Proof

end
